-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "inv_96" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v145_0)) (v1 : (c : Dev Cert.Kernel3Ideal.nD) → Buf (Elt Ideal) ((c.tc : Thread Cert.Kernel3Ideal.nD Cert.Kernel3Ideal.τ).loc Cert.Kernel3Ideal.main_v145_1)) (v2 : (c : Dev Cert.Kernel3Ideal.nD) → Buf (Elt Ideal) ((c.tc : Thread Cert.Kernel3Ideal.nD Cert.Kernel3Ideal.τ).loc Cert.Kernel3Ideal.main_v145_2)) (v3 : (c : Dev Cert.Kernel3Ideal.nD) → Buf (Elt Ideal) ((c.tc : Thread Cert.Kernel3Ideal.nD Cert.Kernel3Ideal.τ).loc Cert.Kernel3Ideal.main_v145_3)) (v4 : (c : Dev Cert.Kernel3Ideal.nD) → Buf (Elt Ideal) ((c.tc : Thread Cert.Kernel3Ideal.nD Cert.Kernel3Ideal.τ).loc Cert.Kernel3Ideal.main_v145_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v145_0) = v0 c
          ∧ r.2.mem ((c.tc : Thread Cert.Kernel3Ideal.nD Cert.Kernel3Ideal.τ).loc Cert.Kernel3Ideal.main_v145_1) = v1 c
          ∧ r.2.mem ((c.tc : Thread Cert.Kernel3Ideal.nD Cert.Kernel3Ideal.τ).loc Cert.Kernel3Ideal.main_v145_2) = v2 c
          ∧ r.2.mem ((c.tc : Thread Cert.Kernel3Ideal.nD Cert.Kernel3Ideal.τ).loc Cert.Kernel3Ideal.main_v145_3) = v3 c
          ∧ r.2.mem ((c.tc : Thread Cert.Kernel3Ideal.nD Cert.Kernel3Ideal.τ).loc Cert.Kernel3Ideal.main_v145_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v176) = v0 c
          ∧ r.2.mem ((c.tc : Thread Cert.Reference3Ideal.nD Cert.Reference3Ideal.τ).loc Cert.Reference3Ideal.main_v167) = v1 c
          ∧ r.2.mem ((c.tc : Thread Cert.Reference3Ideal.nD Cert.Reference3Ideal.τ).loc Cert.Reference3Ideal.main_v177) = v2 c
          ∧ r.2.mem ((c.tc : Thread Cert.Reference3Ideal.nD Cert.Reference3Ideal.τ).loc Cert.Reference3Ideal.main_v178) = v3 c
          ∧ r.2.mem ((c.tc : Thread Cert.Reference3Ideal.nD Cert.Reference3Ideal.τ).loc Cert.Reference3Ideal.main_v179) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qk.lean ====
abbrev S16x4096x8x96 : Shape := ⟨4, ![16, 4096, 8, 96]⟩
abbrev S16x4096x8x64 : Shape := ⟨4, ![16, 4096, 8, 64]⟩
abbrev S_ : Shape := ⟨0, ![]⟩

class Facts : Prop where
  bcast_S_S16x4096x8x96 : S_.BroadcastsInDim S16x4096x8x96 (![] : Fin 0 → Fin S16x4096x8x96.rank)

variable [Facts]

def fn {F : FTy → Type} [FloatOps F] (main_arg0 : FVec F S16x4096x8x96 .f32) (main_arg1 : FVec F S16x4096x8x96 .f32) (main_arg2 : FVec F S16x4096x8x64 .f32) : IVec S16x4096x8x96 1 :=
  let main_v0 : FVec F S16x4096x8x96 .f32 := Host.absf main_arg0
  let main_cst : FVec F S_ .f32 := constant S_ .f32 0x7F800000#32
  let main_v1 : FVec F S16x4096x8x96 .f32 := broadcastInDim S16x4096x8x96 ![] bcast_S_S16x4096x8x96 main_cst
  let main_v2 : IVec S16x4096x8x96 1 := cmpf .olt main_v0 main_v1
  let main_v3 : FVec F S16x4096x8x96 .f32 := Host.absf main_arg1
  let main_cst_0 : FVec F S_ .f32 := constant S_ .f32 0x7F800000#32
  let main_v4 : FVec F S16x4096x8x96 .f32 := broadcastInDim S16x4096x8x96 ![] bcast_S_S16x4096x8x96 main_cst_0
  let main_v5 : IVec S16x4096x8x96 1 := cmpf .olt main_v3 main_v4
  let main_v6 : IVec S16x4096x8x96 1 := andi main_v2 main_v5
  main_v6
-- ==== Kernel.lean ====
abbrev S16x4096x8x96 : Shape := ⟨4, ![16, 4096, 8, 96]⟩
abbrev S16x4096x8x64 : Shape := ⟨4, ![16, 4096, 8, 64]⟩
abbrev S_ : Shape := ⟨0, ![]⟩
abbrev S16x4096x8x128 : Shape := ⟨4, ![16, 4096, 8, 128]⟩
abbrev S16x8x128x4096 : Shape := ⟨4, ![16, 8, 128, 4096]⟩
abbrev S16x8x4096x128 : Shape := ⟨4, ![16, 8, 4096, 128]⟩
abbrev S16x8x512x8x64 : Shape := ⟨5, ![16, 8, 512, 8, 64]⟩
abbrev S16x8x8x64x512 : Shape := ⟨5, ![16, 8, 8, 64, 512]⟩
abbrev S16x512x4096 : Shape := ⟨3, ![16, 512, 4096]⟩
abbrev S1x1x128x1024 : Shape := ⟨4, ![1, 1, 128, 1024]⟩
abbrev S1x1x4096x128 : Shape := ⟨4, ![1, 1, 4096, 128]⟩
abbrev S1x1x8x64x512 : Shape := ⟨5, ![1, 1, 8, 64, 512]⟩
abbrev S1x64x1024 : Shape := ⟨3, ![1, 64, 1024]⟩
abbrev S2x4096x512 : Shape := ⟨3, ![2, 4096, 512]⟩
abbrev S2x1x512 : Shape := ⟨3, ![2, 1, 512]⟩
abbrev S2x64x512 : Shape := ⟨3, ![2, 64, 512]⟩
abbrev S1x1x128x512 : Shape := ⟨4, ![1, 1, 128, 512]⟩
abbrev S128x512 : Shape := ⟨2, ![128, 512]⟩
abbrev S1x1x512 : Shape := ⟨3, ![1, 1, 512]⟩
abbrev S1x512 : Shape := ⟨2, ![1, 512]⟩
abbrev S64x512 : Shape := ⟨2, ![64, 512]⟩
abbrev S1x64x512 : Shape := ⟨3, ![1, 64, 512]⟩
abbrev S8x512 : Shape := ⟨2, ![8, 512]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S32x8x512 : Shape := ⟨3, ![32, 8, 512]⟩
abbrev S1x1x1x64x256 : Shape := ⟨5, ![1, 1, 1, 64, 256]⟩
abbrev S64x256 : Shape := ⟨2, ![64, 256]⟩
abbrev S512 : Shape := ⟨1, ![512]⟩

abbrev nBuf : Space → Nat
  | .hbm => 23
  | .vmem => 13
  | .smem => 0
  | _ => 0

abbrev bufTy : (tb : Table) → Fin (tcTables nBuf tb) → BufTy
  | .hbm, ⟨0, _⟩ => ⟨S16x4096x8x96, .f32⟩
  | .hbm, ⟨1, _⟩ => ⟨S16x4096x8x96, .f32⟩
  | .hbm, ⟨2, _⟩ => ⟨S16x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4096x8x96, .f32⟩
  | .hbm, ⟨8, _⟩ => ⟨S16x4096x8x96, .f32⟩
  | .hbm, ⟨9, _⟩ => ⟨S_, .i32⟩
  | .hbm, ⟨10, _⟩ => ⟨S_, .f32⟩
  | .hbm, ⟨11, _⟩ => ⟨S16x4096x8x128, .f32⟩
  | .hbm, ⟨12, _⟩ => ⟨S16x8x128x4096, .f32⟩
  | .hbm, ⟨13, _⟩ => ⟨S16x8x128x4096, .bf16⟩
  | .hbm, ⟨14, _⟩ => ⟨S_, .i32⟩
  | .hbm, ⟨15, _⟩ => ⟨S_, .f32⟩
  | .hbm, ⟨16, _⟩ => ⟨S16x4096x8x128, .f32⟩
  | .hbm, ⟨17, _⟩ => ⟨S16x8x4096x128, .f32⟩
  | .hbm, ⟨18, _⟩ => ⟨S16x8x4096x128, .bf16⟩
  | .hbm, ⟨19, _⟩ => ⟨S16x8x512x8x64, .f32⟩
  | .hbm, ⟨20, _⟩ => ⟨S16x8x8x64x512, .f32⟩
  | .hbm, ⟨21, _⟩ => ⟨S16x8x8x64x512, .bf16⟩
  | .hbm, ⟨22, _⟩ => ⟨S16x512x4096, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x8x64x512, .bf16⟩
  | .local _ .vmem, ⟨5, _⟩ => ⟨S1x1x8x64x512, .bf16⟩
  | .local _ .vmem, ⟨6, _⟩ => ⟨S1x64x1024, .bf16⟩
  | .local _ .vmem, ⟨7, _⟩ => ⟨S1x64x1024, .bf16⟩
  | .local _ .vmem, ⟨8, _⟩ => ⟨S2x4096x512, .f32⟩
  | .local _ .vmem, ⟨9, _⟩ => ⟨S2x4096x512, .f32⟩
  | .local _ .vmem, ⟨10, _⟩ => ⟨S2x1x512, .f32⟩
  | .local _ .vmem, ⟨11, _⟩ => ⟨S2x1x512, .f32⟩
  | .local _ .vmem, ⟨12, _⟩ => ⟨S2x64x512, .f32⟩
  | _, _ => ⟨S16x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 4 → Nat :=
  let arg0 : BitVec 32 := BitVec.ofNat 32 (i 0).val
  let c511_i32 : BitVec 32 := 511#32
  let v0 : BitVec 32 := Scalar.minsi arg0 c511_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v0 c4_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v0 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let c0_i32_10 : BitVec 32 := 0#32
  let v35 : BitVec 1 := Scalar.cmpi .eq c8_i32 c0_i32_10
  let c1_i32_11 : BitVec 32 := 1#32
  let v36 : BitVec 32 := Scalar.select v35 c1_i32_11 c8_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c4_i32_15 : BitVec 32 := 4#32
  let c0_i32_16 : BitVec 32 := 0#32
  let v45 : BitVec 1 := Scalar.cmpi .eq c4_i32_15 c0_i32_16
  let c1_i32_17 : BitVec 32 := 1#32
  let v46 : BitVec 32 := Scalar.select v45 c1_i32_17 c4_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  ![v17.toNat, v44.toNat, c0_i32_21.toNat, v54.toNat]

def cc0_transform_1 (i : grid0.Coords) : Fin 4 → Nat :=
  let arg0 : BitVec 32 := BitVec.ofNat 32 (i 0).val
  let c511_i32 : BitVec 32 := 511#32
  let v0 : BitVec 32 := Scalar.minsi arg0 c511_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.divsi v0 c4_i32
  let c0_i32_4 : BitVec 32 := 0#32
  let v19 : BitVec 1 := Scalar.cmpi .sgt v0 c0_i32_4
  let v20 : BitVec 32 := Scalar.extui v19
  let c0_i32_5 : BitVec 32 := 0#32
  let v21 : BitVec 1 := Scalar.cmpi .slt v0 c0_i32_5
  let v22 : BitVec 32 := Scalar.extui v21
  let v23 : BitVec 32 := Scalar.subi v20 v22
  let c0_i32_6 : BitVec 32 := 0#32
  let v24 : BitVec 1 := Scalar.cmpi .sgt c4_i32 c0_i32_6
  let v25 : BitVec 32 := Scalar.extui v24
  let c0_i32_7 : BitVec 32 := 0#32
  let v26 : BitVec 1 := Scalar.cmpi .slt c4_i32 c0_i32_7
  let v27 : BitVec 32 := Scalar.extui v26
  let v28 : BitVec 32 := Scalar.subi v25 v27
  let v29 : BitVec 1 := Scalar.cmpi .ne v23 v28
  let v30 : BitVec 32 := Scalar.remsi v0 c4_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32 : BitVec 32 := 8#32
  let c0_i32_10 : BitVec 32 := 0#32
  let v35 : BitVec 1 := Scalar.cmpi .eq c8_i32 c0_i32_10
  let c1_i32_11 : BitVec 32 := 1#32
  let v36 : BitVec 32 := Scalar.select v35 c1_i32_11 c8_i32
  let v37 : BitVec 32 := Scalar.remsi v34 v36
  let c0_i32_12 : BitVec 32 := 0#32
  let v38 : BitVec 1 := Scalar.cmpi .ne v37 c0_i32_12
  let c0_i32_13 : BitVec 32 := 0#32
  let v39 : BitVec 1 := Scalar.cmpi .slt v37 c0_i32_13
  let c0_i32_14 : BitVec 32 := 0#32
  let v40 : BitVec 1 := Scalar.cmpi .slt v36 c0_i32_14
  let v41 : BitVec 1 := Scalar.xori v39 v40
  let v42 : BitVec 1 := Scalar.andi v41 v38
  let v43 : BitVec 32 := Scalar.addi v37 v36
  let v44 : BitVec 32 := Scalar.select v42 v43 v37
  let c4_i32_15 : BitVec 32 := 4#32
  let c0_i32_16 : BitVec 32 := 0#32
  let v45 : BitVec 1 := Scalar.cmpi .eq c4_i32_15 c0_i32_16
  let c1_i32_17 : BitVec 32 := 1#32
  let v46 : BitVec 32 := Scalar.select v45 c1_i32_17 c4_i32_15
  let v47 : BitVec 32 := Scalar.remsi v0 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c0_i32_21 : BitVec 32 := 0#32
  let c0_i32_22 : BitVec 32 := 0#32
  let c0_i32_23 : BitVec 32 := 0#32
  ![v17.toNat, v44.toNat, c0_i32_21.toNat, c0_i32_22.toNat]

def cc0_transform_2 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32 : BitVec 32 := 8#32
  let c0_i32_12 : BitVec 32 := 0#32
  let v36 : BitVec 1 := Scalar.cmpi .eq c8_i32 c0_i32_12
  let c1_i32_13 : BitVec 32 := 1#32
  let v37 : BitVec 32 := Scalar.select v36 c1_i32_13 c8_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  let c0_i32_24 : BitVec 32 := 0#32
  let c0_i32_25 : BitVec 32 := 0#32
  let c0_i32_26 : BitVec 32 := 0#32
  ![v18.toNat, v45.toNat, c0_i32_23.toNat, c0_i32_24.toNat, c0_i32_25.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let v19 : BitVec 32 := Scalar.divsi v1 c4_i32
  let c0_i32_6 : BitVec 32 := 0#32
  let v20 : BitVec 1 := Scalar.cmpi .sgt v1 c0_i32_6
  let v21 : BitVec 32 := Scalar.extui v20
  let c0_i32_7 : BitVec 32 := 0#32
  let v22 : BitVec 1 := Scalar.cmpi .slt v1 c0_i32_7
  let v23 : BitVec 32 := Scalar.extui v22
  let v24 : BitVec 32 := Scalar.subi v21 v23
  let c0_i32_8 : BitVec 32 := 0#32
  let v25 : BitVec 1 := Scalar.cmpi .sgt c4_i32 c0_i32_8
  let v26 : BitVec 32 := Scalar.extui v25
  let c0_i32_9 : BitVec 32 := 0#32
  let v27 : BitVec 1 := Scalar.cmpi .slt c4_i32 c0_i32_9
  let v28 : BitVec 32 := Scalar.extui v27
  let v29 : BitVec 32 := Scalar.subi v26 v28
  let v30 : BitVec 1 := Scalar.cmpi .ne v24 v29
  let v31 : BitVec 32 := Scalar.remsi v1 c4_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32 : BitVec 32 := 8#32
  let c0_i32_12 : BitVec 32 := 0#32
  let v36 : BitVec 1 := Scalar.cmpi .eq c8_i32 c0_i32_12
  let c1_i32_13 : BitVec 32 := 1#32
  let v37 : BitVec 32 := Scalar.select v36 c1_i32_13 c8_i32
  let v38 : BitVec 32 := Scalar.remsi v35 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v45.toNat, v55.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x4096x8x96 : Shape := ⟨4, ![16, 4096, 8, 96]⟩
abbrev S16x4096x8x64 : Shape := ⟨4, ![16, 4096, 8, 64]⟩
abbrev S16x8x4096x4096 : Shape := ⟨4, ![16, 8, 4096, 4096]⟩
abbrev S_ : Shape := ⟨0, ![]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x512 : Shape := ⟨3, ![16, 4096, 512]⟩
abbrev S16x512x4096 : Shape := ⟨3, ![16, 512, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x8x96, .f32⟩
  | .hbm, ⟨1, _⟩ => ⟨S16x4096x8x96, .f32⟩
  | .hbm, ⟨2, _⟩ => ⟨S16x4096x8x64, .f32⟩
  | .hbm, ⟨3, _⟩ => ⟨S16x8x4096x4096, .f32⟩
  | .hbm, ⟨4, _⟩ => ⟨S_, .f32⟩
  | .hbm, ⟨5, _⟩ => ⟨S16x8x4096x4096, .f32⟩
  | .hbm, ⟨6, _⟩ => ⟨S16x8x4096x4096, .f32⟩
  | .hbm, ⟨7, _⟩ => ⟨S_, .f32⟩
  | .hbm, ⟨8, _⟩ => ⟨S16x8x4096, .f32⟩
  | .hbm, ⟨9, _⟩ => ⟨S_, .f32⟩
  | .hbm, ⟨10, _⟩ => ⟨S16x8x4096, .f32⟩
  | .hbm, ⟨11, _⟩ => ⟨S16x8x4096, .f32⟩
  | .hbm, ⟨12, _⟩ => ⟨S16x8x4096x1, .f32⟩
  | .hbm, ⟨13, _⟩ => ⟨S16x8x4096x4096, .f32⟩
  | .hbm, ⟨14, _⟩ => ⟨S16x8x4096x4096, .f32⟩
  | .hbm, ⟨15, _⟩ => ⟨S16x8x4096x4096, .f32⟩
  | .hbm, ⟨16, _⟩ => ⟨S_, .f32⟩
  | .hbm, ⟨17, _⟩ => ⟨S16x8x4096, .f32⟩
  | .hbm, ⟨18, _⟩ => ⟨S16x8x4096x1, .f32⟩
  | .hbm, ⟨19, _⟩ => ⟨S16x8x4096x4096, .f32⟩
  | .hbm, ⟨20, _⟩ => ⟨S16x8x4096x4096, .f32⟩
  | .hbm, ⟨21, _⟩ => ⟨S16x8x64x4096, .f32⟩
  | .hbm, ⟨22, _⟩ => ⟨S16x4096x8x64, .f32⟩
  | .hbm, ⟨23, _⟩ => ⟨S16x4096x512, .f32⟩
  | .hbm, ⟨24, _⟩ => ⟨S16x512x4096, .f32⟩
  | .hbm, ⟨25, _⟩ => ⟨S16x512x4096, .bf16⟩
  | _, _ => ⟨S16x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16x512x4096 : Shape := ⟨3, ![16, 512, 4096]⟩
abbrev S1024x1024 : Shape := ⟨2, ![1024, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 24
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16x512x4096, .f32⟩
  | .hbm, ⟨9, _⟩ => ⟨S16x512x4096, .bf16⟩
  | .hbm, ⟨10, _⟩ => ⟨S1024x1024, .f32⟩
  | .hbm, ⟨11, _⟩ => ⟨S1024x1024, .bf16⟩
  | .hbm, ⟨12, _⟩ => ⟨S16x4096x512, .bf16⟩
  | .hbm, ⟨13, _⟩ => ⟨S512x1024, .bf16⟩
  | .hbm, ⟨14, _⟩ => ⟨S512x1024, .bf16⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | .hbm, ⟨23, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S16x4096x2816 : Shape := ⟨3, ![16, 4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16x4096x1024, .f32⟩
  | .hbm, ⟨9, _⟩ => ⟨S1024x1024, .f32⟩
  | .hbm, ⟨10, _⟩ => ⟨S16x4096x1024, .f32⟩
  | .hbm, ⟨11, _⟩ => ⟨S16x4096x1024, .f32⟩
  | .hbm, ⟨12, _⟩ => ⟨S1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S16x4096x2816, .f32⟩
  | .hbm, ⟨33, _⟩ => ⟨S16x4096x2816, .f32⟩
  | .hbm, ⟨34, _⟩ => ⟨S16x4096x2816, .f32⟩
  | .hbm, ⟨35, _⟩ => ⟨S_, .f32⟩
  | .hbm, ⟨36, _⟩ => ⟨S16x4096x2816, .f32⟩
  | .hbm, ⟨37, _⟩ => ⟨S16x4096x2816, .f32⟩
  | .hbm, ⟨38, _⟩ => ⟨S_, .f32⟩
  | .hbm, ⟨39, _⟩ => ⟨S16x4096x2816, .f32⟩
  | .hbm, ⟨40, _⟩ => ⟨S16x4096x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S16x4096x1024, .f32⟩
  | .hbm, ⟨45, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096 : Shape := ⟨2, ![16, 4096]⟩
abbrev S1x1024 : Shape := ⟨2, ![1, 1024]⟩
abbrev S1x1024x2464 : Shape := ⟨3, ![1, 1024, 2464]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S32 : Shape := ⟨1, ![32]⟩
abbrev S_ : Shape := ⟨0, ![]⟩
abbrev S16 : Shape := ⟨1, ![16]⟩
abbrev S128 : Shape := ⟨1, ![128]⟩
abbrev S1 : Shape := ⟨1, ![1]⟩
abbrev S1x1 : Shape := ⟨2, ![1, 1]⟩
abbrev S32x1 : Shape := ⟨2, ![32, 1]⟩
abbrev S16x1 : Shape := ⟨2, ![16, 1]⟩
abbrev S128x1 : Shape := ⟨2, ![128, 1]⟩
abbrev S128x128 : Shape := ⟨2, ![128, 128]⟩
abbrev S128x512 : Shape := ⟨2, ![128, 512]⟩
abbrev S256 : Shape := ⟨1, ![256]⟩
abbrev S512 : Shape := ⟨1, ![512]⟩
abbrev S1x512 : Shape := ⟨2, ![1, 512]⟩
abbrev S16x4096x1 : Shape := ⟨3, ![16, 4096, 1]⟩
abbrev S1024x2464 : Shape := ⟨2, ![1024, 2464]⟩
abbrev S1024x32 : Shape := ⟨2, ![1024, 32]⟩
abbrev S1024x16 : Shape := ⟨2, ![1024, 16]⟩
abbrev S1024x2496 : Shape := ⟨2, ![1024, 2496]⟩
abbrev S1024x2560 : Shape := ⟨2, ![1024, 2560]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S1024x256 : Shape := ⟨2, ![1024, 256]⟩
abbrev S128x1024 : Shape := ⟨2, ![128, 1024]⟩
abbrev S128x8x128 : Shape := ⟨3, ![128, 8, 128]⟩
abbrev S128x8x64 : Shape := ⟨3, ![128, 8, 64]⟩
abbrev S512x128 : Shape := ⟨2, ![512, 128]⟩
abbrev S96 : Shape := ⟨1, ![96]⟩
abbrev S64 : Shape := ⟨1, ![64]⟩
abbrev S1024 : Shape := ⟨1, ![1024]⟩
abbrev S16x4096x2048 : Shape := ⟨3, ![16, 4096, 2048]⟩
abbrev S16x4096x256 : Shape := ⟨3, ![16, 4096, 256]⟩
abbrev S16x8x128x4096 : Shape := ⟨4, ![16, 8, 128, 4096]⟩
abbrev S16x8x4096x128 : Shape := ⟨4, ![16, 8, 4096, 128]⟩
abbrev S16x8x8x64x512 : Shape := ⟨5, ![16, 8, 8, 64, 512]⟩
abbrev S1x512x1 : Shape := ⟨3, ![1, 512, 1]⟩
abbrev S1x512x1024 : Shape := ⟨3, ![1, 512, 1024]⟩
abbrev S1x512x2048 : Shape := ⟨3, ![1, 512, 2048]⟩
abbrev S1x512x256 : Shape := ⟨3, ![1, 512, 256]⟩
abbrev S1x8x128x512 : Shape := ⟨4, ![1, 8, 128, 512]⟩
abbrev S1x8x512x128 : Shape := ⟨4, ![1, 8, 512, 128]⟩
abbrev S1x8x1x64x512 : Shape := ⟨5, ![1, 8, 1, 64, 512]⟩
abbrev S128x2560 : Shape := ⟨2, ![128, 2560]⟩
abbrev S128x2048 : Shape := ⟨2, ![128, 2048]⟩
abbrev S1x128x2048 : Shape := ⟨3, ![1, 128, 2048]⟩
abbrev S1x128x1 : Shape := ⟨3, ![1, 128, 1]⟩
abbrev S128x256 : Shape := ⟨2, ![128, 256]⟩
abbrev S1x128x256 : Shape := ⟨3, ![1, 128, 256]⟩
abbrev S256x128 : Shape := ⟨2, ![256, 128]⟩
abbrev S1024x128 : Shape := ⟨2, ![1024, 128]⟩
abbrev S64x128 : Shape := ⟨2, ![64, 128]⟩
abbrev S16x128 : Shape := ⟨2, ![16, 128]⟩
abbrev S32x128 : Shape := ⟨2, ![32, 128]⟩
abbrev S1x1x128x128 : Shape := ⟨4, ![1, 1, 128, 128]⟩
abbrev S1x1x1x64x128 : Shape := ⟨5, ![1, 1, 1, 64, 128]⟩

abbrev nBuf : Space → Nat
  | .hbm => 286
  | .vmem => 29
  | .smem => 0
  | _ => 0

abbrev hbmTy0_0 (i : Nat) : BufTy := match i % 128 with
  | 0 => ⟨S16x4096x1024, .f32⟩
  | 1 => ⟨S16x4096, .i32⟩
  | 2 => ⟨S1x1024, .f32⟩
  | 3 => ⟨S1x1024x2464, .f32⟩
  | 4 => ⟨S1x256, .f32⟩
  | 5 => ⟨S1x256x768, .f32⟩
  | 6 => ⟨S1x128, .f32⟩
  | 7 => ⟨S1x128x1024, .f32⟩
  | 8 => ⟨S1x96, .f32⟩
  | 9 => ⟨S1x96, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S32, .f32⟩
  | 28 => ⟨S128, .f32⟩
  | 29 => ⟨S1x128, .f32⟩
  | 30 => ⟨S_, .f32⟩
  | 31 => ⟨S_, .f32⟩
  | 32 => ⟨S_, .f32⟩
  | 33 => ⟨S1, .f32⟩
  | 34 => ⟨S1x1, .f32⟩
  | 35 => ⟨S32x1, .f32⟩
  | 36 => ⟨S32, .f32⟩
  | 37 => ⟨S_, .f32⟩
  | 38 => ⟨S32, .f32⟩
  | 39 => ⟨S1x1, .f32⟩
  | 40 => ⟨S16x1, .f32⟩
  | 41 => ⟨S16, .f32⟩
  | 42 => ⟨S_, .f32⟩
  | 43 => ⟨S16, .f32⟩
  | 44 => ⟨S128, .f32⟩
  | 45 => ⟨S1x128, .f32⟩
  | 46 => ⟨S128, .i32⟩
  | 47 => ⟨S128, .i32⟩
  | 48 => ⟨S128x1, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S128, .i32⟩
  | 56 => ⟨S128, .i32⟩
  | 57 => ⟨S_, .i32⟩
  | 58 => ⟨S128, .i32⟩
  | 59 => ⟨S128, .i1⟩
  | 60 => ⟨S_, .i32⟩
  | 61 => ⟨S128, .i32⟩
  | 62 => ⟨S128, .i1⟩
  | 63 => ⟨S_, .i32⟩
  | 64 => ⟨S_, .i1⟩
  | 65 => ⟨S128, .i1⟩
  | 66 => ⟨S128, .i1⟩
  | 67 => ⟨S128, .i1⟩
  | 68 => ⟨S128, .i32⟩
  | 69 => ⟨S128, .i32⟩
  | 70 => ⟨S128, .i32⟩
  | 71 => ⟨S1x128, .i32⟩
  | 72 => ⟨S128x128, .i32⟩
  | 73 => ⟨S128x128, .i32⟩
  | 74 => ⟨S128x128, .i1⟩
  | 75 => ⟨S128x128, .f32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i1⟩
  | 90 => ⟨S_, .i32⟩
  | 91 => ⟨S_, .i1⟩
  | 92 => ⟨S128, .i1⟩
  | 93 => ⟨S128, .i1⟩
  | 94 => ⟨S128, .i1⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S_, .f32⟩
  | 102 => ⟨S_, .f32⟩
  | 103 => ⟨S128, .f32⟩
  | 104 => ⟨S128, .f32⟩
  | 105 => ⟨S128, .f32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S128, .i32⟩
  | 113 => ⟨S128, .i32⟩
  | 114 => ⟨S_, .i32⟩
  | 115 => ⟨S128, .i32⟩
  | 116 => ⟨S128, .i1⟩
  | 117 => ⟨S_, .i32⟩
  | 118 => ⟨S128, .i32⟩
  | 119 => ⟨S128, .i1⟩
  | 120 => ⟨S_, .i32⟩
  | 121 => ⟨S_, .i1⟩
  | 122 => ⟨S128, .i1⟩
  | 123 => ⟨S128, .i1⟩
  | 124 => ⟨S128, .i1⟩
  | 125 => ⟨S128, .i32⟩
  | 126 => ⟨S128, .i32⟩
  | 127 => ⟨S128, .i32⟩
  | _ => ⟨S16x4096x1024, .f32⟩

abbrev hbmTy0_1 (i : Nat) : BufTy := match i % 128 with
  | 0 => ⟨S_, .i32⟩
  | 1 => ⟨S128, .i32⟩
  | 2 => ⟨S128, .i32⟩
  | 3 => ⟨S1x128, .i32⟩
  | 4 => ⟨S128x128, .i32⟩
  | 5 => ⟨S128x128, .i32⟩
  | 6 => ⟨S128x128, .i1⟩
  | 7 => ⟨S128x128, .f32⟩
  | 8 => ⟨S1x128, .f32⟩
  | 9 => ⟨S1x128, .f32⟩
  | 10 => ⟨S128x128, .f32⟩
  | 11 => ⟨S128x128, .f32⟩
  | 12 => ⟨S_, .i32⟩
  | 13 => ⟨S128, .i32⟩
  | 14 => ⟨S128, .i1⟩
  | 15 => ⟨S_, .i32⟩
  | 16 => ⟨S128, .i32⟩
  | 17 => ⟨S128, .i1⟩
  | 18 => ⟨S128, .i1⟩
  | 19 => ⟨S_, .i32⟩
  | 20 => ⟨S128, .i32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S1x128, .i32⟩
  | 48 => ⟨S128x128, .i32⟩
  | 49 => ⟨S128x128, .i32⟩
  | 50 => ⟨S128x128, .i1⟩
  | 51 => ⟨S1x128, .i1⟩
  | 52 => ⟨S128x128, .i1⟩
  | 53 => ⟨S128x128, .i1⟩
  | 54 => ⟨S128x128, .f32⟩
  | 55 => ⟨S_, .i32⟩
  | 56 => ⟨S128, .i32⟩
  | 57 => ⟨S128, .i32⟩
  | 58 => ⟨S1x128, .i32⟩
  | 59 => ⟨S128x128, .i32⟩
  | 60 => ⟨S128x128, .i32⟩
  | 61 => ⟨S128x128, .i1⟩
  | 62 => ⟨S1x128, .i1⟩
  | 63 => ⟨S128x128, .i1⟩
  | 64 => ⟨S128x128, .i1⟩
  | 65 => ⟨S128x128, .f32⟩
  | 66 => ⟨S128x512, .f32⟩
  | 67 => ⟨S128x512, .bf16⟩
  | 68 => ⟨S_, .f32⟩
  | 69 => ⟨S256, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S512, .f32⟩
  | 79 => ⟨S1x512, .f32⟩
  | 80 => ⟨S16x4096, .f32⟩
  | 81 => ⟨S16x4096x1, .f32⟩
  | 82 => ⟨S1024x2464, .f32⟩
  | 83 => ⟨S1024x32, .f32⟩
  | 84 => ⟨S1024x16, .f32⟩
  | 85 => ⟨S1024x16, .f32⟩
  | 86 => ⟨S1024x16, .f32⟩
  | 87 => ⟨S1024x32, .f32⟩
  | 88 => ⟨S1024x2496, .f32⟩
  | 89 => ⟨S_, .i32⟩
  | 90 => ⟨S_, .f32⟩
  | 91 => ⟨S1024x2560, .f32⟩
  | 92 => ⟨S1024x2560, .bf16⟩
  | 93 => ⟨S256x768, .f32⟩
  | 94 => ⟨S256x8x96, .f32⟩
  | 95 => ⟨S_, .i32⟩
  | 96 => ⟨S_, .f32⟩
  | 97 => ⟨S256x8x128, .f32⟩
  | 98 => ⟨S256x1024, .f32⟩
  | 99 => ⟨S1024x256, .f32⟩
  | 100 => ⟨S1024x256, .bf16⟩
  | 101 => ⟨S128x1024, .f32⟩
  | 102 => ⟨S128x8x128, .f32⟩
  | 103 => ⟨S128x8x64, .f32⟩
  | 104 => ⟨S_, .i32⟩
  | 105 => ⟨S_, .f32⟩
  | 106 => ⟨S128x8x128, .f32⟩
  | 107 => ⟨S128x1024, .f32⟩
  | 108 => ⟨S128x1024, .bf16⟩
  | 109 => ⟨S128x8x64, .f32⟩
  | 110 => ⟨S128x512, .f32⟩
  | 111 => ⟨S512x128, .f32⟩
  | 112 => ⟨S512x128, .bf16⟩
  | 113 => ⟨S96, .f32⟩
  | 114 => ⟨S_, .f32⟩
  | 115 => ⟨S64, .f32⟩
  | 116 => ⟨S32, .f32⟩
  | 117 => ⟨S16, .f32⟩
  | 118 => ⟨S16, .f32⟩
  | 119 => ⟨S32, .f32⟩
  | 120 => ⟨S96, .f32⟩
  | 121 => ⟨S_, .i32⟩
  | 122 => ⟨S_, .f32⟩
  | 123 => ⟨S128, .f32⟩
  | 124 => ⟨S1x128, .f32⟩
  | 125 => ⟨S_, .i32⟩
  | 126 => ⟨S_, .f32⟩
  | 127 => ⟨S128, .f32⟩
  | _ => ⟨S16x4096x1024, .f32⟩

abbrev hbmTy0_2 (i : Nat) : BufTy := match i % 128 with
  | 0 => ⟨S1x128, .f32⟩
  | 1 => ⟨S96, .f32⟩
  | 2 => ⟨S_, .f32⟩
  | 3 => ⟨S64, .f32⟩
  | 4 => ⟨S32, .f32⟩
  | 5 => ⟨S16, .f32⟩
  | 6 => ⟨S16, .f32⟩
  | 7 => ⟨S32, .f32⟩
  | 8 => ⟨S96, .f32⟩
  | 9 => ⟨S_, .i32⟩
  | 10 => ⟨S_, .f32⟩
  | 11 => ⟨S128, .f32⟩
  | 12 => ⟨S1x128, .f32⟩
  | 13 => ⟨S_, .i32⟩
  | 14 => ⟨S_, .f32⟩
  | 15 => ⟨S128, .f32⟩
  | 16 => ⟨S1x128, .f32⟩
  | 17 => ⟨S1024, .f32⟩
  | 18 => ⟨S1x1024, .f32⟩
  | 19 => ⟨S256, .f32⟩
  | 20 => ⟨S1x256, .f32⟩
  | 21 => ⟨S128, .f32⟩
  | 22 => ⟨S1x128, .f32⟩
  | 23 => ⟨S128x1, .f32⟩
  | 24 => ⟨S128x1, .f32⟩
  | 25 => ⟨S16x4096x2048, .bf16⟩
  | 26 => ⟨S16x4096x256, .f32⟩
  | 27 => ⟨S16x8x128x4096, .bf16⟩
  | 28 => ⟨S16x8x4096x128, .bf16⟩
  | 29 => ⟨S16x8x8x64x512, .bf16⟩
  | _ => ⟨S16x4096x1024, .f32⟩

abbrev hbmTy (i : Nat) : BufTy := match i / 128 with
  | 0 => hbmTy0_0 i
  | 1 => hbmTy0_1 i
  | 2 => hbmTy0_2 i
  | _ => ⟨S16x4096x1024, .f32⟩

abbrev bufTy : (tb : Table) → Fin (tcTables nBuf tb) → BufTy
  | .hbm, ⟨i, _⟩ => hbmTy i
  | .local _ .vmem, ⟨0, _⟩ => ⟨S1x512x1, .f32⟩
  | .local _ .vmem, ⟨1, _⟩ => ⟨S1x512x1, .f32⟩
  | .local _ .vmem, ⟨2, _⟩ => ⟨S1x128, .f32⟩
  | .local _ .vmem, ⟨3, _⟩ => ⟨S1x128, .f32⟩
  | .local _ .vmem, ⟨4, _⟩ => ⟨S128x512, .bf16⟩
  | .local _ .vmem, ⟨5, _⟩ => ⟨S1x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1024x2560, .bf16⟩
  | .local _ .vmem, ⟨10, _⟩ => ⟨S1x256, .f32⟩
  | .local _ .vmem, ⟨11, _⟩ => ⟨S1024x256, .bf16⟩
  | .local _ .vmem, ⟨12, _⟩ => ⟨S1x128, .f32⟩
  | .local _ .vmem, ⟨13, _⟩ => ⟨S128x1024, .bf16⟩
  | .local _ .vmem, ⟨14, _⟩ => ⟨S512x128, .bf16⟩
  | .local _ .vmem, ⟨15, _⟩ => ⟨S128x1, .f32⟩
  | .local _ .vmem, ⟨16, _⟩ => ⟨S128x1, .f32⟩
  | .local _ .vmem, ⟨17, _⟩ => ⟨S1x128, .f32⟩
  | .local _ .vmem, ⟨18, _⟩ => ⟨S1x128, .f32⟩
  | .local _ .vmem, ⟨19, _⟩ => ⟨S1x512x2048, .bf16⟩
  | .local _ .vmem, ⟨20, _⟩ => ⟨S1x512x2048, .bf16⟩
  | .local _ .vmem, ⟨21, _⟩ => ⟨S1x512x256, .f32⟩
  | .local _ .vmem, ⟨22, _⟩ => ⟨S1x512x256, .f32⟩
  | .local _ .vmem, ⟨23, _⟩ => ⟨S1x8x128x512, .bf16⟩
  | .local _ .vmem, ⟨24, _⟩ => ⟨S1x8x128x512, .bf16⟩
  | .local _ .vmem, ⟨25, _⟩ => ⟨S1x8x512x128, .bf16⟩
  | .local _ .vmem, ⟨26, _⟩ => ⟨S1x8x512x128, .bf16⟩
  | .local _ .vmem, ⟨27, _⟩ => ⟨S1x8x1x64x512, .bf16⟩
  | .local _ .vmem, ⟨28, _⟩ => ⟨S1x8x1x64x512, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_v5 : Ref sig .tc := ⟨.hbm, 58, rfl⟩
abbrev main_call0_v6 : Ref sig .tc := ⟨.hbm, 59, rfl⟩
abbrev main_call0_c_2 : Ref sig .tc := ⟨.hbm, 60, rfl⟩
abbrev main_call0_v7 : Ref sig .tc := ⟨.hbm, 61, rfl⟩
abbrev main_call0_v8 : Ref sig .tc := ⟨.hbm, 62, rfl⟩
abbrev main_call0_c_3 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_8 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_c_1 : Ref sig .tc := ⟨.hbm, 84, rfl⟩
abbrev main_call1_v5 : Ref sig .tc := ⟨.hbm, 85, rfl⟩
abbrev main_call1_v6 : Ref sig .tc := ⟨.hbm, 86, rfl⟩
abbrev main_call1_c_2 : Ref sig .tc := ⟨.hbm, 87, rfl⟩
abbrev main_call1_v7 : Ref sig .tc := ⟨.hbm, 88, rfl⟩
abbrev main_call1_v8 : Ref sig .tc := ⟨.hbm, 89, rfl⟩
abbrev main_call1_c_3 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_v36 : Ref sig .tc := ⟨.hbm, 97, rfl⟩
abbrev main_c_9 : Ref sig .tc := ⟨.hbm, 98, rfl⟩
abbrev main_v37 : Ref sig .tc := ⟨.hbm, 99, rfl⟩
abbrev main_v38 : Ref sig .tc := ⟨.hbm, 100, rfl⟩
abbrev main_cst_10 : Ref sig .tc := ⟨.hbm, 101, rfl⟩
abbrev main_cst_11 : Ref sig .tc := ⟨.hbm, 102, rfl⟩
abbrev main_call2_v0 : Ref sig .tc := ⟨.hbm, 103, rfl⟩
abbrev main_call2_v1 : Ref sig .tc := ⟨.hbm, 104, rfl⟩
abbrev main_v39 : Ref sig .tc := ⟨.hbm, 105, rfl⟩
abbrev main_c_12 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_c_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_c_1 : Ref sig .tc := ⟨.hbm, 114, rfl⟩
abbrev main_call3_v5 : Ref sig .tc := ⟨.hbm, 115, rfl⟩
abbrev main_call3_v6 : Ref sig .tc := ⟨.hbm, 116, rfl⟩
abbrev main_call3_c_2 : Ref sig .tc := ⟨.hbm, 117, rfl⟩
abbrev main_call3_v7 : Ref sig .tc := ⟨.hbm, 118, rfl⟩
abbrev main_call3_v8 : Ref sig .tc := ⟨.hbm, 119, rfl⟩
abbrev main_call3_c_3 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_v13 : Ref sig .tc := ⟨.hbm, 125, rfl⟩
abbrev main_call3_v14 : Ref sig .tc := ⟨.hbm, 126, rfl⟩
abbrev main_v40 : Ref sig .tc := ⟨.hbm, 127, rfl⟩
abbrev main_c_13 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_c_14 : Ref sig .tc := ⟨.hbm, 140, rfl⟩
abbrev main_v52 : Ref sig .tc := ⟨.hbm, 141, rfl⟩
abbrev main_v53 : Ref sig .tc := ⟨.hbm, 142, rfl⟩
abbrev main_c_15 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_c_16 : Ref sig .tc := ⟨.hbm, 147, rfl⟩
abbrev main_v57 : Ref sig .tc := ⟨.hbm, 148, rfl⟩
abbrev main_v58 : Ref sig .tc := ⟨.hbm, 149, rfl⟩
abbrev main_c_17 : Ref sig .tc := ⟨.hbm, 150, rfl⟩
abbrev main_call4_v0 : Ref sig .tc := ⟨.hbm, 151, rfl⟩
abbrev main_call4_c : Ref sig .tc := ⟨.hbm, 152, rfl⟩
abbrev main_call4_v1 : Ref sig .tc := ⟨.hbm, 153, rfl⟩
abbrev main_call4_c_0 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_call4_c_1 : Ref sig .tc := ⟨.hbm, 158, rfl⟩
abbrev main_call4_v5 : Ref sig .tc := ⟨.hbm, 159, rfl⟩
abbrev main_call4_v6 : Ref sig .tc := ⟨.hbm, 160, rfl⟩
abbrev main_call4_c_2 : Ref sig .tc := ⟨.hbm, 161, rfl⟩
abbrev main_call4_v7 : Ref sig .tc := ⟨.hbm, 162, rfl⟩
abbrev main_call4_v8 : Ref sig .tc := ⟨.hbm, 163, rfl⟩
abbrev main_call4_c_3 : Ref sig .tc := ⟨.hbm, 164, rfl⟩
abbrev main_call4_v9 : Ref sig .tc := ⟨.hbm, 165, rfl⟩
abbrev main_call4_v10 : Ref sig .tc := ⟨.hbm, 166, rfl⟩
abbrev main_call4_v11 : Ref sig .tc := ⟨.hbm, 167, rfl⟩
abbrev main_call4_v12 : Ref sig .tc := ⟨.hbm, 168, rfl⟩
abbrev main_call4_v13 : Ref sig .tc := ⟨.hbm, 169, rfl⟩
abbrev main_call4_v14 : Ref sig .tc := ⟨.hbm, 170, rfl⟩
abbrev main_v59 : Ref sig .tc := ⟨.hbm, 171, rfl⟩
abbrev main_c_18 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_c_19 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_cst_20 : Ref sig .tc := ⟨.hbm, 196, rfl⟩
abbrev main_v82 : Ref sig .tc := ⟨.hbm, 197, rfl⟩
abbrev main_cst_21 : Ref sig .tc := ⟨.hbm, 198, rfl⟩
abbrev main_cst_22 : Ref sig .tc := ⟨.hbm, 199, rfl⟩
abbrev main_call5_v0 : Ref sig .tc := ⟨.hbm, 200, rfl⟩
abbrev main_call5_v1 : Ref sig .tc := ⟨.hbm, 201, rfl⟩
abbrev main_v83 : Ref sig .tc := ⟨.hbm, 202, rfl⟩
abbrev main_cst_23 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_c_24 : Ref sig .tc := ⟨.hbm, 217, rfl⟩
abbrev main_call6_v0 : Ref sig .tc := ⟨.hbm, 218, rfl⟩
abbrev main_v97 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_c_25 : Ref sig .tc := ⟨.hbm, 223, rfl⟩
abbrev main_call7_v0 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_c_26 : Ref sig .tc := ⟨.hbm, 232, rfl⟩
abbrev main_call8_v0 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_v113 : Ref sig .tc := ⟨.hbm, 239, rfl⟩
abbrev main_v114 : Ref sig .tc := ⟨.hbm, 240, rfl⟩
abbrev main_v115 : Ref sig .tc := ⟨.hbm, 241, rfl⟩
abbrev main_cst_27 : Ref sig .tc := ⟨.hbm, 242, rfl⟩
abbrev main_v116 : Ref sig .tc := ⟨.hbm, 243, rfl⟩
abbrev main_v117 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_c_28 : Ref sig .tc := ⟨.hbm, 249, rfl⟩
abbrev main_call9_v0 : Ref sig .tc := ⟨.hbm, 250, rfl⟩
abbrev main_v122 : Ref sig .tc := ⟨.hbm, 251, rfl⟩
abbrev main_v123 : Ref sig .tc := ⟨.hbm, 252, rfl⟩
abbrev main_c_29 : Ref sig .tc := ⟨.hbm, 253, rfl⟩
abbrev main_call10_v0 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_cst_30 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_c_31 : Ref sig .tc := ⟨.hbm, 265, rfl⟩
abbrev main_call11_v0 : Ref sig .tc := ⟨.hbm, 266, rfl⟩
abbrev main_v133 : Ref sig .tc := ⟨.hbm, 267, rfl⟩
abbrev main_v134 : Ref sig .tc := ⟨.hbm, 268, rfl⟩
abbrev main_c_32 : Ref sig .tc := ⟨.hbm, 269, rfl⟩
abbrev main_call12_v0 : Ref sig .tc := ⟨.hbm, 270, rfl⟩
abbrev main_v135 : Ref sig .tc := ⟨.hbm, 271, rfl⟩
abbrev main_v136 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145_0 : Ref sig .tc := ⟨.hbm, 281, rfl⟩
abbrev main_v145_1 : Ref sig .tc := ⟨.hbm, 282, rfl⟩
abbrev main_v145_2 : Ref sig .tc := ⟨.hbm, 283, rfl⟩
abbrev main_v145_3 : Ref sig .tc := ⟨.hbm, 284, rfl⟩
abbrev main_v145_4 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x1x64x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel3Ideal.lean ====
variable {F : FTy → Type} [FloatOps F] [Named F]
def κ : String → Option EReal := fun
  | "inv_96" => some ((1 / 96 : ℝ) : EReal)
  | _ => none
-- ==== Reference3Ideal.lean ====
abbrev S16x4096x1024 : Shape := ⟨3, ![16, 4096, 1024]⟩
abbrev S16x4096 : Shape := ⟨2, ![16, 4096]⟩
abbrev S1x1024 : Shape := ⟨2, ![1, 1024]⟩
abbrev S1x1024x2464 : Shape := ⟨3, ![1, 1024, 2464]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x96 : Shape := ⟨2, ![1, 96]⟩
abbrev S1024 : Shape := ⟨1, ![1024]⟩
abbrev S_ : Shape := ⟨0, ![]⟩
abbrev S16x4096x1 : Shape := ⟨3, ![16, 4096, 1]⟩
abbrev S1x1x1024 : Shape := ⟨3, ![1, 1, 1024]⟩
abbrev S1024x2464 : Shape := ⟨2, ![1024, 2464]⟩
abbrev S16x4096x2464 : Shape := ⟨3, ![16, 4096, 2464]⟩
abbrev S16x4096x2048 : Shape := ⟨3, ![16, 4096, 2048]⟩
abbrev S16x4096x256 : Shape := ⟨3, ![16, 4096, 256]⟩
abbrev S16x4096x128 : Shape := ⟨3, ![16, 4096, 128]⟩
abbrev S16x4096x32 : Shape := ⟨3, ![16, 4096, 32]⟩
abbrev S256 : Shape := ⟨1, ![256]⟩
abbrev S1x1x256 : Shape := ⟨3, ![1, 1, 256]⟩
abbrev S256x768 : Shape := ⟨2, ![256, 768]⟩
abbrev S16x4096x768 : Shape := ⟨3, ![16, 4096, 768]⟩
abbrev S16x4096x8x96 : Shape := ⟨4, ![16, 4096, 8, 96]⟩
abbrev S128 : Shape := ⟨1, ![128]⟩
abbrev S1x1x128 : Shape := ⟨3, ![1, 1, 128]⟩
abbrev S128x1024 : Shape := ⟨2, ![128, 1024]⟩
abbrev S16x4096x8x128 : Shape := ⟨4, ![16, 4096, 8, 128]⟩
abbrev S16x4096x8x64 : Shape := ⟨4, ![16, 4096, 8, 64]⟩
abbrev S16x4096x1x32 : Shape := ⟨4, ![16, 4096, 1, 32]⟩
abbrev S16x4096x8x32 : Shape := ⟨4, ![16, 4096, 8, 32]⟩
abbrev S96 : Shape := ⟨1, ![96]⟩
abbrev S16x4096x8 : Shape := ⟨3, ![16, 4096, 8]⟩
abbrev S16x4096x8x1 : Shape := ⟨4, ![16, 4096, 8, 1]⟩
abbrev S1x1x1x96 : Shape := ⟨4, ![1, 1, 1, 96]⟩
abbrev S16 : Shape := ⟨1, ![16]⟩
abbrev S1x1x16 : Shape := ⟨3, ![1, 1, 16]⟩
abbrev S16x4096x16 : Shape := ⟨3, ![16, 4096, 16]⟩
abbrev S16x4096x1x16 : Shape := ⟨4, ![16, 4096, 1, 16]⟩
abbrev S16x4096x8x16 : Shape := ⟨4, ![16, 4096, 8, 16]⟩
abbrev S32 : Shape := ⟨1, ![32]⟩
abbrev S1x1x32 : Shape := ⟨3, ![1, 1, 32]⟩
abbrev S16x8x128x4096 : Shape := ⟨4, ![16, 8, 128, 4096]⟩
abbrev S16x8x4096x128 : Shape := ⟨4, ![16, 8, 4096, 128]⟩
abbrev S16x8x512x8x64 : Shape := ⟨5, ![16, 8, 512, 8, 64]⟩
abbrev S16x8x8x64x512 : Shape := ⟨5, ![16, 8, 8, 64, 512]⟩

abbrev nBuf : Space → Nat
  | .hbm => 216
  | .vmem => 0
  | .smem => 0
  | _ => 0

abbrev hbmTy0_0 (i : Nat) : BufTy := match i % 128 with
  | 0 => ⟨S16x4096x1024, .f32⟩
  | 1 => ⟨S16x4096, .i32⟩
  | 2 => ⟨S1x1024, .f32⟩
  | 3 => ⟨S1x1024x2464, .f32⟩
  | 4 => ⟨S1x256, .f32⟩
  | 5 => ⟨S1x256x768, .f32⟩
  | 6 => ⟨S1x128, .f32⟩
  | 7 => ⟨S1x128x1024, .f32⟩
  | 8 => ⟨S1x96, .f32⟩
  | 9 => ⟨S1x96, .f32⟩
  | 10 => ⟨S1024, .f32⟩
  | 11 => ⟨S16x4096x1024, .f32⟩
  | 12 => ⟨S_, .f32⟩
  | 13 => ⟨S16x4096, .f32⟩
  | 14 => ⟨S16x4096x1, .f32⟩
  | 15 => ⟨S_, .f32⟩
  | 16 => ⟨S16x4096x1, .f32⟩
  | 17 => ⟨S16x4096x1, .f32⟩
  | 18 => ⟨S_, .f32⟩
  | 19 => ⟨S16x4096x1, .f32⟩
  | 20 => ⟨S16x4096x1, .f32⟩
  | 21 => ⟨S16x4096x1, .f32⟩
  | 22 => ⟨S16x4096x1024, .f32⟩
  | 23 => ⟨S16x4096x1024, .f32⟩
  | 24 => ⟨S1x1x1024, .f32⟩
  | 25 => ⟨S16x4096x1024, .f32⟩
  | 26 => ⟨S16x4096x1024, .f32⟩
  | 27 => ⟨S1024x2464, .f32⟩
  | 28 => ⟨S16x4096x2464, .f32⟩
  | 29 => ⟨S16x4096x2048, .f32⟩
  | 30 => ⟨S16x4096x256, .f32⟩
  | 31 => ⟨S16x4096x128, .f32⟩
  | 32 => ⟨S16x4096x32, .f32⟩
  | 33 => ⟨S256, .f32⟩
  | 34 => ⟨S16x4096x256, .f32⟩
  | 35 => ⟨S_, .f32⟩
  | 36 => ⟨S16x4096, .f32⟩
  | 37 => ⟨S16x4096x1, .f32⟩
  | 38 => ⟨S_, .f32⟩
  | 39 => ⟨S16x4096x1, .f32⟩
  | 40 => ⟨S16x4096x1, .f32⟩
  | 41 => ⟨S_, .f32⟩
  | 42 => ⟨S16x4096x1, .f32⟩
  | 43 => ⟨S16x4096x1, .f32⟩
  | 44 => ⟨S16x4096x1, .f32⟩
  | 45 => ⟨S16x4096x256, .f32⟩
  | 46 => ⟨S16x4096x256, .f32⟩
  | 47 => ⟨S1x1x256, .f32⟩
  | 48 => ⟨S16x4096x256, .f32⟩
  | 49 => ⟨S16x4096x256, .f32⟩
  | 50 => ⟨S256x768, .f32⟩
  | 51 => ⟨S16x4096x768, .f32⟩
  | 52 => ⟨S16x4096x8x96, .f32⟩
  | 53 => ⟨S128, .f32⟩
  | 54 => ⟨S16x4096x128, .f32⟩
  | 55 => ⟨S_, .f32⟩
  | 56 => ⟨S16x4096, .f32⟩
  | 57 => ⟨S16x4096x1, .f32⟩
  | 58 => ⟨S_, .f32⟩
  | 59 => ⟨S16x4096x1, .f32⟩
  | 60 => ⟨S16x4096x1, .f32⟩
  | 61 => ⟨S_, .f32⟩
  | 62 => ⟨S16x4096x1, .f32⟩
  | 63 => ⟨S16x4096x1, .f32⟩
  | 64 => ⟨S16x4096x1, .f32⟩
  | 65 => ⟨S16x4096x128, .f32⟩
  | 66 => ⟨S16x4096x128, .f32⟩
  | 67 => ⟨S1x1x128, .f32⟩
  | 68 => ⟨S16x4096x128, .f32⟩
  | 69 => ⟨S16x4096x128, .f32⟩
  | 70 => ⟨S128x1024, .f32⟩
  | 71 => ⟨S16x4096x1024, .f32⟩
  | 72 => ⟨S16x4096x8x128, .f32⟩
  | 73 => ⟨S16x4096x8x64, .f32⟩
  | 74 => ⟨S16x4096x8x64, .f32⟩
  | 75 => ⟨S16x4096x1x32, .f32⟩
  | 76 => ⟨S16x4096x8x32, .f32⟩
  | 77 => ⟨S16x4096x8x96, .f32⟩
  | 78 => ⟨S96, .f32⟩
  | 79 => ⟨S16x4096x8x96, .f32⟩
  | 80 => ⟨S_, .f32⟩
  | 81 => ⟨S16x4096x8, .f32⟩
  | 82 => ⟨S16x4096x8x1, .f32⟩
  | 83 => ⟨S_, .f32⟩
  | 84 => ⟨S16x4096x8x1, .f32⟩
  | 85 => ⟨S16x4096x8x1, .f32⟩
  | 86 => ⟨S_, .f32⟩
  | 87 => ⟨S16x4096x8x1, .f32⟩
  | 88 => ⟨S16x4096x8x1, .f32⟩
  | 89 => ⟨S16x4096x8x1, .f32⟩
  | 90 => ⟨S16x4096x8x96, .f32⟩
  | 91 => ⟨S16x4096x8x96, .f32⟩
  | 92 => ⟨S1x1x1x96, .f32⟩
  | 93 => ⟨S16x4096x8x96, .f32⟩
  | 94 => ⟨S16x4096x8x96, .f32⟩
  | 95 => ⟨S96, .f32⟩
  | 96 => ⟨S16x4096x8x96, .f32⟩
  | 97 => ⟨S_, .f32⟩
  | 98 => ⟨S16x4096x8, .f32⟩
  | 99 => ⟨S16x4096x8x1, .f32⟩
  | 100 => ⟨S_, .f32⟩
  | 101 => ⟨S16x4096x8x1, .f32⟩
  | 102 => ⟨S16x4096x8x1, .f32⟩
  | 103 => ⟨S_, .f32⟩
  | 104 => ⟨S16x4096x8x1, .f32⟩
  | 105 => ⟨S16x4096x8x1, .f32⟩
  | 106 => ⟨S16x4096x8x1, .f32⟩
  | 107 => ⟨S16x4096x8x96, .f32⟩
  | 108 => ⟨S16x4096x8x96, .f32⟩
  | 109 => ⟨S1x1x1x96, .f32⟩
  | 110 => ⟨S16x4096x8x96, .f32⟩
  | 111 => ⟨S16x4096x8x96, .f32⟩
  | 112 => ⟨S16x4096x8x64, .f32⟩
  | 113 => ⟨S16x4096x8x32, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S16x4096, .f32⟩
  | 123 => ⟨S16x4096x1, .f32⟩
  | 124 => ⟨S1x1x16, .f32⟩
  | 125 => ⟨S16x4096x16, .f32⟩
  | 126 => ⟨S16x4096x16, .f32⟩
  | 127 => ⟨S16x4096x16, .f32⟩
  | _ => ⟨S16x4096x1024, .f32⟩

abbrev hbmTy0_1 (i : Nat) : BufTy := match i % 128 with
  | 0 => ⟨S16x4096x16, .f32⟩
  | 1 => ⟨S16x4096x1x16, .f32⟩
  | 2 => ⟨S16x4096x16, .f32⟩
  | 3 => ⟨S16x4096x1x16, .f32⟩
  | 4 => ⟨S16x4096x8x16, .f32⟩
  | 5 => ⟨S16x4096x8x16, .f32⟩
  | 6 => ⟨S16x4096x8x16, .f32⟩
  | 7 => ⟨S16x4096x8x16, .f32⟩
  | 8 => ⟨S16x4096x8x16, .f32⟩
  | 9 => ⟨S16x4096x8x16, .f32⟩
  | 10 => ⟨S16x4096x8x16, .f32⟩
  | 11 => ⟨S16x4096x8x16, .f32⟩
  | 12 => ⟨S16x4096x8x16, .f32⟩
  | 13 => ⟨S16x4096x8x16, .f32⟩
  | 14 => ⟨S16x4096x8x16, .f32⟩
  | 15 => ⟨S16x4096x8x16, .f32⟩
  | 16 => ⟨S16x4096x8x32, .f32⟩
  | 17 => ⟨S16x4096x8x96, .f32⟩
  | 18 => ⟨S16x4096x8x64, .f32⟩
  | 19 => ⟨S16x4096x8x32, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16x4096, .f32⟩
  | 29 => ⟨S16x4096x1, .f32⟩
  | 30 => ⟨S1x1x16, .f32⟩
  | 31 => ⟨S16x4096x16, .f32⟩
  | 32 => ⟨S16x4096x16, .f32⟩
  | 33 => ⟨S16x4096x16, .f32⟩
  | 34 => ⟨S16x4096x16, .f32⟩
  | 35 => ⟨S16x4096x1x16, .f32⟩
  | 36 => ⟨S16x4096x16, .f32⟩
  | 37 => ⟨S16x4096x1x16, .f32⟩
  | 38 => ⟨S16x4096x8x16, .f32⟩
  | 39 => ⟨S16x4096x8x16, .f32⟩
  | 40 => ⟨S16x4096x8x16, .f32⟩
  | 41 => ⟨S16x4096x8x16, .f32⟩
  | 42 => ⟨S16x4096x8x16, .f32⟩
  | 43 => ⟨S16x4096x8x16, .f32⟩
  | 44 => ⟨S16x4096x8x16, .f32⟩
  | 45 => ⟨S16x4096x8x16, .f32⟩
  | 46 => ⟨S16x4096x8x16, .f32⟩
  | 47 => ⟨S16x4096x8x16, .f32⟩
  | 48 => ⟨S16x4096x8x16, .f32⟩
  | 49 => ⟨S16x4096x8x16, .f32⟩
  | 50 => ⟨S16x4096x8x32, .f32⟩
  | 51 => ⟨S16x4096x8x96, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S16x4096, .f32⟩
  | 61 => ⟨S16x4096x1, .f32⟩
  | 62 => ⟨S1x1x32, .f32⟩
  | 63 => ⟨S16x4096x32, .f32⟩
  | 64 => ⟨S16x4096x32, .f32⟩
  | 65 => ⟨S16x4096x32, .f32⟩
  | 66 => ⟨S16x4096x32, .f32⟩
  | 67 => ⟨S16x4096x32, .f32⟩
  | 68 => ⟨S16x4096x32, .f32⟩
  | 69 => ⟨S16x4096x32, .f32⟩
  | 70 => ⟨S16x4096x256, .f32⟩
  | 71 => ⟨S_, .f32⟩
  | 72 => ⟨S16x4096x8x96, .f32⟩
  | 73 => ⟨S16x4096x8x96, .f32⟩
  | 74 => ⟨S_, .i32⟩
  | 75 => ⟨S_, .f32⟩
  | 76 => ⟨S16x4096x8x128, .f32⟩
  | 77 => ⟨S16x8x128x4096, .f32⟩
  | 78 => ⟨S_, .i32⟩
  | 79 => ⟨S_, .f32⟩
  | 80 => ⟨S16x4096x8x128, .f32⟩
  | 81 => ⟨S16x8x4096x128, .f32⟩
  | 82 => ⟨S16x8x512x8x64, .f32⟩
  | 83 => ⟨S16x8x8x64x512, .f32⟩
  | 84 => ⟨S16x4096x2048, .bf16⟩
  | 85 => ⟨S16x8x128x4096, .bf16⟩
  | 86 => ⟨S16x8x4096x128, .bf16⟩
  | 87 => ⟨S16x8x8x64x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_16 : Ref sig .tc := ⟨.hbm, 150, rfl⟩
abbrev main_v123 : Ref sig .tc := ⟨.hbm, 151, rfl⟩
abbrev main_v124 : Ref sig .tc := ⟨.hbm, 152, rfl⟩
abbrev main_cst_17 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_18 : Ref sig .tc := ⟨.hbm, 182, rfl⟩
abbrev main_v153 : Ref sig .tc := ⟨.hbm, 183, rfl⟩
abbrev main_v154 : Ref sig .tc := ⟨.hbm, 184, rfl⟩
abbrev main_cst_19 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_cst_20 : Ref sig .tc := ⟨.hbm, 199, rfl⟩
abbrev main_v168 : Ref sig .tc := ⟨.hbm, 200, rfl⟩
abbrev main_v169 : Ref sig .tc := ⟨.hbm, 201, rfl⟩
abbrev main_c : Ref sig .tc := ⟨.hbm, 202, rfl⟩
abbrev main_call0_v0 : Ref sig .tc := ⟨.hbm, 203, rfl⟩
abbrev main_v170 : Ref sig .tc := ⟨.hbm, 204, rfl⟩
abbrev main_v171 : Ref sig .tc := ⟨.hbm, 205, rfl⟩
abbrev main_c_21 : Ref sig .tc := ⟨.hbm, 206, rfl⟩
abbrev main_call1_v0 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩

abbrev nD : Nat := 1
abbrev τ : Topo := Topo.v7x

variable {F : FTy → Type} [FloatOps F]
-- ==== Proof.FfnPay.lean ====
/- What the output call's body stores, read at an index: the row after the output projection plus the feed-forward sum, chunk by
   chunk of 256 hidden units. -/
module

public import proofs.«01_k».proof.Proof.Gen.Kernel2Ideal.Skeleton
public import Idealize.ShloMosaic.Lib.Pointwise

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- One hidden unit's activation before the product with the up projection: `g` times its logistic. -/
def sil (g : EReal) : EReal := g * Ideal.div 1 (1 + Ideal.exp (0 - g))

/-- The contribution of one chunk of 256 hidden units to entry `(r, c)`. -/
def chunk (h : FVec Ideal S512x1024 .bf16) (wg wu : FVec Ideal S1024x256 .bf16) (wd : FVec Ideal S256x1024 .bf16)
    (r : Fin 512) (c : Fin 1024) : EReal :=
  ∑ k : Fin 256, sil (∑ d : Fin 1024, h (ix2 r d) * wg (ix2 d k)) * (∑ d : Fin 1024, h (ix2 r d) * wu (ix2 d k)) * wd (ix2 k c)

theorem pay5_apply (v13 : FVec Ideal S512x1024 .f32) (v28 : FVec Ideal S512x1024 .bf16) (v31 : FVec Ideal S512x256 .f32)
    (v32 : Vec Ideal S1024x256 .bf16) (v45 : Vec Ideal S256x1024 .bf16) (v49 v52 : Vec Ideal S1024x256 .bf16)
    (v65 : Vec Ideal S256x1024 .bf16) (r : Fin 512) (c : Fin 1024) :
    k0_pay5 v13 v28 v31 v32 v45 v49 v52 v65 (ix2 r c) = v13 (ix2 r c) +
      (∑ k : Fin 256, sil (v31 (ix2 r k)) * (∑ d : Fin 1024, v28 (ix2 r d) * v32 (ix2 d k)) * v45 (ix2 k c)) +
      chunk v28 v49 v52 v65 r c := by
  pointwise [k0_pay5, chunk, sil]

theorem pay7_apply (v28 : FVec Ideal S512x1024 .bf16) (v68 : FVec Ideal S512x1024 .f32) (v70 v72 : Vec Ideal S1024x256 .bf16)
    (v85 : Vec Ideal S256x1024 .bf16) (v89 v92 : Vec Ideal S1024x256 .bf16) (v105 : Vec Ideal S256x1024 .bf16)
    (r : Fin 512) (c : Fin 1024) :
    k0_pay7 v28 v68 (k0_pay6 v70) (constant S512x256 .f32 0x00000000#32) v72 v85 v89 v92 v105 (ix2 r c) =
      v68 (ix2 r c) + chunk v28 v70 v72 v85 r c + chunk v28 v89 v92 v105 r c := by
  pointwise [k0_pay7, k0_pay6, chunk, sil]

theorem pay8_apply (v28 : FVec Ideal S512x1024 .bf16) (v108 : FVec Ideal S512x1024 .f32) (v109 v112 : Vec Ideal S1024x256 .bf16)
    (v125 : Vec Ideal S256x1024 .bf16) (r : Fin 512) (c : Fin 1024) :
    k0_pay8 v28 v108 v109 v112 v125 (ix2 r c) = v108 (ix2 r c) + chunk v28 v109 v112 v125 r c := by
  pointwise [k0_pay8, chunk, sil]

theorem pay11_apply (v28 : FVec Ideal S512x1024 .bf16) (v128 : FVec Ideal S512x1024 .f32) (v129 v132 : Vec Ideal S1024x256 .bf16)
    (v145 : Vec Ideal S256x1024 .bf16) (v149 v152 : Vec Ideal S1024x256 .bf16) (v165 : Vec Ideal S256x1024 .bf16)
    (r : Fin 512) (c : Fin 1024) :
    k0_pay11 v28 v128 (k0_pay9 v28 v129 v132) (k0_pay10 v145) v149 v152 v165 (ix2 r c) =
      v128 (ix2 r c) + chunk v28 v129 v132 v145 r c + chunk v28 v149 v152 v165 r c := by
  pointwise [k0_pay11, k0_pay9, k0_pay10, chunk, sil]

theorem pay13_apply (v28 : FVec Ideal S512x1024 .bf16) (v168 : FVec Ideal S512x1024 .f32) (v169 v172 : Vec Ideal S1024x256 .bf16)
    (v185 : Vec Ideal S256x1024 .bf16) (v189 v192 : Vec Ideal S1024x256 .bf16) (v205 : Vec Ideal S256x1024 .bf16)
    (r : Fin 512) (c : Fin 1024) :
    k0_pay13 v28 v168 (k0_pay12 v28 v169 v172) v185 v189 v192 v205 (ix2 r c) =
      v168 (ix2 r c) + chunk v28 v169 v172 v185 r c + chunk v28 v189 v192 v205 r c := by
  pointwise [k0_pay13, k0_pay12, chunk, sil]

theorem pay1_apply (v28 : FVec Ideal S512x1024 .bf16) (v208 : FVec Ideal S512x1024 .f32) (v209 v212 : Vec Ideal S1024x256 .bf16)
    (v225 : Vec Ideal S256x1024 .bf16) (v229 v232 : Vec Ideal S1024x256 .bf16) (v245 : Vec Ideal S256x1024 .bf16)
    (b : Fin 1) (r : Fin 512) (c : Fin 1024) :
    k0_pay1 v28 v208 (k0_pay14 v28 v209) (k0_pay15 v28 v212) (k0_pay16 v28 v209) (k0_pay17 (F := Ideal)) v225 v229 v232 v245
        (ix3 b r c) =
      v208 (ix2 r c) + chunk v28 v209 v212 v225 r c + chunk v28 v229 v232 v245 r c := by
  pointwise [k0_pay1, k0_pay14, k0_pay15, k0_pay16, k0_pay17, chunk, sil]

/-- The first chunk, whose gate product is computed beside the norm. -/
theorem pay5_first (v13 : FVec Ideal S512x1024 .f32) (x0 : Vec Ideal S1x512x1024 .f32) (x1 : Vec Ideal S1x512x512 .bf16)
    (w1 : Vec Ideal S512x1024 .bf16) (x2 : Vec Ideal S1x512x512 .bf16) (w2 : Vec Ideal S512x1024 .bf16) (g : Vec Ideal S1x1024 .f32)
    (v29 v32 : Vec Ideal S1024x256 .bf16) (v45 : Vec Ideal S256x1024 .bf16) (v49 v52 : Vec Ideal S1024x256 .bf16)
    (v65 : Vec Ideal S256x1024 .bf16) (r : Fin 512) (c : Fin 1024) :
    k0_pay5 v13 (k0_pay3 x0 x1 w1 x2 w2 g) (k0_pay4 x0 x1 w1 x2 w2 g v29) v32 v45 v49 v52 v65 (ix2 r c) =
      v13 (ix2 r c) + chunk (k0_pay3 x0 x1 w1 x2 w2 g) v29 v32 v45 r c + chunk (k0_pay3 x0 x1 w1 x2 w2 g) v49 v52 v65 r c := by
  rw [pay5_apply]
  pointwise [k0_pay4, chunk]

/-- The row after the output projection. -/
theorem pay2_apply (x0 : Vec Ideal S1x512x1024 .f32) (x1 : Vec Ideal S1x512x512 .bf16)
    (w1 : Vec Ideal S512x1024 .bf16) (x2 : Vec Ideal S1x512x512 .bf16) (w2 : Vec Ideal S512x1024 .bf16)
    (r : Fin 512) (c : Fin 1024) :
    k0_pay2 x0 x1 w1 x2 w2 (ix2 r c) = x0 (ix3 0 r c) +
      ((∑ k : Fin 512, x1 (ix3 0 r k) * w1 (ix2 k c)) + ∑ k : Fin 512, x2 (ix3 0 k r) * w2 (ix2 k c)) := by
  pointwise [k0_pay2]

/-- The normalised row. -/
theorem pay3_apply (x0 : Vec Ideal S1x512x1024 .f32) (x1 : Vec Ideal S1x512x512 .bf16)
    (w1 : Vec Ideal S512x1024 .bf16) (x2 : Vec Ideal S1x512x512 .bf16) (w2 : Vec Ideal S512x1024 .bf16) (g : Vec Ideal S1x1024 .f32)
    (r : Fin 512) (c : Fin 1024) :
    k0_pay3 x0 x1 w1 x2 w2 g (ix2 r c) = k0_pay2 x0 x1 w1 x2 w2 (ix2 r c) *
      Ideal.rsqrt ((∑ d : Fin 1024, k0_pay2 x0 x1 w1 x2 w2 (ix2 r d) * k0_pay2 x0 x1 w1 x2 w2 (ix2 r d)) *
        Ideal.ofBits .f32 0x3A800000#32 + Ideal.ofBits .f32 0x358637BD#32) * g (ix2 0 c) := by
  pointwise [k0_pay3]

end Cert.Kernel2Ideal.Ffn

end
-- ==== Proof.FfnOut.lean ====
/- The block the output call's body leaves, read at an index, as one sum over all hidden units. -/
module

public import proofs.«01_k».proof.Proof.Gen.Kernel2Ideal.Frame
public import proofs.«01_k».proof.Proof.FfnPay
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- One hidden unit's contribution to entry `(r, c)`. -/
def unit (h : FVec Ideal S512x1024 .bf16) (x6 x7 : FVec Ideal S1024x2816 .bf16) (x8 : FVec Ideal S2816x1024 .bf16)
    (r : Fin 512) (c : Fin 1024) (k : Fin 2816) : EReal :=
  sil (∑ d : Fin 1024, h (ix2 r d) * x6 (ix2 d k)) * (∑ d : Fin 1024, h (ix2 r d) * x7 (ix2 d k)) * x8 (ix2 k c)

/-- A sum of eleven terms written out. -/
theorem sum_eleven (g : Fin 11 → EReal) : ∑ j, g j = g 0 + g 1 + g 2 + g 3 + g 4 + g 5 + g 6 + g 7 + g 8 + g 9 + g 10 := by
  simp only [Fin.sum_univ_castSucc]
  simp

/-- The sum over all hidden units is the eleven chunks' sums in turn. -/
theorem sum_chunks (f : Fin 2816 → EReal) (a : EReal) : a + ∑ k : Fin 2816, f k =
    a + (∑ k : Fin 256, f ⟨k, by omega⟩) + (∑ k : Fin 256, f ⟨256 + k, by omega⟩) + (∑ k : Fin 256, f ⟨512 + k, by omega⟩)
      + (∑ k : Fin 256, f ⟨768 + k, by omega⟩) + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩) + (∑ k : Fin 256, f ⟨2048 + k, by omega⟩)
      + (∑ k : Fin 256, f ⟨2304 + k, by omega⟩) + (∑ k : Fin 256, f ⟨2560 + k, by omega⟩) := by
  rw [Fin.sum_univ_tiles 11 256 rfl f, sum_eleven]
  simp only [← add_assoc]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) (congrArg (a + ·) ?_) ?_) ?_) ?_) ?_) ?_) ?_) ?_) ?_) ?_) ?_
  all_goals exact Finset.sum_congr rfl fun k _ => congrArg f (Fin.ext (by simp))

/-- The whole normalised block, read from the whole input blocks. -/
theorem pay18_eq (x0 : Vec Ideal S1x512x1024 .f32) (x1 x2 : Vec Ideal S1x512x512 .bf16) (x3 x4 : Vec Ideal S512x1024 .bf16)
    (x5 : Vec Ideal S1x1024 .f32) (x6 x7 : Vec Ideal S1024x2816 .bf16) (x8 : Vec Ideal S2816x1024 .bf16) :
    k0_pay18 x0 x1 x2 x3 x4 x5 x6 x7 x8 = k0_pay3 x0 x1 x3 x2 x4 x5 := by
  unfold k0_pay18
  frame_out

/-- The block the body leaves: the row after the output projection plus the feed-forward sum over the 2816 hidden units. -/
theorem out_apply (x0 : Vec Ideal S1x512x1024 .f32) (x1 x2 : Vec Ideal S1x512x512 .bf16) (x3 x4 : Vec Ideal S512x1024 .bf16)
    (x5 : Vec Ideal S1x1024 .f32) (x6 x7 : Vec Ideal S1024x2816 .bf16) (x8 : Vec Ideal S2816x1024 .bf16)
    (b : Fin 1) (r : Fin 512) (c : Fin 1024) :
    out0_9 x0 x1 x2 x3 x4 x5 x6 x7 x8 (ix3 b r c) = k0_pay2 x0 x1 x3 x2 x4 (ix2 r c) +
      ∑ k : Fin 2816, unit (k0_pay3 x0 x1 x3 x2 x4 x5) x6 x7 x8 r c k := by
  frame_out
  simp only [pay18_eq]
  rw [pay1_apply, pay13_apply, pay11_apply, pay8_apply, pay7_apply, pay5_first, sum_chunks]
  pointwise [chunk, unit]

end Cert.Kernel2Ideal.Ffn

end
-- ==== Proof.FfnRef.lean ====
/- The reference of the output call read at an index: the row after the output projection, its normalised row, and the feed-forward
   sum over all hidden units. -/
module

public import proofs.«01_k».proof.Proof.Gen.Reference2Ideal.Read
public import Idealize.ShloMosaic.Lib.Pointwise

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Read

/-- `g` times its logistic. -/
def sil (g : EReal) : EReal := g * Ideal.div 1 (1 + Ideal.exp (-g))

variable (X : FVec Ideal S16x4096x1024 .f32) (Yr Ym : FVec Ideal S16x4096x512 .f32) (Wo : FVec Ideal S1x1024x1024 .f32)
  (G : FVec Ideal S1x1024 .f32) (Wg Wu : FVec Ideal S1x1024x2816 .f32) (Wd : FVec Ideal S1x2816x1024 .f32)

/-- The row after the output projection: the retention half and the attention half of the product apart. -/
theorem row_apply (b : Fin 16) (s : Fin 4096) (e : Fin 1024) :
    val_main_v3 (F := Ideal) X Yr Ym Wo (ix3 b s e) = X (ix3 b s e) +
      ((∑ k : Fin 512, Yr (ix3 b s k) * Wo (ix3 0 ⟨k, by omega⟩ e)) + ∑ k : Fin 512, Ym (ix3 b s k) * Wo (ix3 0 ⟨512 + k, by omega⟩ e)) := by
  pointwise [val_main_v3, val_main_v2, val_main_v1, val_main_v0]

/-- The normalised row. -/
theorem norm_apply (b : Fin 16) (s : Fin 4096) (e : Fin 1024) :
    val_main_v17 (F := Ideal) X Yr Ym Wo G (ix3 b s e) = val_main_v3 (F := Ideal) X Yr Ym Wo (ix3 b s e) *
      Ideal.rsqrt (Ideal.div (∑ d : Fin 1024, val_main_v3 (F := Ideal) X Yr Ym Wo (ix3 b s d) * val_main_v3 (F := Ideal) X Yr Ym Wo (ix3 b s d))
        (Ideal.ofBits .f32 0x44800000#32) + Ideal.ofBits .f32 0x358637BD#32) * G (ix2 0 e) := by
  pointwise [val_main_v17, val_main_v16, val_main_v15, val_main_v14, val_main_v13, val_main_v12, val_main_v11, val_main_v10, val_main_cst_1, val_main_v9, val_main_v8, val_main_cst_0, val_main_v7, val_main_v6, val_main_cst, val_main_v5, val_main_v4]

/-- The result: the row plus the gated feed-forward sum over the 2816 hidden units. -/
theorem out_apply (b : Fin 16) (s : Fin 4096) (e : Fin 1024) :
    val_main_v26 (F := Ideal) X Yr Ym Wo G Wg Wu Wd (ix3 b s e) = val_main_v3 (F := Ideal) X Yr Ym Wo (ix3 b s e) +
      ∑ k : Fin 2816, sil (∑ d : Fin 1024, val_main_v17 (F := Ideal) X Yr Ym Wo G (ix3 b s d) * Wg (ix3 0 d k)) *
        (∑ d : Fin 1024, val_main_v17 (F := Ideal) X Yr Ym Wo G (ix3 b s d) * Wu (ix3 0 d k)) * Wd (ix3 0 k e) := by
  pointwise [val_main_v26, val_main_v25, val_main_v24, val_main_v23, val_main_v22, val_main_v21, val_main_v20, val_main_v19, val_main_v18, val_main_call0_v5, val_main_call0_v4, val_main_call0_cst_0, val_main_call0_v3, val_main_call0_v2, val_main_call0_cst, val_main_call0_v1, val_main_call0_v0, sil]

end Cert.Reference2Ideal.Ffn

end
-- ==== Proof.FfnBlk.lean ====
/- The block each window of the output call reads or writes at a grid point, and the row after the output projection that
   the block's data give: it is the reference's row at the block's position. -/
module

public import proofs.«01_k».proof.Proof.Gen.Kernel2Ideal.Value
public import proofs.«01_k».proof.Proof.FfnOut
public import proofs.«01_k».proof.Proof.FfnRef
public import Idealize.ShloMosaic.Lib.Claim

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The windows' block indices at grid point `t`: batch `t / 8`, row tile `t % 8`; the weights whole. -/
theorem idx : ∀ t : Fin cfg0.N, win0_0.index t = ![t.val / 8, t.val % 8, 0] ∧ win0_1.index t = ![t.val / 8, t.val % 8, 0]
    ∧ win0_2.index t = ![t.val / 8, 0, t.val % 8] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 8, t.val % 8, 0] :=
  (by decide +kernel : ∀ t : Fin grid0.N, _)

/-- The reference's row after the output projection, over this program's argument arrays. -/
abbrev row (c : Dev nD) (b : Fin 16) (s : Fin 4096) (e : Fin 1024) : EReal :=
  Cert.Reference2Ideal.Read.val_main_v3 (F := Ideal) (m ((c : Thread nD τ).loc main_arg0)) (m ((c : Thread nD τ).loc main_arg1))
    (m ((c : Thread nD τ).loc main_arg2)) (m ((c : Thread nD τ).loc main_arg3)) (ix3 b s e)

/-- The row of a block is the reference's row at the block's place. -/
theorem row_eq (c : Dev nD) (t : Fin cfg0.N) (b : Fin 16) (s : Fin 4096) (r : Fin 512) (e : Fin 1024)
    (hb : (b : ℕ) = t.val / 8) (hs : (s : ℕ) = t.val % 8 * 512 + r) :
    k0_pay2 (iblk m c 0 t) (iblk m c 1 t) (iblk m c 3 t) (iblk m c 2 t) (iblk m c 4 t) (ix2 r e) = row m c b s e := by
  rw [pay2_apply, row, Cert.Reference2Ideal.Ffn.row_apply]
  blk_point [iblk, V, idx t]

end Cert.Kernel2Ideal.Ffn

end
-- ==== Proof.Ffn.lean ====
/- The output call's result array is the reference's result: block by block, each entry the row after the output projection plus the
   feed-forward sum of its normalised row. -/
module

public import proofs.«01_k».proof.Proof.FfnBlk

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's normalised row, over this program's argument arrays. -/
abbrev nrow (c : Dev nD) (b : Fin 16) (s : Fin 4096) (e : Fin 1024) : EReal :=
  Cert.Reference2Ideal.Read.val_main_v17 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (ix3 b s e)

/-- Dividing by 1024 is multiplying by its reciprocal, which the format holds exactly. -/
theorem mean_eq (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee, -EReal.coe_mul]
    norm_num
  have h2 : Ideal.ofBits .f32 0x3A800000#32 = ((1 / 1024 : ℝ) : EReal) := by
    simp [Ideal.ofBits, Ideal.ieee, -EReal.coe_mul]
    norm_num
  rw [h1, h2, Ideal.div_coe (by norm_num)]

/-- The normalised row of a block is the reference's at the block's place. -/
theorem nrow_eq (c : Dev nD) (t : Fin cfg0.N) (b : Fin 16) (s : Fin 4096) (r : Fin 512) (e : Fin 1024)
    (hb : (b : ℕ) = t.val / 8) (hs : (s : ℕ) = t.val % 8 * 512 + r) :
    k0_pay3 (iblk m c 0 t) (iblk m c 1 t) (iblk m c 3 t) (iblk m c 2 t) (iblk m c 4 t) (iblk m c 5 t) (ix2 r e) = nrow m c b s e := by
  rw [pay3_apply, nrow, Cert.Reference2Ideal.Ffn.norm_apply, mean_eq]
  have hr := fun e => row_eq m c t b s r e hb hs
  unfold row at hr
  simp only [hr]
  blk_point [iblk, V, idx t]

/-- The result array after the run, over this program's argument arrays, is the reference's result. -/
theorem point (c : Dev nD) (t : Fin cfg0.N) (b : Fin 16) (s : Fin 4096) (r : Fin 512) (e : Fin 1024) (z : Fin 1)
    (hb : (b : ℕ) = t.val / 8) (hs : (s : ℕ) = t.val % 8 * 512 + r) :
    out0_9 (iblk m c 0 t) (iblk m c 1 t) (iblk m c 2 t) (iblk m c 3 t) (iblk m c 4 t) (iblk m c 5 t) (iblk m c 6 t) (iblk m c 7 t)
      (iblk m c 8 t) (ix3 z r e) = Cert.Reference2Ideal.Read.val_main_v26 (F := Ideal)
      (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (ix3 b s e) := by
  rw [out_apply, Cert.Reference2Ideal.Ffn.out_apply, row_eq m c t b s r e hb hs]
  refine congrArg (row m c b s e + ·) (Finset.sum_congr rfl fun k _ => ?_)
  unfold unit sil Cert.Reference2Ideal.Ffn.sil
  have hr := fun e => nrow_eq m c t b s r e hb hs
  unfold nrow at hr
  simp only [hr, zero_sub]
  blk_point [iblk, V, idx t]

/-- The result array after the run is the reference's result over this program's argument arrays. -/
theorem final (c : Dev nD) : (dats m 0 c).arrAt 9 (cfgs 0).N = Cert.Reference2Ideal.Read.val_main_v26 (F := Ideal)
      (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  have ht : t.val < 128 := lt_of_lt_of_eq t.isLt N_0
  obtain_idx j : S16x4096x1024 := [t.val / 8, t.val % 8 * 512 + (y 1 : ℕ), (y 2 : ℕ)] with hj
  have hj' : ((cfg0.win 9).blk t).view.emb y = ix3 (j 0) (j 1) (y 2) := by blk_ext [idx t]
  rw [hj', eq_ix3 y]
  exact point m c t _ _ _ _ _ hj0 hj1

end Cert.Kernel2Ideal.Ffn

end
-- ==== Proof.AttOps.lean ====
/- The operations of one step of the attention body, named, and each of them read at an index. -/
module

public import proofs.«01_k».proof.Proof.Gen.KernelIdeal.Frame
public import Idealize.ShloMosaic.Lib.Pointwise

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

/-- A block of 256 values for each of the sixteen row offsets. -/
abbrev Blocks (s : Shape) (φ : FTy) := (o : ℕ) → o + 256 ≤ 4096 → FVec Ideal s φ

/-- The scores of 256 key rows against 512 query columns. -/
def sc (Q : Vec Ideal S1x1x128x512 .bf16) (K : Vec Ideal S1x1x256x128 .bf16) : FVec Ideal S256x512 .f32 :=
  matmul (F := Ideal) (φ₁ := .bf16) (φ₂ := .bf16) dot_S256x128_S128x512_S256x512_1_0_0_1_n_n none (shapeCast S256x128 K shapeCasts_S1x1x256x128_S256x128)
    (shapeCast S128x512 Q shapeCasts_S1x1x128x512_S128x512) (constant S256x512 .f32 0x00000000#32)

/-- The running maximum, eight rows at a time. -/
def mstep (a : FVec Ideal S8x512 .f32) (s : FVec Ideal S256x512 .f32) : FVec Ideal S8x512 .f32 :=
  maximumf a (multiReduction .maximumf [0] S8x512 (shapeCast S32x8x512 s shapeCasts_S256x512_S32x8x512) 0xFF800000#32
    reduces_S32x8x512_S8x512 (.inl rfl) rfl)

/-- The running sum, eight rows at a time. -/
def pstep (a : FVec Ideal S8x512 .f32) (s : FVec Ideal S256x512 .f32) : FVec Ideal S8x512 .f32 :=
  addf a (multiReduction .add [0] S8x512 (shapeCast S32x8x512 s shapeCasts_S256x512_S32x8x512) 0x00000000#32
    reduces_S32x8x512_S8x512 (.inl rfl) rfl)

/-- The accumulator after one block of 256 value columns. -/
def astep (A : FVec Ideal S1x64x512 .f32) (V : Vec Ideal S1x1x1x64x256 .bf16) (p : FVec Ideal S256x512 .f32) : FVec Ideal S1x64x512 .f32 :=
  shapeCast S1x64x512 (addf (shapeCast S64x512 A shapeCasts_S1x64x512_S64x512)
    (matmul (F := Ideal) (φ₁ := .bf16) (φ₂ := .bf16) dot_S64x256_S256x512_S64x512_1_0_0_1_n_n none (shapeCast S64x256 V shapeCasts_S1x1x1x64x256_S64x256)
      (truncf .bf16 p bitsLt_bf16_f32) (constant S64x512 .f32 0x00000000#32))) shapeCasts_S64x512_S1x64x512

/-- The unnormalised weights of 256 rows: two to the power of the score less the column's maximum. -/
def prob (M : Vec Ideal S1x1x512 .f32) (S : Vec Ideal S1x256x512 .f32) : FVec Ideal S256x512 .f32 :=
  exp2 (subf (shapeCast S256x512 S shapeCasts_S1x256x512_S256x512)
    (broadcastTo S256x512 (shapeCast S1x512 M shapeCasts_S1x1x512_S1x512) broadcasts_S1x512_S256x512))

/-- The maximum of all 4096 rows. -/
def rowMax (s : Blocks S256x512 .f32) : FVec Ideal S1x1x512 .f32 :=
  shapeCast S1x1x512 (shapeCast S1x512 (multiReduction .maximumf [0] S512
    (mstep (mstep (mstep (mstep (mstep (mstep (mstep (mstep (mstep (mstep (mstep (mstep (mstep (mstep (mstep (mstep (broadcast S8x512 (Scalar.ofBits .f32 0xFF800000#32 : Ideal .f32)) (s 0 (by omega))) (s 256 (by omega))) (s 512 (by omega))) (s 768 (by omega))) (s 1024 (by omega))) (s 1280 (by omega))) (s 1536 (by omega))) (s 1792 (by omega))) (s 2048 (by omega))) (s 2304 (by omega))) (s 2560 (by omega))) (s 2816 (by omega))) (s 3072 (by omega))) (s 3328 (by omega))) (s 3584 (by omega))) (s 3840 (by omega)))
    0xFF800000#32 reduces_S8x512_S512 (.inl rfl) rfl) shapeCasts_S512_S1x512) shapeCasts_S1x512_S1x1x512

/-- The sum of all 4096 rows. -/
def rowSum (s : Blocks S256x512 .f32) : FVec Ideal S512 .f32 :=
  multiReduction .add [0] S512
    (pstep (pstep (pstep (pstep (pstep (pstep (pstep (pstep (pstep (pstep (pstep (pstep (pstep (pstep (pstep (pstep (broadcast S8x512 (Scalar.ofBits .f32 0x00000000#32 : Ideal .f32)) (s 0 (by omega))) (s 256 (by omega))) (s 512 (by omega))) (s 768 (by omega))) (s 1024 (by omega))) (s 1280 (by omega))) (s 1536 (by omega))) (s 1792 (by omega))) (s 2048 (by omega))) (s 2304 (by omega))) (s 2560 (by omega))) (s 2816 (by omega))) (s 3072 (by omega))) (s 3328 (by omega))) (s 3584 (by omega))) (s 3840 (by omega)))
    0x00000000#32 reduces_S8x512_S512 (.inl rfl) rfl

/-- The weighted sum of all 4096 values. -/
def acc (v : Blocks S1x1x1x64x256 .bf16) (p : Blocks S256x512 .f32) : FVec Ideal S1x64x512 .f32 :=
  (astep (astep (astep (astep (astep (astep (astep (astep (astep (astep (astep (astep (astep (astep (astep (astep (shapeCast S1x64x512 (broadcast S64x512 (Scalar.ofBits .f32 0x00000000#32 : Ideal .f32)) shapeCasts_S64x512_S1x64x512) (v 0 (by omega)) (p 0 (by omega))) (v 256 (by omega)) (p 256 (by omega))) (v 512 (by omega)) (p 512 (by omega))) (v 768 (by omega)) (p 768 (by omega))) (v 1024 (by omega)) (p 1024 (by omega))) (v 1280 (by omega)) (p 1280 (by omega))) (v 1536 (by omega)) (p 1536 (by omega))) (v 1792 (by omega)) (p 1792 (by omega))) (v 2048 (by omega)) (p 2048 (by omega))) (v 2304 (by omega)) (p 2304 (by omega))) (v 2560 (by omega)) (p 2560 (by omega))) (v 2816 (by omega)) (p 2816 (by omega))) (v 3072 (by omega)) (p 3072 (by omega))) (v 3328 (by omega)) (p 3328 (by omega))) (v 3584 (by omega)) (p 3584 (by omega))) (v 3840 (by omega)) (p 3840 (by omega)))

/-- The weighted sum over the sum of the weights. -/
def quot (A : FVec Ideal S1x64x512 .f32) (L : FVec Ideal S512 .f32) : FVec Ideal S1x64x512 .bf16 :=
  shapeCast S1x64x512 (truncf .bf16 (divf (shapeCast S64x512 A shapeCasts_S1x64x512_S64x512)
    (broadcastTo S64x512 (shapeCast S1x512 L shapeCasts_S512_S1x512) broadcasts_S1x512_S64x512)) bitsLt_bf16_f32)
    shapeCasts_S64x512_S1x64x512

/-- The scores' products, summed over the head's 128 padded dimensions. -/
theorem sc_apply (Q : Vec Ideal S1x1x128x512 .bf16) (K : Vec Ideal S1x1x256x128 .bf16) (r : Fin 256) (c : Fin 512) :
    sc Q K (ix2 r c) = ∑ d : Fin 128, K (ix4 0 0 r d) * Q (ix4 0 0 d c) := by
  unfold sc; pointwise

/-- The word of minus infinity is the least value. -/
theorem negInf : Ideal.ofBits .f32 0xFF800000#32 = (⊥ : EReal) := by
  simp [Ideal.ofBits, Ideal.ieee, -EReal.coe_mul]

/-- The zero word is zero. -/
theorem zeroWord : Ideal.ofBits .f32 0x00000000#32 = (0 : EReal) := by
  simp [Ideal.ofBits, Ideal.ieee, -EReal.coe_mul]

theorem mstep_apply (a : FVec Ideal S8x512 .f32) (s : FVec Ideal S256x512 .f32) (i : Fin 8) (c : Fin 512) :
    mstep a s (ix2 i c) = max (a (ix2 i c)) (Finset.univ.fold max ⊥ fun j : Fin 32 => s (ix2 ⟨j * 8 + i, by omega⟩ c)) := by
  unfold mstep; pointwise
  try rw [negInf]

theorem pstep_apply (a : FVec Ideal S8x512 .f32) (s : FVec Ideal S256x512 .f32) (i : Fin 8) (c : Fin 512) :
    pstep a s (ix2 i c) = a (ix2 i c) + ∑ j : Fin 32, s (ix2 ⟨j * 8 + i, by omega⟩ c) := by
  unfold pstep; pointwise

theorem astep_apply (A : FVec Ideal S1x64x512 .f32) (V : Vec Ideal S1x1x1x64x256 .bf16) (p : FVec Ideal S256x512 .f32) (i : Fin 64) (c : Fin 512) :
    astep A V p (ix3 0 i c) = A (ix3 0 i c) + ∑ r : Fin 256, V (ix5 0 0 0 i r) * p (ix2 r c) := by
  unfold astep; pointwise

theorem prob_apply (M : Vec Ideal S1x1x512 .f32) (S : Vec Ideal S1x256x512 .f32) (r : Fin 256) (c : Fin 512) :
    prob M S (ix2 r c) = Ideal.exp2 (S (ix3 0 r c) - M (ix3 0 0 c)) := by
  unfold prob; pointwise
  rfl

theorem quot_apply (A : FVec Ideal S1x64x512 .f32) (L : FVec Ideal S512 .f32) (i : Fin 64) (c : Fin 512) :
    quot A L (ix3 0 i c) = Ideal.div (A (ix3 0 i c)) (L (ix1 c)) := by
  unfold quot; pointwise

/-- A block's value depends on its offset and its row only. -/
theorem blk_congr (s : Blocks S256x512 .f32) (c : Fin 512) {o o' : ℕ} {h : o + 256 ≤ 4096} {h' : o' + 256 ≤ 4096} {i i' : Fin 256}
    (e : o = o') (e' : i.val = i'.val) : s o h (ix2 i c) = s o' h' (ix2 i' c) := by
  subst e; rw [Fin.ext e']

/-- Row `r` of the sixteen blocks at column `c`. -/
def row (s : Blocks S256x512 .f32) (c : Fin 512) (r : Fin 4096) : EReal :=
  s (256 * (r / 256)) (by omega) (ix2 ⟨r % 256, by omega⟩ c)

/-- All eights of rows are all rows. -/
theorem forall_eights (P : Fin 256 → Prop) : (∀ i : Fin 8, ∀ j : Fin 32, P ⟨j * 8 + i, by omega⟩) ↔ ∀ i, P i :=
  ⟨fun H i => by have := H ⟨i % 8, by omega⟩ ⟨i / 8, by omega⟩; rwa [show (⟨i / 8 * 8 + i % 8, by omega⟩ : Fin 256) = i from Fin.ext (by simp <;> omega)] at this,
    fun H _ _ => H _⟩

/-- A bound on all eights of a block's rows bounds all its rows. -/
theorem le_eights (s : Blocks S256x512 .f32) (c : Fin 512) (z : EReal) (o : ℕ) (h : o + 256 ≤ 4096) :
    (∀ i : Fin 8, ∀ j : Fin 32, s o h (ix2 ⟨j * 8 + i, by omega⟩ c) ≤ z) ↔ ∀ i, s o h (ix2 i c) ≤ z :=
  forall_eights fun i => s o h (ix2 i c) ≤ z

/-- A bound on the maximum is a bound on every row. -/
theorem rowMax_le (s : Blocks S256x512 .f32) (c : Fin 512) (z : EReal) :
    rowMax s (ix3 0 0 c) ≤ z ↔ ∀ r, row s c r ≤ z := by
  have e : rowMax s (ix3 0 0 c) = Finset.univ.fold max ⊥ fun i : Fin 8 =>
      (mstep (mstep (mstep (mstep (mstep (mstep (mstep (mstep (mstep (mstep (mstep (mstep (mstep (mstep (mstep (mstep (broadcast S8x512 (Scalar.ofBits .f32 0xFF800000#32 : Ideal .f32)) (s 0 (by omega))) (s 256 (by omega))) (s 512 (by omega))) (s 768 (by omega))) (s 1024 (by omega))) (s 1280 (by omega))) (s 1536 (by omega))) (s 1792 (by omega))) (s 2048 (by omega))) (s 2304 (by omega))) (s 2560 (by omega))) (s 2816 (by omega))) (s 3072 (by omega))) (s 3328 (by omega))) (s 3584 (by omega))) (s 3840 (by omega))) (ix2 i c) := by
    unfold rowMax; pointwise
    try rw [negInf]
  have b : ∀ i : Fin 8, broadcast S8x512 (Scalar.ofBits .f32 0xFF800000#32 : Ideal .f32) (ix2 i c) = (⊥ : EReal) := fun i => negInf
  rw [e]
  simp only [mstep_apply, Finset.fold_max_le, max_le_iff, Finset.mem_univ, true_implies, b, bot_le, true_and, forall_and, and_assoc]
  simp only [le_eights]
  constructor
  · rintro ⟨h0, h1, h2, h3, h4, h5, h6, h7, h8, h9, h10, h11, h12, h13, h14, h15⟩ r
    have g : ∀ (k : Fin 16) (i : Fin 256), s (256 * k) (by omega) (ix2 i c) ≤ z := by
      intro k
      fin_cases k
      exacts [h0, h1, h2, h3, h4, h5, h6, h7, h8, h9, h10, h11, h12, h13, h14, h15]
    exact g ⟨r / 256, by omega⟩ _
  · intro H
    refine ⟨fun i => (blk_congr s c (by simp <;> omega) (by simp <;> omega)).trans_le (H ⟨0 + i, by omega⟩), fun i => (blk_congr s c (by simp <;> omega) (by simp <;> omega)).trans_le (H ⟨256 + i, by omega⟩), fun i => (blk_congr s c (by simp <;> omega) (by simp <;> omega)).trans_le (H ⟨512 + i, by omega⟩), fun i => (blk_congr s c (by simp <;> omega) (by simp <;> omega)).trans_le (H ⟨768 + i, by omega⟩), fun i => (blk_congr s c (by simp <;> omega) (by simp <;> omega)).trans_le (H ⟨1024 + i, by omega⟩), fun i => (blk_congr s c (by simp <;> omega) (by simp <;> omega)).trans_le (H ⟨1280 + i, by omega⟩), fun i => (blk_congr s c (by simp <;> omega) (by simp <;> omega)).trans_le (H ⟨1536 + i, by omega⟩), fun i => (blk_congr s c (by simp <;> omega) (by simp <;> omega)).trans_le (H ⟨1792 + i, by omega⟩), fun i => (blk_congr s c (by simp <;> omega) (by simp <;> omega)).trans_le (H ⟨2048 + i, by omega⟩), fun i => (blk_congr s c (by simp <;> omega) (by simp <;> omega)).trans_le (H ⟨2304 + i, by omega⟩), fun i => (blk_congr s c (by simp <;> omega) (by simp <;> omega)).trans_le (H ⟨2560 + i, by omega⟩), fun i => (blk_congr s c (by simp <;> omega) (by simp <;> omega)).trans_le (H ⟨2816 + i, by omega⟩), fun i => (blk_congr s c (by simp <;> omega) (by simp <;> omega)).trans_le (H ⟨3072 + i, by omega⟩), fun i => (blk_congr s c (by simp <;> omega) (by simp <;> omega)).trans_le (H ⟨3328 + i, by omega⟩), fun i => (blk_congr s c (by simp <;> omega) (by simp <;> omega)).trans_le (H ⟨3584 + i, by omega⟩), fun i => (blk_congr s c (by simp <;> omega) (by simp <;> omega)).trans_le (H ⟨3840 + i, by omega⟩)⟩

/-- A sum of sixteen terms written out. -/
theorem sum_sixteen (g : Fin 16 → EReal) : ∑ j, g j = g 0 + g 1 + g 2 + g 3 + g 4 + g 5 + g 6 + g 7 + g 8 + g 9 + g 10 + g 11 + g 12
    + g 13 + g 14 + g 15 := by
  simp only [Fin.sum_univ_castSucc]
  simp

/-- The sum over all rows is the sixteen blocks' sums in turn. -/
theorem sum_blocks (f : Fin 4096 → EReal) : ∑ r, f r =
    (∑ i : Fin 256, f ⟨0 + i, by omega⟩) + (∑ i : Fin 256, f ⟨256 + i, by omega⟩) + (∑ i : Fin 256, f ⟨512 + i, by omega⟩) + (∑ i : Fin 256, f ⟨768 + i, by omega⟩) + (∑ i : Fin 256, f ⟨1024 + i, by omega⟩) + (∑ i : Fin 256, f ⟨1280 + i, by omega⟩) + (∑ i : Fin 256, f ⟨1536 + i, by omega⟩) + (∑ i : Fin 256, f ⟨1792 + i, by omega⟩) + (∑ i : Fin 256, f ⟨2048 + i, by omega⟩) + (∑ i : Fin 256, f ⟨2304 + i, by omega⟩) + (∑ i : Fin 256, f ⟨2560 + i, by omega⟩) + (∑ i : Fin 256, f ⟨2816 + i, by omega⟩) + (∑ i : Fin 256, f ⟨3072 + i, by omega⟩) + (∑ i : Fin 256, f ⟨3328 + i, by omega⟩) + (∑ i : Fin 256, f ⟨3584 + i, by omega⟩) + (∑ i : Fin 256, f ⟨3840 + i, by omega⟩) := by
  rw [Fin.sum_univ_tiles 16 256 rfl f, sum_sixteen]
  rfl

/-- The sum over the eights is the sum over the block. -/
theorem sum_eights (f : Fin 256 → EReal) : ∑ i : Fin 8, ∑ j : Fin 32, f ⟨j * 8 + i, by omega⟩ = ∑ i, f i := by
  rw [Finset.sum_comm, Fin.sum_univ_tiles 32 8 rfl f]

/-- A block's column sum over the eights is its column sum. -/
theorem block_eights (s : Blocks S256x512 .f32) (c : Fin 512) (o : ℕ) (h : o + 256 ≤ 4096) :
    ∑ i : Fin 8, ∑ j : Fin 32, s o h (ix2 ⟨j * 8 + i, by omega⟩ c) = ∑ i, s o h (ix2 i c) :=
  sum_eights fun i => s o h (ix2 i c)

/-- A block's column sum, its rows numbered among all rows. -/
theorem block_sum (s : Blocks S256x512 .f32) (c : Fin 512) (o : ℕ) (h : o + 256 ≤ 4096) (ho : o % 256 = 0) :
    ∑ i : Fin 256, s o h (ix2 i c) = ∑ i : Fin 256, row s c ⟨o + i, by omega⟩ :=
  Finset.sum_congr rfl fun i _ => blk_congr s c (by simp <;> omega) (by simp <;> omega)

/-- The sum of the weights over all rows. -/
theorem rowSum_apply (s : Blocks S256x512 .f32) (c : Fin 512) : rowSum s (ix1 c) = ∑ r, row s c r := by
  have e : rowSum s (ix1 c) = ∑ i : Fin 8,
      (pstep (pstep (pstep (pstep (pstep (pstep (pstep (pstep (pstep (pstep (pstep (pstep (pstep (pstep (pstep (pstep (broadcast S8x512 (Scalar.ofBits .f32 0x00000000#32 : Ideal .f32)) (s 0 (by omega))) (s 256 (by omega))) (s 512 (by omega))) (s 768 (by omega))) (s 1024 (by omega))) (s 1280 (by omega))) (s 1536 (by omega))) (s 1792 (by omega))) (s 2048 (by omega))) (s 2304 (by omega))) (s 2560 (by omega))) (s 2816 (by omega))) (s 3072 (by omega))) (s 3328 (by omega))) (s 3584 (by omega))) (s 3840 (by omega))) (ix2 i c) := by
    unfold rowSum; pointwise
  have b : ∀ i : Fin 8, broadcast S8x512 (Scalar.ofBits .f32 0x00000000#32 : Ideal .f32) (ix2 i c) = (0 : EReal) := fun i => zeroWord
  rw [e]
  simp only [pstep_apply, b, zero_add, Finset.sum_add_distrib]
  simp only [block_eights]
  rw [sum_blocks]
  refine (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (block_sum s c 0 _ (by decide)) (block_sum s c 256 _ (by decide))) (block_sum s c 512 _ (by decide))) (block_sum s c 768 _ (by decide))) (block_sum s c 1024 _ (by decide))) (block_sum s c 1280 _ (by decide))) (block_sum s c 1536 _ (by decide))) (block_sum s c 1792 _ (by decide))) (block_sum s c 2048 _ (by decide))) (block_sum s c 2304 _ (by decide))) (block_sum s c 2560 _ (by decide))) (block_sum s c 2816 _ (by decide))) (block_sum s c 3072 _ (by decide))) (block_sum s c 3328 _ (by decide))) (block_sum s c 3584 _ (by decide))) (block_sum s c 3840 _ (by decide)))

/-- Value column `r` of the sixteen blocks at row `i`. -/
def col (v : Blocks S1x1x1x64x256 .bf16) (i : Fin 64) (r : Fin 4096) : EReal :=
  v (256 * (r / 256)) (by omega) (ix5 0 0 0 i ⟨r % 256, by omega⟩)

/-- A value block's entry depends on its offset and its column only. -/
theorem vblk_congr (v : Blocks S1x1x1x64x256 .bf16) (i : Fin 64) {o o' : ℕ} {h : o + 256 ≤ 4096} {h' : o' + 256 ≤ 4096} {j j' : Fin 256}
    (e : o = o') (e' : j.val = j'.val) : v o h (ix5 0 0 0 i j) = v o' h' (ix5 0 0 0 i j') := by
  subst e; rw [Fin.ext e']

/-- A block's weighted sum, its rows numbered among all rows. -/
theorem block_wsum (v : Blocks S1x1x1x64x256 .bf16) (s : Blocks S256x512 .f32) (i : Fin 64) (c : Fin 512) (o : ℕ) (h : o + 256 ≤ 4096)
    (ho : o % 256 = 0) : ∑ r : Fin 256, v o h (ix5 0 0 0 i r) * s o h (ix2 r c) =
      ∑ r : Fin 256, (fun r => col v i r * row s c r) ⟨o + r, by omega⟩ :=
  Finset.sum_congr rfl fun r _ => congrArg₂ (· * ·) (vblk_congr v i (by simp <;> omega) (by simp <;> omega))
    (blk_congr s c (by simp <;> omega) (by simp <;> omega))

/-- The weighted sum of the values over all rows. -/
theorem acc_apply (v : Blocks S1x1x1x64x256 .bf16) (p : Blocks S256x512 .f32) (i : Fin 64) (c : Fin 512) :
    acc v p (ix3 0 i c) = ∑ r : Fin 4096, col v i r * row p c r := by
  have b : shapeCast S1x64x512 (broadcast S64x512 (Scalar.ofBits .f32 0x00000000#32 : Ideal .f32)) shapeCasts_S64x512_S1x64x512 (ix3 0 i c) = (0 : EReal) := zeroWord
  unfold acc
  simp only [astep_apply, b, zero_add]
  rw [sum_blocks]
  refine (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (block_wsum v p i c 0 _ (by decide)) (block_wsum v p i c 256 _ (by decide))) (block_wsum v p i c 512 _ (by decide))) (block_wsum v p i c 768 _ (by decide))) (block_wsum v p i c 1024 _ (by decide))) (block_wsum v p i c 1280 _ (by decide))) (block_wsum v p i c 1536 _ (by decide))) (block_wsum v p i c 1792 _ (by decide))) (block_wsum v p i c 2048 _ (by decide))) (block_wsum v p i c 2304 _ (by decide))) (block_wsum v p i c 2560 _ (by decide))) (block_wsum v p i c 2816 _ (by decide))) (block_wsum v p i c 3072 _ (by decide))) (block_wsum v p i c 3328 _ (by decide))) (block_wsum v p i c 3584 _ (by decide))) (block_wsum v p i c 3840 _ (by decide)))

end Cert.KernelIdeal.Att

end
-- ==== Proof.AttRunB.lean ====
/- What an odd grid point of the attention leaves: the tile's output from the even slot, the next tile's scores and maxima in the odd slot. -/
module

public import proofs.«01_k».proof.Proof.AttOps
public import Idealize.ShloMosaic.Lib.Pipeline.ValueKit

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

/-- The keys' rows `o … o + 255`. -/
abbrev kRows (x1 : Vec Ideal S1x1x4096x128 .bf16) (o : ℕ) (h : o + 256 ≤ 4096) : Vec Ideal S1x1x256x128 .bf16 :=
  View.ld x1 (Rect.unit ![0, 0, o, 0] ![1, 1, 256, 128] (by intro a; fin_cases a <;> simp <;> omega))

/-- The queries' columns of one half. -/
abbrev qCols (x0 : Vec Ideal S1x1x128x1024 .bf16) (o : ℕ) (h : o + 512 ≤ 1024) : Vec Ideal S1x1x128x512 .bf16 :=
  View.ld x0 (Rect.unit ![0, 0, 0, o] ![1, 1, 128, 512] (by intro a; fin_cases a <;> simp <;> omega))

/-- The values' columns `o … o + 255`. -/
abbrev vCols (x2 : Vec Ideal S1x1x8x64x512 .bf16) (o : ℕ) (h : o + 256 ≤ 4096) (j l : ℕ) (hj : j < 8) (hl : l + 256 ≤ 512) : Vec Ideal S1x1x1x64x256 .bf16 :=
  View.ld x2 (Rect.unit ![0, 0, j, 0, l] ![1, 1, 1, 64, 256] (by intro a; fin_cases a <;> simp <;> omega))

/-- The stored scores' rows `o … o + 255` of half `u`. -/
abbrev sRows (S : Vec Ideal S2x4096x512 .f32) (u : ℕ) (hu : u < 2) (o : ℕ) (h : o + 256 ≤ 4096) : Vec Ideal S1x256x512 .f32 :=
  View.ld S (Rect.unit ![u, o, 0] ![1, 256, 512] (by intro a; fin_cases a <;> simp <;> omega))

/-- The stored maxima of half `u`. -/
abbrev mCols (M : Vec Ideal S2x1x512 .f32) (u : ℕ) (hu : u < 2) : Vec Ideal S1x1x512 .f32 :=
  View.ld M (Rect.unit ![u, 0, 0] ![1, 1, 512] (by intro a; fin_cases a <;> simp <;> omega))

variable (m : (ℓ : Loc nD τ sig) → Buf (Elt Ideal) ℓ)

/-- A scratch array read back whole is what was put there. -/
theorem read_scores (x : Vec Ideal S2x4096x512 .f32) :
    View.read (Elt Ideal) (View.whole cc0_scratch0) ((Memref.isWhole_whole cc0_scratch0).unread x) = x :=
  (Memref.isWhole_whole cc0_scratch0).read_unread x

theorem read_maxima (x : Vec Ideal S2x1x512 .f32) :
    View.read (Elt Ideal) (View.whole cc0_scratch2) ((Memref.isWhole_whole cc0_scratch2).unread x) = x :=
  (Memref.isWhole_whole cc0_scratch2).read_unread x

/-- The scores of a tile's half `u`, for every block of rows. -/
abbrev scs (x0 : Vec Ideal S1x1x128x1024 .bf16) (x1 : Vec Ideal S1x1x4096x128 .bf16) (u : Fin 2) : Blocks S256x512 .f32 :=
  fun o h => sc (qCols x0 (512 * u) (by omega)) (kRows x1 o h)

/-- The weights of half `u`, from stored scores and maxima, for every block of rows. -/
abbrev prs (S : Vec Ideal S2x4096x512 .f32) (M : Vec Ideal S2x1x512 .f32) (u : Fin 2) : Blocks S256x512 .f32 :=
  fun o h => prob (mCols M u u.2) (sRows S u u.2 o h)

/-- The values, for every block of columns. -/
abbrev vls (x2 : Vec Ideal S1x1x8x64x512 .bf16) : Blocks S1x1x1x64x256 .bf16 :=
  fun o h => vCols x2 o h (o / 512) (o / 256 % 2 * 256) (by omega) (by omega)

set_option maxHeartbeats 4000000 in
/-- The maxima an odd point leaves. -/
theorem maxima_B (c : Dev nD) (t : Fin cfg0.N) (h0 : ¬t.val % 513 = 0) (h1 : ¬t.val % 2 = 0) (h2 : t.val % 2 = 1) (u : Fin 2) (cc : Fin 512) :
    (outsAt0 m c t.val t.isLt).2.2.2.2 (ix3 u 0 cc) = rowMax (scs (iblk m c 0 t) (iblk m c 1 t) u) (ix3 0 0 cc) := by
  rw [outsAt0_B m c t h0 h1 h2]
  dsimp only
  frame_out
  canon_tiles x h
  all_goals
    idx_vars x
    obtain rfl : x2 = cc := Fin.ext (Eq.symm h2)
    obtain rfl : x0 = 0 := Subsingleton.elim _ _
    obtain rfl : x1 = 0 := Subsingleton.elim _ _
  · obtain rfl : u = 1 := Fin.ext (by have : u.val = _ := h0; omega)
    exact congrFun (g := rowMax (scs (iblk m c 0 t) (iblk m c 1 t) 1)) rfl _
  · obtain rfl : u = 0 := Fin.ext (by have : u.val = _ := h0; omega)
    exact congrFun (g := rowMax (scs (iblk m c 0 t) (iblk m c 1 t) 0)) rfl _

set_option maxHeartbeats 4000000 in
/-- The output an odd point leaves. -/
theorem out_B (c : Dev nD) (t : Fin cfg0.N) (h0 : ¬t.val % 513 = 0) (h1 : ¬t.val % 2 = 0) (h2 : t.val % 2 = 1) (i : Fin 64) (u : Fin 2) (cc : Fin 512) :
    (outsAt0 m c t.val t.isLt).1 (ix3 0 i ⟨512 * u + cc, by omega⟩) = quot
      (acc (vls (iblk m c 2 t)) (prs (outsAt0 m c (t.val - 1) (by omega)).2.1 (outsAt0 m c (t.val - 1) (by omega)).2.2.2.1 u))
      (rowSum (prs (outsAt0 m c (t.val - 1) (by omega)).2.1 (outsAt0 m c (t.val - 1) (by omega)).2.2.2.1 u)) (ix3 0 i cc) := by
  rw [outsAt0_B m c t h0 h1 h2]
  dsimp only
  frame_out
  simp only [View.readCov_cons_toLoadRect, read_scores, read_maxima]
  canon_tiles x h
  all_goals
    idx_vars x
    obtain rfl : x0 = 0 := Subsingleton.elim _ _
    obtain rfl : x1 = i := Fin.ext (Eq.symm h1)
  · have h2' : 512 * u.val + cc.val = 512 + x2.val := h2
    obtain rfl : u = 1 := Fin.ext (by show u.val = 1; omega)
    obtain rfl : cc = x2 := Fin.ext (by simp at h2'; omega)
    exact congrFun (g := quot (acc (vls (iblk m c 2 t)) (prs (outsAt0 m c (t.val - 1) (by omega)).2.1 (outsAt0 m c (t.val - 1) (by omega)).2.2.2.1 1))
      (rowSum (prs (outsAt0 m c (t.val - 1) (by omega)).2.1 (outsAt0 m c (t.val - 1) (by omega)).2.2.2.1 1))) rfl _
  · have h2' : 512 * u.val + cc.val = x2.val := h2
    obtain rfl : u = 0 := Fin.ext (by show u.val = 0; omega)
    obtain rfl : cc = x2 := Fin.ext (by simp at h2'; omega)
    exact congrFun (g := quot (acc (vls (iblk m c 2 t)) (prs (outsAt0 m c (t.val - 1) (by omega)).2.1 (outsAt0 m c (t.val - 1) (by omega)).2.2.2.1 0))
      (rowSum (prs (outsAt0 m c (t.val - 1) (by omega)).2.1 (outsAt0 m c (t.val - 1) (by omega)).2.2.2.1 0))) rfl _

/-- A stored block of scores, at an index, is its row of the tile's scores. -/
theorem score_store (x0 : Vec Ideal S1x1x128x1024 .bf16) (x1 : Vec Ideal S1x1x4096x128 .bf16) (u : Fin 2) (v o : ℕ) (hv : v + 512 ≤ 1024) (h : o + 256 ≤ 4096)
    (r : Fin 4096) (e0 : Fin 1) (e1 : Fin 256) (e2 cc : Fin 512) (hu : v = 512 * u) (ho : o % 256 = 0) (hr : r.val = o + e1) (hc : cc.val = e2) :
    shapeCast S1x256x512 (sc (qCols x0 v hv) (kRows x1 o h)) shapeCasts_S256x512_S1x256x512 (ix3 e0 e1 e2) = row (scs x0 x1 u) cc r := by
  subst hu
  obtain rfl : cc = e2 := Fin.ext hc
  refine Eq.trans ?_ (blk_congr (scs x0 x1 u) cc (o := o) (i := e1) (h := h) (by omega) (by show e1.val = r % 256; omega))
  pointwise

set_option maxHeartbeats 4000000 in
/-- The scores an odd point leaves. -/
theorem scores_B (c : Dev nD) (t : Fin cfg0.N) (h0 : ¬t.val % 513 = 0) (h1 : ¬t.val % 2 = 0) (h2 : t.val % 2 = 1) (u : Fin 2) (r : Fin 4096) (cc : Fin 512) :
    (outsAt0 m c t.val t.isLt).2.2.1 (ix3 u r cc) = row (scs (iblk m c 0 t) (iblk m c 1 t) u) cc r := by
  rw [outsAt0_B m c t h0 h1 h2]
  dsimp only
  frame_out
  canon_tiles x h
  all_goals
    idx_vars x
    refine score_store _ _ u _ _ ?_ ?_ r x0 x1 x2 cc ?_ ?_ ?_ ?_ <;> (try simp only [ix3_0, ix3_1, ix3_2] at h0 h1 h2) <;> omega

end Cert.KernelIdeal.Att

end
-- ==== Proof.AttRunC.lean ====
/- What an even grid point of the attention leaves: the tile's output from the odd slot, the next tile's scores and maxima in the even slot. -/
module

public import proofs.«01_k».proof.Proof.AttRunB
public import Idealize.ShloMosaic.Lib.Pipeline.ValueKit

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

theorem read_scores1 (x : Vec Ideal S2x4096x512 .f32) :
    View.read (Elt Ideal) (View.whole cc0_scratch1) ((Memref.isWhole_whole cc0_scratch1).unread x) = x :=
  (Memref.isWhole_whole cc0_scratch1).read_unread x

theorem read_maxima1 (x : Vec Ideal S2x1x512 .f32) :
    View.read (Elt Ideal) (View.whole cc0_scratch3) ((Memref.isWhole_whole cc0_scratch3).unread x) = x :=
  (Memref.isWhole_whole cc0_scratch3).read_unread x

variable (m : (ℓ : Loc nD τ sig) → Buf (Elt Ideal) ℓ)

set_option maxHeartbeats 4000000 in
/-- The maxima the first point leaves. -/
theorem maxima_A (c : Dev nD) (t : Fin cfg0.N) (h0 : t.val % 513 = 0) (h1 : t.val % 2 = 0) (h2 : ¬t.val % 2 = 1) (u : Fin 2) (cc : Fin 512) :
    (outsAt0 m c t.val t.isLt).2.2.2.1 (ix3 u 0 cc) = rowMax (scs (iblk m c 0 t) (iblk m c 1 t) u) (ix3 0 0 cc) := by
  rw [outsAt0_A m c t h0 h1 h2]
  dsimp only
  frame_out
  canon_tiles x h
  all_goals
    idx_vars x
    obtain rfl : x2 = cc := Fin.ext (Eq.symm h2)
    obtain rfl : x0 = 0 := Subsingleton.elim _ _
    obtain rfl : x1 = 0 := Subsingleton.elim _ _
  · obtain rfl : u = 1 := Fin.ext (by have : u.val = _ := h0; omega)
    exact congrFun (g := rowMax (scs (iblk m c 0 t) (iblk m c 1 t) 1)) rfl _
  · obtain rfl : u = 0 := Fin.ext (by have : u.val = _ := h0; omega)
    exact congrFun (g := rowMax (scs (iblk m c 0 t) (iblk m c 1 t) 0)) rfl _

set_option maxHeartbeats 4000000 in
/-- The maxima an even point leaves. -/
theorem maxima_C (c : Dev nD) (t : Fin cfg0.N) (h0 : ¬t.val % 513 = 0) (h1 : t.val % 2 = 0) (h2 : ¬t.val % 2 = 1) (u : Fin 2) (cc : Fin 512) :
    (outsAt0 m c t.val t.isLt).2.2.2.1 (ix3 u 0 cc) = rowMax (scs (iblk m c 0 t) (iblk m c 1 t) u) (ix3 0 0 cc) := by
  rw [outsAt0_C m c t h0 h1 h2]
  dsimp only
  frame_out
  canon_tiles x h
  all_goals
    idx_vars x
    obtain rfl : x2 = cc := Fin.ext (Eq.symm h2)
    obtain rfl : x0 = 0 := Subsingleton.elim _ _
    obtain rfl : x1 = 0 := Subsingleton.elim _ _
  · obtain rfl : u = 1 := Fin.ext (by have : u.val = _ := h0; omega)
    exact congrFun (g := rowMax (scs (iblk m c 0 t) (iblk m c 1 t) 1)) rfl _
  · obtain rfl : u = 0 := Fin.ext (by have : u.val = _ := h0; omega)
    exact congrFun (g := rowMax (scs (iblk m c 0 t) (iblk m c 1 t) 0)) rfl _

set_option maxHeartbeats 4000000 in
/-- The output an even point leaves. -/
theorem out_C (c : Dev nD) (t : Fin cfg0.N) (h0 : ¬t.val % 513 = 0) (h1 : t.val % 2 = 0) (h2 : ¬t.val % 2 = 1) (i : Fin 64) (u : Fin 2) (cc : Fin 512) :
    (outsAt0 m c t.val t.isLt).1 (ix3 0 i ⟨512 * u + cc, by omega⟩) = quot
      (acc (vls (iblk m c 2 t)) (prs (outsAt0 m c (t.val - 1) (by omega)).2.2.1 (outsAt0 m c (t.val - 1) (by omega)).2.2.2.2 u))
      (rowSum (prs (outsAt0 m c (t.val - 1) (by omega)).2.2.1 (outsAt0 m c (t.val - 1) (by omega)).2.2.2.2 u)) (ix3 0 i cc) := by
  rw [outsAt0_C m c t h0 h1 h2]
  dsimp only
  frame_out
  simp only [View.readCov_cons_toLoadRect, read_scores1, read_maxima1]
  canon_tiles x h
  all_goals
    idx_vars x
    obtain rfl : x0 = 0 := Subsingleton.elim _ _
    obtain rfl : x1 = i := Fin.ext (Eq.symm h1)
  · have h2' : 512 * u.val + cc.val = 512 + x2.val := h2
    obtain rfl : u = 1 := Fin.ext (by show u.val = 1; omega)
    obtain rfl : cc = x2 := Fin.ext (by simp at h2'; omega)
    exact congrFun (g := quot (acc (vls (iblk m c 2 t)) (prs (outsAt0 m c (t.val - 1) (by omega)).2.2.1 (outsAt0 m c (t.val - 1) (by omega)).2.2.2.2 1))
      (rowSum (prs (outsAt0 m c (t.val - 1) (by omega)).2.2.1 (outsAt0 m c (t.val - 1) (by omega)).2.2.2.2 1))) rfl _
  · have h2' : 512 * u.val + cc.val = x2.val := h2
    obtain rfl : u = 0 := Fin.ext (by show u.val = 0; omega)
    obtain rfl : cc = x2 := Fin.ext (by simp at h2'; omega)
    exact congrFun (g := quot (acc (vls (iblk m c 2 t)) (prs (outsAt0 m c (t.val - 1) (by omega)).2.2.1 (outsAt0 m c (t.val - 1) (by omega)).2.2.2.2 0))
      (rowSum (prs (outsAt0 m c (t.val - 1) (by omega)).2.2.1 (outsAt0 m c (t.val - 1) (by omega)).2.2.2.2 0))) rfl _

set_option maxHeartbeats 4000000 in
/-- The scores the first point leaves. -/
theorem scores_A (c : Dev nD) (t : Fin cfg0.N) (h0 : t.val % 513 = 0) (h1 : t.val % 2 = 0) (h2 : ¬t.val % 2 = 1) (u : Fin 2) (r : Fin 4096) (cc : Fin 512) :
    (outsAt0 m c t.val t.isLt).2.1 (ix3 u r cc) = row (scs (iblk m c 0 t) (iblk m c 1 t) u) cc r := by
  rw [outsAt0_A m c t h0 h1 h2]
  dsimp only
  frame_out
  canon_tiles x h
  all_goals
    idx_vars x
    refine score_store _ _ u _ _ ?_ ?_ r x0 x1 x2 cc ?_ ?_ ?_ ?_ <;> (try simp only [ix3_0, ix3_1, ix3_2] at h0 h1 h2) <;> omega

set_option maxHeartbeats 4000000 in
/-- The scores an even point leaves. -/
theorem scores_C (c : Dev nD) (t : Fin cfg0.N) (h0 : ¬t.val % 513 = 0) (h1 : t.val % 2 = 0) (h2 : ¬t.val % 2 = 1) (u : Fin 2) (r : Fin 4096) (cc : Fin 512) :
    (outsAt0 m c t.val t.isLt).2.1 (ix3 u r cc) = row (scs (iblk m c 0 t) (iblk m c 1 t) u) cc r := by
  rw [outsAt0_C m c t h0 h1 h2]
  dsimp only
  frame_out
  canon_tiles x h
  all_goals
    idx_vars x
    refine score_store _ _ u _ _ ?_ ?_ r x0 x1 x2 cc ?_ ?_ ?_ ?_ <;> (try simp only [ix3_0, ix3_1, ix3_2] at h0 h1 h2) <;> omega

end Cert.KernelIdeal.Att

end
-- ==== Proof.AttBlk.lean ====
/- The attention's windows: block indices, and the queries', keys' and values' blocks read at an index of the program's arguments. -/
module

public import proofs.«01_k».proof.Proof.AttRunC
public import proofs.«01_k».proof.Proof.Gen.KernelIdeal.Value

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The score windows' block indices at a point before the last: batch, head, query tile of tile `t`. -/
theorem idxS : ∀ t : Fin cfg0.N, t.val < 512 → win0_0.index t = ![t.val / 32, t.val / 4 % 8, 0, t.val % 4]
    ∧ win0_1.index t = ![t.val / 32, t.val / 4 % 8, 0, 0] :=
  (by decide +kernel : ∀ t : Fin grid0.N, _)

/-- The value windows' block indices at a point after the first: batch, head, query tile of tile `t - 1`. -/
theorem idxV : ∀ t : Fin cfg0.N, 0 < t.val → win0_2.index t = ![(t.val - 1) / 32, (t.val - 1) / 4 % 8, 0, 0, 0]
    ∧ win0_3.index t = ![(t.val - 1) / 32, (t.val - 1) / 4 % 8, (t.val - 1) % 4] :=
  (by decide +kernel : ∀ t : Fin grid0.N, _)

/-- The query, key and value arguments as arrays of extended reals. -/
abbrev qA (c : Dev nD) : FVec Ideal S16x4096x8x96 .f32 := m ((c : Thread nD τ).loc main_arg0)
abbrev kA (c : Dev nD) : FVec Ideal S16x4096x8x96 .f32 := m ((c : Thread nD τ).loc main_arg1)
abbrev vA (c : Dev nD) : FVec Ideal S16x4096x8x64 .f32 := m ((c : Thread nD τ).loc main_arg2)

/-- The scale of the queries. -/
abbrev sg : EReal := Ideal.div (Ideal.ofBits .f32 0x3DD105EC#32) (Ideal.log (Ideal.ofBits .f32 0x40000000#32))

/-- The padding value: the integer zero as a float. -/
theorem zeroPad : (FloatOps.sitofp .f32 0#32 : Ideal .f32) = (0 : EReal) := by
  show ((((0#32 : BitVec 32).toInt : ℝ)) : EReal) = 0
  simp

/-- The prepared queries: scaled, and zero in the padded lanes. -/
theorem qV (c : Dev nD) (b : Fin 16) (h : Fin 8) (d : Fin 128) (n : Fin 4096) :
    (V m c main_v6 : FVec Ideal S16x8x128x4096 .bf16) (ix4 b h d n) = if hd : d.val < 96 then qA m c (ix4 b n h ⟨d, hd⟩) * sg else 0 := by
  simp only [V, hostOps0, hostOps0_1, hostOps0_2, hostOps0_3, hostOps0_4, List.flatten_cons, List.flatten_nil, List.append_nil, List.cons_append, List.nil_append]
  entry_read
  dsimp only [StableHlo.TRef.toBuf, StableHlo.TRef.ofBuf]
  simp only [cast_eq, eqRec_eq_cast]
  pointwise
  rw [zeroPad]

/-- The prepared keys: zero in the padded lanes. -/
theorem kV (c : Dev nD) (b : Fin 16) (h : Fin 8) (r : Fin 4096) (d : Fin 128) :
    (V m c main_v9 : FVec Ideal S16x8x4096x128 .bf16) (ix4 b h r d) = if hd : d.val < 96 then kA m c (ix4 b r h ⟨d, hd⟩) else 0 := by
  simp only [V, hostOps0, hostOps0_1, hostOps0_2, hostOps0_3, hostOps0_4, List.flatten_cons, List.flatten_nil, List.append_nil, List.cons_append, List.nil_append]
  entry_read
  dsimp only [StableHlo.TRef.toBuf, StableHlo.TRef.ofBuf]
  simp only [cast_eq, eqRec_eq_cast]
  pointwise
  rw [zeroPad]

/-- The prepared values. -/
theorem vV (c : Dev nD) (b : Fin 16) (h : Fin 8) (j : Fin 8) (i : Fin 64) (x : Fin 512) :
    (V m c main_v12 : FVec Ideal S16x8x8x64x512 .bf16) (ix5 b h j i x) = vA m c (ix4 b ⟨j * 512 + x, by omega⟩ h i) := by
  simp only [V, hostOps0, hostOps0_1, hostOps0_2, hostOps0_3, hostOps0_4, List.flatten_cons, List.flatten_nil, List.append_nil, List.cons_append, List.nil_append]
  entry_read
  pointwise

/-- The queries at a point. -/
theorem q_apply (c : Dev nD) (t : Fin cfg0.N) (ht : t.val < 512) (b : Fin 16) (h : Fin 8) (n : Fin 4096) (d : Fin 128) (x : Fin 1024)
    (hb : (b : ℕ) = t.val / 32) (hh : (h : ℕ) = t.val / 4 % 8) (hn : (n : ℕ) = t.val % 4 * 1024 + x) :
    (iblk m c 0 t : FVec Ideal S1x1x128x1024 .bf16) (ix4 0 0 d x) = if hd : d.val < 96 then qA m c (ix4 b n h ⟨d, hd⟩) * sg else 0 := by
  rw [← qV]
  show V m c main_v6 (((cfg0.win 0).blk t).view.emb (ix4 0 0 d x)) = _
  refine congrArg (V m c main_v6) ?_
  blk_ext [idxS t ht]

/-- The keys at a point. -/
theorem k_apply (c : Dev nD) (t : Fin cfg0.N) (ht : t.val < 512) (b : Fin 16) (h : Fin 8) (r : Fin 4096) (d : Fin 128)
    (hb : (b : ℕ) = t.val / 32) (hh : (h : ℕ) = t.val / 4 % 8) :
    (iblk m c 1 t : FVec Ideal S1x1x4096x128 .bf16) (ix4 0 0 r d) = if hd : d.val < 96 then kA m c (ix4 b r h ⟨d, hd⟩) else 0 := by
  rw [← kV]
  show V m c main_v9 (((cfg0.win 1).blk t).view.emb (ix4 0 0 r d)) = _
  refine congrArg (V m c main_v9) ?_
  blk_ext [idxS t ht]

/-- The values at a point. -/
theorem v_apply (c : Dev nD) (t : Fin cfg0.N) (ht : 0 < t.val) (b : Fin 16) (h : Fin 8) (j : Fin 8) (i : Fin 64) (x : Fin 512)
    (hb : (b : ℕ) = (t.val - 1) / 32) (hh : (h : ℕ) = (t.val - 1) / 4 % 8) :
    (iblk m c 2 t : FVec Ideal S1x1x8x64x512 .bf16) (ix5 0 0 j i x) = vA m c (ix4 b ⟨j * 512 + x, by omega⟩ h i) := by
  rw [← vV]
  show V m c main_v12 (((cfg0.win 2).blk t).view.emb (ix5 0 0 j i x)) = _
  refine congrArg (V m c main_v12) ?_
  blk_ext [idxV t ht]

end Cert.KernelIdeal.Att

end
-- ==== Proof.AttRef.lean ====
/- The attention's reference read at an index: scores, maxima, weights, their sum, and the weighted sum of the values. -/
module

public import proofs.«01_k».proof.Proof.Gen.ReferenceIdeal.Read
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Read

variable (q k : FVec Ideal S16x4096x8x96 .f32) (v : FVec Ideal S16x4096x8x64 .f32)

/-- The score of query `n` and key `r`, before scaling. -/
def dots (b : Fin 16) (h : Fin 8) (n r : Fin 4096) : EReal := ∑ d : Fin 96, q (ix4 b n h d) * k (ix4 b r h d)

/-- The scaled score. -/
theorem score_apply (b : Fin 16) (h : Fin 8) (n r : Fin 4096) :
    val_main_v2 (F := Ideal) q k (ix4 b h n r) = dots q k b h n r * Ideal.ofBits .f32 0x3DD105EC#32 := by
  rw [val_main_v2_apply, val_main_v1_apply, val_main_cst_apply, val_main_v0_apply]
  have el : ∀ d : Fin 96, lidx_main_v0 (ix4 b h n r) d = ix4 b n h d := fun d => by funext a; fin_cases a <;> rfl
  have er : ∀ d : Fin 96, ridx_main_v0 (ix4 b h n r) d = ix4 b r h d := fun d => by funext a; fin_cases a <;> rfl
  simp only [el, er]
  rfl

/-- The host's maximum along the last axis, at an index. -/
theorem reduceMax (y : FVec Ideal S16x8x4096x4096 .f32) (b : Fin 16) (h : Fin 8) (n : Fin 4096) :
    Host.reduce FloatOps.maximumf y (val_main_cst_0 (F := Ideal)) reducesTo_S16x8x4096x4096_S16x8x4096_d3 h_S_ (ix3 b h n)
      = Finset.univ.fold max (Ideal.ofBits .f32 0xFF800000#32) fun r : Fin 4096 => y (ix4 b h n r) := by
  pointwise [val_main_cst_0]

/-- The maximum of a query's scores. -/
theorem max_apply (b : Fin 16) (h : Fin 8) (n : Fin 4096) :
    val_main_v5 (F := Ideal) q k (ix3 b h n) = max (Ideal.ofBits .f32 0xFF800000#32)
      (Finset.univ.fold max (Ideal.ofBits .f32 0xFF800000#32) fun r : Fin 4096 => val_main_v2 (F := Ideal) q k (ix4 b h n r)) := by
  rw [val_main_v5_apply, val_main_v4_apply, val_main_cst_1_apply]
  unfold val_main_v3
  rw [reduceMax]
  rfl

/-- The unnormalised weight. -/
theorem exp_apply (b : Fin 16) (h : Fin 8) (n r : Fin 4096) :
    val_main_v9 (F := Ideal) q k (ix4 b h n r)
      = Ideal.exp (val_main_v2 (F := Ideal) q k (ix4 b h n r) - val_main_v5 (F := Ideal) q k (ix3 b h n)) := by
  pointwise [val_main_v9, val_main_v8, val_main_v7, val_main_v6]

/-- The result: the values weighted by the normalised weights. -/
theorem out_apply (b : Fin 16) (n : Fin 4096) (e : Fin 512) :
    val_main_v18 (F := Ideal) q k v (ix3 b e n) = ∑ r : Fin 4096, v (ix4 b r ⟨e / 64, by omega⟩ ⟨e % 64, by omega⟩) *
      Ideal.div (val_main_v9 (F := Ideal) q k (ix4 b ⟨e / 64, by omega⟩ n r))
        (∑ r : Fin 4096, val_main_v9 (F := Ideal) q k (ix4 b ⟨e / 64, by omega⟩ n r)) := by
  pointwise [val_main_v18, val_main_v17, val_main_v16, val_main_v15, val_main_v14, val_main_v13, val_main_v12, val_main_v11, val_main_v10, val_main_cst_2]

end Cert.ReferenceIdeal.Att

end
-- ==== Proof.AttMath.lean ====
/- Softmax two ways over the extended reals: weights `exp2 (σ·s - max)` with one division of the weighted sum, and weights
   `exp (c·s - max)` divided one by one, where `σ = c / log 2`. -/
module

public import Idealize.ShloMosaic.Lib.Pointwise

@[expose] public section

set_option maxRecDepth 16384

noncomputable section

namespace Softmax

open Idealize.ShloMosaic

/-- The scale's word is a positive real. -/
theorem scale_pos : ∃ c : ℝ, 0 < c ∧ Ideal.ofBits .f32 0x3DD105EC#32 = (c : EReal) := by
  refine ⟨13698540 / 2 ^ 27, by norm_num, ?_⟩
  simp [Ideal.ofBits, Ideal.ieee, -EReal.coe_mul]
  norm_num

/-- The scale over the logarithm of two. -/
theorem scale_div {c : ℝ} (h : Ideal.ofBits .f32 0x3DD105EC#32 = (c : EReal)) :
    Ideal.div (Ideal.ofBits .f32 0x3DD105EC#32) (Ideal.log (Ideal.ofBits .f32 0x40000000#32)) = ((c / Real.log 2 : ℝ) : EReal) := by
  have h2 : Ideal.ofBits .f32 0x40000000#32 = ((2 : ℝ) : EReal) := by
    simp [Ideal.ofBits, Ideal.ieee, -EReal.coe_mul]
    try norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  rw [h, h2, hl, Ideal.div_coe (Real.log_pos (by norm_num)).ne', ← EReal.coe_mul, mul_one_div]

/-- A sum of reals is real. -/
theorem coe_sum {ι : Type} [Fintype ι] (f : ι → ℝ) : ∑ i, ((f i : ℝ) : EReal) = ((∑ i, f i : ℝ) : EReal) := by
  induction (Finset.univ : Finset ι) using Finset.cons_induction with
  | empty => simp
  | cons a s ha ih => rw [Finset.sum_cons, Finset.sum_cons, ih, EReal.coe_add]

/-- A nonnegative real factor goes into a sum of extended reals. -/
theorem sum_mul {ι : Type} [Fintype ι] (f : ι → EReal) {r : ℝ} (h : 0 ≤ r) : (∑ i, f i) * (r : EReal) = ∑ i, f i * r := by
  induction (Finset.univ : Finset ι) using Finset.cons_induction with
  | empty => simp
  | cons a s ha ih =>
    rw [Finset.sum_cons, Finset.sum_cons, ← ih, EReal.right_distrib_of_nonneg_of_ne_top (by exact_mod_cast h) (EReal.coe_ne_top r)]

/-- The two softmax-weighted sums agree: `M` is the least bound of the scores `σ·S`, `N` that of `c·S`. -/
theorem agree {n : ℕ} [NeZero n] (S : Fin n → ℝ) (V : Fin n → EReal) {c : ℝ} (hc : 0 < c) (M N : EReal)
    (hM : ∀ z, M ≤ z ↔ ∀ r, ((c / Real.log 2 * S r : ℝ) : EReal) ≤ z) (hN : ∀ z, N ≤ z ↔ ∀ r, ((S r * c : ℝ) : EReal) ≤ z) :
    Ideal.div (∑ r, V r * Ideal.exp2 (((c / Real.log 2 * S r : ℝ) : EReal) - M)) (∑ r, Ideal.exp2 (((c / Real.log 2 * S r : ℝ) : EReal) - M))
      = ∑ r, V r * Ideal.div (Ideal.exp (((S r * c : ℝ) : EReal) - N)) (∑ r, Ideal.exp (((S r * c : ℝ) : EReal) - N)) := by
  have hl : 0 < Real.log 2 := Real.log_pos (by norm_num)
  obtain ⟨a, ha⟩ := Finite.exists_max S
  have eM : M = ((c / Real.log 2 * S a : ℝ) : EReal) := by
    refine le_antisymm ((hM _).2 fun r => ?_) ((hM M).1 le_rfl a)
    exact_mod_cast mul_le_mul_of_nonneg_left (ha r) (div_pos hc hl).le
  have eN : N = ((S a * c : ℝ) : EReal) := by
    refine le_antisymm ((hN _).2 fun r => ?_) ((hN N).1 le_rfl a)
    exact_mod_cast mul_le_mul_of_nonneg_right (ha r) hc.le
  have k : ∀ r, Ideal.exp2 (((c / Real.log 2 * S r : ℝ) : EReal) - M) = ((Real.exp (c * (S r - S a)) : ℝ) : EReal) := fun r => by
    rw [eM, ← EReal.coe_sub, ← mul_sub]
    show (((2 : ℝ) ^ (c / Real.log 2 * (S r - S a)) : ℝ) : EReal) = _
    rw [Real.rpow_def_of_pos (by norm_num)]
    congr 2
    field_simp
  have l : ∀ r, Ideal.exp (((S r * c : ℝ) : EReal) - N) = ((Real.exp (c * (S r - S a)) : ℝ) : EReal) := fun r => by
    rw [eN, ← EReal.coe_sub, ← sub_mul, mul_comm]
    rfl
  have p : 0 < ∑ r, Real.exp (c * (S r - S a)) := Finset.sum_pos (fun _ _ => Real.exp_pos _) ⟨a, Finset.mem_univ a⟩
  simp only [k, l, coe_sum]
  rw [Ideal.div_coe p.ne', sum_mul _ (one_div_pos.2 p).le]
  refine Finset.sum_congr rfl fun r _ => ?_
  rw [Ideal.div_coe p.ne', mul_assoc]

end Softmax

end
-- ==== Proof.Att.lean ====
/- The attention's result array is the reference's result: at every grid point after the first the written block holds the softmax-weighted
   sums of the values, from the scores and maxima that the point before left in its slot. -/
module

public import proofs.«01_k».proof.Proof.AttBlk
public import proofs.«01_k».proof.Proof.AttRef
public import proofs.«01_k».proof.Proof.AttMath

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A row of scores as the products of the whole blocks. -/
theorem row_scs (x0 : Vec Ideal S1x1x128x1024 .bf16) (x1 : Vec Ideal S1x1x4096x128 .bf16) (u : Fin 2) (cc : Fin 512) (r : Fin 4096) :
    row (scs x0 x1 u) cc r = ∑ d : Fin 128, x1 (ix4 0 0 r d) * x0 (ix4 0 0 d ⟨512 * u + cc, by omega⟩) := by
  unfold row
  simp only [scs, sc_apply]
  refine Finset.sum_congr rfl fun d _ => congr (congrArg HMul.hMul (congrArg x1 ?_)) (congrArg x0 ?_)
  · funext a; fin_cases a <;> refine Fin.ext ?_ <;> simp [Rect.unit] <;> omega
  · funext a; fin_cases a <;> refine Fin.ext ?_ <;> simp [Rect.unit] <;> omega

/-- A row of weights from stored scores and maxima. -/
theorem row_prs (S : Vec Ideal S2x4096x512 .f32) (M : Vec Ideal S2x1x512 .f32) (u : Fin 2) (cc : Fin 512) (r : Fin 4096) :
    row (prs S M u) cc r = Ideal.exp2 (S (ix3 u r cc) - M (ix3 u 0 cc)) := by
  unfold row
  simp only [prs, prob_apply]
  refine congrArg Ideal.exp2 (congr (congrArg HSub.hSub (congrArg S ?_)) (congrArg M ?_))
  · funext a; fin_cases a <;> refine Fin.ext ?_ <;> simp [Rect.unit] <;> omega
  · funext a; fin_cases a <;> refine Fin.ext ?_ <;> simp [Rect.unit] <;> omega

/-- A column of values. -/
theorem col_vls (x2 : Vec Ideal S1x1x8x64x512 .bf16) (i : Fin 64) (r : Fin 4096) :
    col (vls x2) i r = x2 (ix5 0 0 ⟨r / 512, by omega⟩ i ⟨r % 512, by omega⟩) := by
  unfold col
  refine congrArg x2 ?_
  funext a; fin_cases a <;> refine Fin.ext ?_ <;> simp [Rect.unit] <;> omega

/-- One output entry of a slot: the weighted sum of the values over the sum of the weights. -/
theorem slot_out (x2 : Vec Ideal S1x1x8x64x512 .bf16) (S : Vec Ideal S2x4096x512 .f32) (M : Vec Ideal S2x1x512 .f32) (u : Fin 2) (i : Fin 64)
    (cc : Fin 512) : quot (acc (vls x2) (prs S M u)) (rowSum (prs S M u)) (ix3 0 i cc)
      = Ideal.div (∑ r : Fin 4096, x2 (ix5 0 0 ⟨r / 512, by omega⟩ i ⟨r % 512, by omega⟩) * Ideal.exp2 (S (ix3 u r cc) - M (ix3 u 0 cc)))
        (∑ r : Fin 4096, Ideal.exp2 (S (ix3 u r cc) - M (ix3 u 0 cc))) := by
  rw [quot_apply, acc_apply, rowSum_apply]
  simp only [row_prs, col_vls]

/-- The queries', keys' and values' blocks at a point. -/
abbrev qB (c : Dev nD) (t : Fin cfg0.N) : FVec Ideal S1x1x128x1024 .bf16 := iblk m c 0 t
abbrev kB (c : Dev nD) (t : Fin cfg0.N) : FVec Ideal S1x1x4096x128 .bf16 := iblk m c 1 t
abbrev vB (c : Dev nD) (t : Fin cfg0.N) : FVec Ideal S1x1x8x64x512 .bf16 := iblk m c 2 t

/-- The score of key row `r` and query column `x` at a point. -/
def ks (c : Dev nD) (t : Fin cfg0.N) (x : Fin 1024) (r : Fin 4096) : EReal :=
  ∑ d : Fin 128, kB m c t (ix4 0 0 r d) * qB m c t (ix4 0 0 d x)

/-- `M` is the least bound of the scores of a column. -/
def IsMax (c : Dev nD) (t : Fin cfg0.N) (x : Fin 1024) (M : EReal) : Prop := ∀ z, M ≤ z ↔ ∀ r, ks m c t x r ≤ z

/-- The maximum of a half's rows bounds the whole column. -/
theorem isMax_rowMax (c : Dev nD) (t : Fin cfg0.N) (u : Fin 2) (cc : Fin 512) :
    IsMax m c t ⟨512 * u + cc, by omega⟩ (rowMax (scs (iblk m c 0 t) (iblk m c 1 t) u) (ix3 0 0 cc)) := fun z => by
  rw [rowMax_le]
  simp only [row_scs]
  rfl

/-- An output entry over the scores of point `t` and the values of point `t'`. -/
def soft (c : Dev nD) (t t' : Fin cfg0.N) (x : Fin 1024) (i : Fin 64) (M : EReal) : EReal :=
  Ideal.div (∑ r : Fin 4096, vB m c t' (ix5 0 0 ⟨r / 512, by omega⟩ i ⟨r % 512, by omega⟩) *
    Ideal.exp2 (ks m c t x r - M)) (∑ r : Fin 4096, Ideal.exp2 (ks m c t x r - M))

/-- After an odd point the block holds the softmax of the point before. -/
theorem out_odd (c : Dev nD) (t : Fin cfg0.N) (h2 : t.val % 2 = 1) (i : Fin 64) (u : Fin 2) (cc : Fin 512) :
    ∃ M, IsMax m c ⟨t.val - 1, by omega⟩ ⟨512 * u + cc, by omega⟩ M ∧
      (outsAt0 m c t.val t.isLt).1 (ix3 0 i ⟨512 * u + cc, by omega⟩) = soft m c ⟨t.val - 1, by omega⟩ t ⟨512 * u + cc, by omega⟩ i M := by
  have ht : t.val < 513 := lt_of_lt_of_eq t.isLt N_0
  refine ⟨_, isMax_rowMax m c ⟨t.val - 1, by omega⟩ u cc, ?_⟩
  rw [out_B m c t (by omega) (by omega) h2, slot_out, soft]
  have hs : ∀ r : Fin 4096, (outsAt0 m c (t.val - 1) (by omega)).2.1 (ix3 u r cc) = ks m c ⟨t.val - 1, by omega⟩ ⟨512 * u + cc, by omega⟩ r := fun r => by
    by_cases h : t.val - 1 = 0
    · exact (scores_A m c ⟨t.val - 1, by omega⟩ (by simp only; omega) (by simp only; omega) (by simp only; omega) u r cc).trans (row_scs _ _ u cc r)
    · exact (scores_C m c ⟨t.val - 1, by omega⟩ (by simp only; omega) (by simp only; omega) (by simp only; omega) u r cc).trans (row_scs _ _ u cc r)
  have hm : (outsAt0 m c (t.val - 1) (by omega)).2.2.2.1 (ix3 u 0 cc)
      = rowMax (scs (iblk m c 0 ⟨t.val - 1, by omega⟩) (iblk m c 1 ⟨t.val - 1, by omega⟩) u) (ix3 0 0 cc) := by
    by_cases h : t.val - 1 = 0
    · exact maxima_A m c ⟨t.val - 1, by omega⟩ (by simp only; omega) (by simp only; omega) (by simp only; omega) u cc
    · exact maxima_C m c ⟨t.val - 1, by omega⟩ (by simp only; omega) (by simp only; omega) (by simp only; omega) u cc
  simp only [hs, hm]

/-- After an even point but the first the block holds the softmax of the point before. -/
theorem out_even (c : Dev nD) (t : Fin cfg0.N) (h0 : 0 < t.val) (h1 : t.val % 2 = 0) (i : Fin 64) (u : Fin 2) (cc : Fin 512) :
    ∃ M, IsMax m c ⟨t.val - 1, by omega⟩ ⟨512 * u + cc, by omega⟩ M ∧
      (outsAt0 m c t.val t.isLt).1 (ix3 0 i ⟨512 * u + cc, by omega⟩) = soft m c ⟨t.val - 1, by omega⟩ t ⟨512 * u + cc, by omega⟩ i M := by
  have ht : t.val < 513 := lt_of_lt_of_eq t.isLt N_0
  refine ⟨_, isMax_rowMax m c ⟨t.val - 1, by omega⟩ u cc, ?_⟩
  rw [out_C m c t (by omega) h1 (by omega), slot_out, soft]
  have hs : ∀ r : Fin 4096, (outsAt0 m c (t.val - 1) (by omega)).2.2.1 (ix3 u r cc) = ks m c ⟨t.val - 1, by omega⟩ ⟨512 * u + cc, by omega⟩ r := fun r =>
    (scores_B m c ⟨t.val - 1, by omega⟩ (by simp only; omega) (by simp only; omega) (by simp only; omega) u r cc).trans (row_scs _ _ u cc r)
  have hm : (outsAt0 m c (t.val - 1) (by omega)).2.2.2.2 (ix3 u 0 cc)
      = rowMax (scs (iblk m c 0 ⟨t.val - 1, by omega⟩) (iblk m c 1 ⟨t.val - 1, by omega⟩) u) (ix3 0 0 cc) :=
    maxima_B m c ⟨t.val - 1, by omega⟩ (by simp only; omega) (by simp only; omega) (by simp only; omega) u cc
  simp only [hs, hm]

/-- After a point but the first the block holds the softmax of the point before. -/
theorem out_point (c : Dev nD) (t : Fin cfg0.N) (h0 : 0 < t.val) (i : Fin 64) (x : Fin 1024) :
    ∃ M, IsMax m c ⟨t.val - 1, by omega⟩ x M ∧
      (outsAt0 m c t.val t.isLt).1 (ix3 0 i x) = soft m c ⟨t.val - 1, by omega⟩ t x i M := by
  have e : x = ⟨512 * (⟨x / 512, by omega⟩ : Fin 2) + (⟨x % 512, by omega⟩ : Fin 512), by simp only; omega⟩ := Fin.ext (by simp only; omega)
  rw [e]
  rcases Nat.mod_two_eq_zero_or_one t.val with h | h
  · exact out_even m c t h0 h i _ _
  · exact out_odd m c t h i _ _

end Cert.KernelIdeal.Att

end
-- ==== Proof.AttFinal.lean ====
/- The attention's result array is the reference's result wherever the queries and keys are finite. -/
module

public import proofs.«01_k».proof.Proof.Att
public import proofs.«01_k».proof.Defs

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A score at a point, for real queries and keys: the scaled product over the head's 96 dimensions. -/
theorem ks_real (c : Dev nD) (t : Fin cfg0.N) (ht : t.val < 512) (b : Fin 16) (h : Fin 8) (n : Fin 4096) (x : Fin 1024) (r : Fin 4096)
    (hb : (b : ℕ) = t.val / 32) (hh : (h : ℕ) = t.val / 4 % 8) (hn : (n : ℕ) = t.val % 4 * 1024 + x)
    (qr kr : S16x4096x8x96.Idx → ℝ) (hq : ∀ i, qA m c i = (qr i : EReal)) (hk : ∀ i, kA m c i = (kr i : EReal)) (s : ℝ) (hs : sg = (s : EReal)) :
    ks m c t x r = ((s * ∑ d : Fin 96, qr (ix4 b n h d) * kr (ix4 b r h d) : ℝ) : EReal) := by
  unfold ks
  have e : ∀ d : Fin 128, kB m c t (ix4 0 0 r d) * qB m c t (ix4 0 0 d x)
      = if hd : d.val < 96 then ((s * (qr (ix4 b n h ⟨d, hd⟩) * kr (ix4 b r h ⟨d, hd⟩)) : ℝ) : EReal) else 0 := fun d => by
    unfold kB qB
    rw [k_apply m c t ht b h r d hb hh, q_apply m c t ht b h n d x hb hh hn]
    by_cases hd : d.val < 96
    · simp only [hd, dif_pos]
      rw [hq, hk, hs, ← EReal.coe_mul, ← EReal.coe_mul]
      congr 1
      ring
    · simp only [hd, dif_neg, not_false_eq_true, mul_zero]
  simp only [e]
  rw [Finset.mul_sum, ← Softmax.coe_sum]
  show ∑ d : Fin (96 + 32), _ = _
  rw [Fin.sum_univ_add]
  have z : ∀ d : Fin 32, ¬ (Fin.natAdd 96 d).val < 96 := fun d => by simp
  have p : ∀ d : Fin 96, (Fin.castAdd 32 d).val < 96 := fun d => by simp
  simp only [z, dif_neg, not_false_eq_true, Finset.sum_const_zero, add_zero]
  refine Finset.sum_congr rfl fun d _ => ?_
  rw [dif_pos (p d)]
  rfl

/-- One entry of a written block is the reference's entry. -/
theorem soft_eq (c : Dev nD) (t t' : Fin cfg0.N) (ht : t.val < 512) (ht' : t'.val = t.val + 1) (b : Fin 16) (h : Fin 8) (n : Fin 4096)
    (e : Fin 512) (i : Fin 64) (x : Fin 1024)
    (hb : (b : ℕ) = t.val / 32) (hh : (h : ℕ) = t.val / 4 % 8) (hn : (n : ℕ) = t.val % 4 * 1024 + x) (he : (e : ℕ) = h * 64 + i)
    (hq : ∀ j, ∃ r : ℝ, qA m c j = (r : EReal)) (hk : ∀ j, ∃ r : ℝ, kA m c j = (r : EReal)) (M : EReal) (hM : IsMax m c t x M) :
    soft m c t t' x i M = Cert.ReferenceIdeal.Read.val_main_v18 (F := Ideal) (qA m c) (kA m c) (vA m c) (ix3 b e n) := by
  choose qr hq using hq
  choose kr hk using hk
  obtain ⟨s, hs, es⟩ := Softmax.scale_pos
  have k := fun r => ks_real m c t ht b h n x r hb hh hn qr kr hq hk _ (Softmax.scale_div es)
  have d : ∀ r, Cert.ReferenceIdeal.Read.val_main_v2 (F := Ideal) (qA m c) (kA m c) (ix4 b h n r)
      = (((∑ d : Fin 96, qr (ix4 b n h d) * kr (ix4 b r h d)) * s : ℝ) : EReal) := fun r => by
    rw [Cert.ReferenceIdeal.Att.score_apply, es, EReal.coe_mul, ← Softmax.coe_sum]
    unfold Cert.ReferenceIdeal.Att.dots
    refine congrArg (· * (s : EReal)) (Finset.sum_congr rfl fun d _ => ?_)
    rw [EReal.coe_mul, ← hq, ← hk]
  have eh : (⟨e / 64, by omega⟩ : Fin 8) = h := Fin.ext (by simp only; omega)
  have ei : (⟨e % 64, by omega⟩ : Fin 64) = i := Fin.ext (by simp only; omega)
  have v : ∀ r : Fin 4096, vB m c t' (ix5 0 0 ⟨r / 512, by omega⟩ i ⟨r % 512, by omega⟩) = vA m c (ix4 b r h i) := fun r => by
    unfold vB
    rw [v_apply m c t' (by omega) b h ⟨r / 512, by omega⟩ i ⟨r % 512, by omega⟩ (by omega) (by omega)]
    have er : (⟨r / 512 * 512 + r % 512, by omega⟩ : Fin 4096) = r := Fin.ext (by simp only; omega)
    exact congrArg (fun r => vA m c (ix4 b r h i)) er
  rw [Cert.ReferenceIdeal.Att.out_apply, eh, ei]
  simp only [Cert.ReferenceIdeal.Att.exp_apply, d]
  unfold soft
  unfold IsMax at hM
  simp only [k, v] at hM ⊢
  refine Softmax.agree _ _ hs M _ hM fun z => ?_
  rw [Cert.ReferenceIdeal.Att.max_apply, negInf]
  simp only [max_le_iff, bot_le, true_and, Finset.fold_max_le, Finset.mem_univ, true_implies, d]

/-- The output is written back after the first point only. -/
theorem flush_pos : ∀ t : Fin cfg0.N, (cfg0.win 3).flush t = true → 0 < t.val :=
  (by decide +kernel : ∀ t : Fin grid0.N, _)

/-- What a point writes back, entry by entry. -/
theorem block_eq (c : Dev nD) (t : Fin cfg0.N) (h0 : 0 < t.val) (z : Fin 1) (i : Fin 64) (x : Fin 1024) (b : Fin 16) (e : Fin 512) (n : Fin 4096)
    (hb : (b : ℕ) = (t.val - 1) / 32) (he : (e : ℕ) = (t.val - 1) / 4 % 8 * 64 + i) (hn : (n : ℕ) = (t.val - 1) % 4 * 1024 + x)
    (hq : ∀ j, ∃ r : ℝ, qA m c j = (r : EReal)) (hk : ∀ j, ∃ r : ℝ, kA m c j = (r : EReal)) :
    (outsAt0 m c t.val t.isLt).1 (ix3 z i x) = Cert.ReferenceIdeal.Read.val_main_v18 (F := Ideal) (qA m c) (kA m c) (vA m c) (ix3 b e n) := by
  have ht : t.val < 513 := lt_of_lt_of_eq t.isLt N_0
  obtain ⟨M, hM, eM⟩ := out_point m c t h0 i x
  obtain rfl : z = 0 := Fin.fin_one_eq_zero z
  rw [eM]
  exact soft_eq m c ⟨t.val - 1, by omega⟩ t (by simp only; omega) (by simp only; omega) b ⟨(t.val - 1) / 4 % 8, by omega⟩ n e i x hb rfl hn he
    hq hk M hM

/-- The result array after the run is the reference's result over this program's argument arrays. -/
theorem final (c : Dev nD) (hq : ∀ j, ∃ r : ℝ, qA m c j = (r : EReal)) (hk : ∀ j, ∃ r : ℝ, kA m c j = (r : EReal)) :
    (dats m 0 c).arrAt 3 (cfgs 0).N = Cert.ReferenceIdeal.Read.val_main_v18 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 513 := lt_of_lt_of_eq t.isLt N_0
  have h0 : 0 < t.val := flush_pos t hf
  blk_simp
  rw [after0_3]
  obtain_idx j : S16x512x4096 := [(t.val - 1) / 32, (t.val - 1) / 4 % 8 * 64 + (y 1 : ℕ), (t.val - 1) % 4 * 1024 + (y 2 : ℕ)] with hj
  have hj' : ((cfg0.win 3).blk t).view.emb y = ix3 (j 0) (j 1) (j 2) := by blk_ext [idxV t h0]
  rw [hj', eq_ix3 y]
  exact block_eq m c t h0 _ _ _ _ _ _ hj0 hj1 hj2 hq hk

end Cert.KernelIdeal.Att

end
-- ==== Proof.AttPre.lean ====
/- The precondition of the attention's value claim: finite queries and keys are reals. -/
module

public import proofs.«01_k».proof.Defs
public import proofs.«01_k».proof.Proof.Gen.KernelIdeal
public import Idealize.ShloMosaic.Lib.Pointwise

@[expose] public section

set_option maxRecDepth 16384

noncomputable section

namespace Cert.Pre_finite_qk.Att

open Idealize.ShloMosaic

/-- The predicate's shape condition. -/
theorem facts : Cert.Pre_finite_qk.Facts where
  bcast_S_S16x4096x8x96 := Cert.KernelIdeal.Gen.facts.bcast_S_S16x4096x8x96

/-- The word of infinity is the greatest value. -/
theorem infWord : Ideal.ofBits .f32 0x7F800000#32 = (⊤ : EReal) := by
  simp [Ideal.ofBits, Ideal.ieee, -EReal.coe_mul]

/-- A number whose magnitude is below infinity is real. -/
theorem real_of_abs (x : EReal) (h : max x (-x) < ⊤) : ∃ r : ℝ, x = (r : EReal) := by
  rw [max_lt_iff] at h
  refine ⟨x.toReal, (EReal.coe_toReal h.1.ne fun e => ?_).symm⟩
  rw [e] at h
  simp at h

/-- Where the predicate holds, every query and every key is real. -/
theorem reals [Cert.Pre_finite_qk.Facts] (q k : FVec Ideal S16x4096x8x96 .f32) (v : FVec Ideal S16x4096x8x64 .f32)
    (h : Cert.Pre_finite_qk.fn q k v = fun _ => 1#1) :
    (∀ j, ∃ r : ℝ, q j = (r : EReal)) ∧ ∀ j, ∃ r : ℝ, k j = (r : EReal) := by
  have e : ∀ j : S16x4096x8x96.Idx, Cert.Pre_finite_qk.fn q k v j
      = BitVec.ofBool (decide (max (q j) (-q j) < (⊤ : EReal))) &&& BitVec.ofBool (decide (max (k j) (-k j) < (⊤ : EReal))) := fun j => by
    rw [← infWord]
    pointwise [Cert.Pre_finite_qk.fn]
    rfl
  have d : ∀ j, max (q j) (-q j) < (⊤ : EReal) ∧ max (k j) (-k j) < (⊤ : EReal) := fun j => by
    have hj := (e j).symm.trans (congrFun h j)
    by_cases hq : max (q j) (-q j) < (⊤ : EReal) <;> by_cases hk : max (k j) (-k j) < (⊤ : EReal)
    · exact ⟨hq, hk⟩
    · rw [decide_eq_true hq, decide_eq_false hk] at hj
      exact absurd hj (by decide)
    · rw [decide_eq_false hq, decide_eq_true hk] at hj
      exact absurd hj (by decide)
    · rw [decide_eq_false hq, decide_eq_false hk] at hj
      exact absurd hj (by decide)
  exact ⟨fun j => real_of_abs _ (d j).1, fun j => real_of_abs _ (d j).2⟩

end Cert.Pre_finite_qk.Att

end
-- ==== Proof.FrPay.lean ====
/- The front call's body on one block of 128 rows, read at an index: the normed rows times the input projection, the rotary
   tables, the queries of one head, the keys of one head and the values. The body states each of these once per block and per
   head; here they are functions of the block's rows. -/
module

public import proofs.«01_k».proof.Proof.Gen.Kernel3Ideal.Skeleton
public import Idealize.ShloMosaic.Lib.Pointwise

@[expose] public section

set_option maxRecDepth 16384

noncomputable section

namespace Cert.Kernel3Ideal.Fr

open Idealize.ShloMosaic Idealize.ShloMosaic.TcCoe Idealize.SL.Sem
open Cert.Kernel3Ideal Cert.Kernel3Ideal.Gen

/-- The word of the norms' epsilon. -/
abbrev eps : EReal := Ideal.ofBits .f32 0x358637BD#32

/-- Entry `d` of the row `f` over its root mean square, times the gain `g`; `c` is one over the row's length. -/
def nrm {n : ℕ} (c : EReal) (f g : Fin n → EReal) (d : Fin n) : EReal :=
  f d * Ideal.rsqrt ((∑ k, f k * f k) * c + eps) * g d

/-- The rotated half of a head: lanes 64..79 take minus lanes 80..95, lanes 80..95 take lanes 64..79. -/
def swp (f : Fin 128 → EReal) (d : Fin 128) : EReal :=
  if d.val < 64 then f d
  else if h : d.val < 80 then 0 - f ⟨d.val + 16, by omega⟩
  else if d.val < 96 then f ⟨d.val - 16, by omega⟩
  else f d

/-- The projection of a block of rows. -/
theorem proj_apply (X : Vec Ideal S1x128x1024 .f32) (g : Vec Ideal S1x1024 .f32) (w : Vec Ideal S1024x2560 .bf16)
    (r : Fin 128) (j : Fin 2560) :
    k0_pay5 X g w (ix2 r j) = ∑ d : Fin 1024, nrm (Ideal.ofBits .f32 0x3A800000#32) (fun k => X (ix3 0 r k)) (fun k => g (ix2 0 k)) d * w (ix2 d j) := by
  pointwise [k0_pay5, nrm]

/-- The retention's columns of the projection. -/
theorem ret_apply (X : Vec Ideal S1x128x1024 .f32) (g : Vec Ideal S1x1024 .f32) (w : Vec Ideal S1024x2560 .bf16)
    (r : Fin 128) (j : Fin 2048) :
    k0_pay6 X g w (ix3 0 r j) = k0_pay5 X g w (ix2 r ⟨j.val, by omega⟩) := by
  pointwise [k0_pay6]

/-- The other columns. -/
theorem rest_apply (X : Vec Ideal S1x128x1024 .f32) (g : Vec Ideal S1x1024 .f32) (w : Vec Ideal S1024x2560 .bf16)
    (r : Fin 128) (j : Fin 512) :
    k0_pay7 X g w (ix2 r j) = k0_pay5 X g w (ix2 r ⟨2048 + j.val, by omega⟩) := by
  pointwise [k0_pay7]

/-- All table lanes of a block. -/
theorem full_apply (P : Vec Ideal S1x128x1 .f32) (f ph : Vec Ideal S1x128 .f32) (e : Vec Ideal S128x512 .bf16) (b : Vec Ideal S1x512 .f32)
    (r : Fin 128) (j : Fin 512) :
    k0_pay21 (k0_pay20 P) f ph e b (ix2 r j)
      = (∑ l : Fin 128, Ideal.sin (P (ix3 0 r 0) * f (ix2 0 l) + ph (ix2 0 l)) * e (ix2 l j))
        + (∑ l : Fin 128, (Ideal.sin (P (ix3 0 r 0) * f (ix2 0 l) + ph (ix2 0 l)) - Ideal.sin (P (ix3 0 r 0) * f (ix2 0 l) + ph (ix2 0 l))) * e (ix2 l j))
        + b (ix2 0 j) := by
  pointwise [k0_pay21, k0_pay20]

/-- The retention's table. -/
theorem tab_apply (v : FVec Ideal S128x1 .f32) (f ph : Vec Ideal S1x128 .f32) (e : Vec Ideal S128x512 .bf16) (b : Vec Ideal S1x512 .f32)
    (r : Fin 128) (j : Fin 256) :
    k0_pay22 v f ph e b (ix3 0 r j) = k0_pay21 v f ph e b (ix2 r ⟨j.val, by omega⟩) := by
  pointwise [k0_pay22]

/-- The attention's table. -/
theorem mtab_apply (v : FVec Ideal S128x1 .f32) (f ph : Vec Ideal S1x128 .f32) (e : Vec Ideal S128x512 .bf16) (b : Vec Ideal S1x512 .f32)
    (r : Fin 128) (j : Fin 256) :
    k0_pay23 v f ph e b (ix2 r j) = k0_pay21 v f ph e b (ix2 r ⟨256 + j.val, by omega⟩) := by
  pointwise [k0_pay23]

/-- The queries of all heads, one lane per row. -/
theorem q_apply (m : FVec Ideal S128x512 .f32) (g : Vec Ideal S1x256 .f32) (w : Vec Ideal S1024x256 .bf16) (e : Fin 1024) (r : Fin 128) :
    k0_pay40 m g w (ix2 e r) = ∑ c : Fin 256, w (ix2 e c) * nrm (Ideal.ofBits .f32 0x3B800000#32) (fun k => m (ix2 r ⟨k.val, by omega⟩)) (fun k => g (ix2 0 k)) c := by
  pointwise [k0_pay40, nrm]

theorem qcos_apply (T : FVec Ideal S128x256 .f32) (g : Vec Ideal S128x1 .f32) (d r : Fin 128) :
    k0_pay41 T g (ix2 d r) = g (ix2 d 0) * T (ix2 r ⟨d.val, by omega⟩) := by
  pointwise [k0_pay41, k0_pay39]

theorem qsin_apply (T : FVec Ideal S128x256 .f32) (g : Vec Ideal S128x1 .f32) (d r : Fin 128) :
    k0_pay42 T g (ix2 d r) = g (ix2 d 0) * T (ix2 r ⟨128 + d.val, by omega⟩) := by
  pointwise [k0_pay42, k0_pay39]

/-- The rotated half of a head's lanes, as the body builds it. -/
def qswap (qh : FVec Ideal S128x128 .f32) : FVec Ideal S128x128 .f32 :=
  concatenate S128x128 0 [⟨S64x128, extractStridedSlice S64x128 ![0, 0] qh slices_S128x128_o0_0_S64x128⟩,
    ⟨S16x128, subf (broadcast S16x128 (Scalar.ofBits .f32 0x00000000#32)) (extractStridedSlice S16x128 ![80, 0] qh slices_S128x128_o80_0_S16x128)⟩,
    ⟨S16x128, extractStridedSlice S16x128 ![64, 0] qh slices_S128x128_o64_0_S16x128⟩,
    ⟨S32x128, extractStridedSlice S32x128 ![96, 0] qh slices_S128x128_o96_0_S32x128⟩] concatenates_S64x128_S16x128_S16x128_S32x128_S128x128_d0

theorem qswap_apply (qh : FVec Ideal S128x128 .f32) (d r : Fin 128) :
    qswap qh (ix2 d r) = swp (fun k => qh (ix2 k r)) d := by
  pointwise [qswap, swp]
  have e (a b : Fin 128) (h : a.val = b.val) : qh (ix2 a r) = qh (ix2 b r) := by rw [Fin.ext h]
  by_cases h1 : d.val < 64
  · rw [dif_pos h1, if_pos h1]
  rw [dif_neg h1, if_neg h1]
  by_cases h2 : d.val < 80
  · rw [dif_pos (by omega), dif_pos h2]
    exact congrArg (0 - ·) (e _ _ (by dsimp only; omega))
  rw [dif_neg (by omega), dif_neg h2]
  by_cases h3 : d.val < 96
  · rw [dif_pos (by omega), if_pos h3]
    exact e _ _ (by dsimp only; omega)
  rw [dif_neg (by omega), if_neg h3]
  exact e _ _ (by dsimp only; omega)

/-- One head's queries. -/
def qhead (qc qs qh : FVec Ideal S128x128 .f32) : FVec Ideal S1x1x128x128 .bf16 :=
  k0_pay46 qc qs qh (qswap qh) (mulf qh qh)

/-- One over 96, the named constant. -/
abbrev c96 : EReal := (Named.named κ "inv_96" 0x3C2AAAAB#32 : Ideal .f32)

theorem pay46_apply (qc qs qh sw sq : FVec Ideal S128x128 .f32) (d r : Fin 128) :
    k0_pay46 qc qs qh sw sq (ix4 0 0 d r) = (qh (ix2 d r) * qc (ix2 d r) + sw (ix2 d r) * qs (ix2 d r))
      * (Ideal.rsqrt ((∑ k : Fin 128, sq (ix2 k r)) * c96 + eps) * Ideal.ofBits .f32 0x3E16C740#32) := by
  pointwise [k0_pay46]

theorem qhead_apply (qc qs qh : FVec Ideal S128x128 .f32) (d r : Fin 128) :
    qhead qc qs qh (ix4 0 0 d r) = (qh (ix2 d r) * qc (ix2 d r) + swp (fun k => qh (ix2 k r)) d * qs (ix2 d r))
      * (Ideal.rsqrt ((∑ k : Fin 128, qh (ix2 k r) * qh (ix2 k r)) * c96 + eps) * Ideal.ofBits .f32 0x3E16C740#32) := by
  rw [qhead, pay46_apply, qswap_apply]
  pointwise

/-- The key and value rows after their norm. -/
def ckv (m : FVec Ideal S128x512 .f32) (g : Vec Ideal S1x128 .f32) : FVec Ideal S128x128 .f32 :=
  k0_pay64 (k0_pay35 m) (k0_pay62 g) (k0_pay63 (k0_pay35 m))

theorem ckv_apply (m : FVec Ideal S128x512 .f32) (g : Vec Ideal S1x128 .f32) (r d : Fin 128) :
    ckv m g (ix2 r d) = nrm (Ideal.ofBits .f32 0x3C000000#32) (fun k => m (ix2 r ⟨256 + k.val, by omega⟩)) (fun k => g (ix2 0 k)) d := by
  pointwise [ckv, k0_pay64, k0_pay35, k0_pay62, k0_pay63, nrm]

/-- The first 64 lanes of the keys of all heads. -/
def kall (m : FVec Ideal S128x512 .f32) (g : Vec Ideal S1x128 .f32) (w : Vec Ideal S128x1024 .bf16) : FVec Ideal S128x1024 .f32 :=
  k0_pay65 (k0_pay35 m) (k0_pay62 g) (k0_pay63 (k0_pay35 m)) w

theorem kall_apply (m : FVec Ideal S128x512 .f32) (g : Vec Ideal S1x128 .f32) (w : Vec Ideal S128x1024 .bf16) (r : Fin 128) (j : Fin 1024) :
    kall m g w (ix2 r j) = ∑ c : Fin 128, ckv m g (ix2 r c) * w (ix2 c j) := by
  pointwise [kall, ckv, k0_pay65]

/-- Choosing at the lanes below 32. -/
theorem sel32 (d : Fin 128) (a b : EReal) :
    Scalar.select (IntOp.cmpi CmpIPredicate.slt (BitVec.ofNat 32 d.val) 32#32) a b = if d.val < 32 then a else b := by
  have h : ∀ d : Fin 128, IntOp.cmpi CmpIPredicate.slt (BitVec.ofNat 32 d.val) 32#32 = if d.val < 32 then 1#1 else 0#1 := by decide +kernel
  rw [h]; split <;> rfl

/-- Choosing at the lanes 64..95. -/
theorem sel64 (d : Fin 128) (a b : EReal) :
    Scalar.select (IntOp.andi (IntOp.cmpi CmpIPredicate.sge (BitVec.ofNat 32 d.val) 64#32) (IntOp.cmpi CmpIPredicate.slt (BitVec.ofNat 32 d.val) 96#32)) a b
      = if 64 ≤ d.val ∧ d.val < 96 then a else b := by
  have h : ∀ d : Fin 128, IntOp.andi (IntOp.cmpi CmpIPredicate.sge (BitVec.ofNat 32 d.val) 64#32) (IntOp.cmpi CmpIPredicate.slt (BitVec.ofNat 32 d.val) 96#32)
      = if 64 ≤ d.val ∧ d.val < 96 then 1#1 else 0#1 := by decide +kernel
  rw [h]; split <;> rfl

/-- A sum whose terms past the first `n` are zero. -/
theorem sum_front {N n : ℕ} (hn : n ≤ N) (f : Fin N → EReal) (g : Fin n → EReal)
    (h : ∀ i : Fin N, f i = if h : i.val < n then g ⟨i.val, h⟩ else 0) : ∑ i, f i = ∑ j, g j := by
  obtain ⟨k, rfl⟩ := Nat.exists_eq_add_of_le hn
  rw [Fin.sum_univ_add, Finset.sum_eq_zero (f := fun i : Fin k => f (Fin.natAdd n i)), add_zero]
  · exact Finset.sum_congr rfl fun j _ => by rw [h, dif_pos (by simp)]; rfl
  · intro i _
    rw [h, dif_neg (by simp)]

/-- The sum of squares of the shared rotary lanes. -/
def krsq (m : FVec Ideal S128x512 .f32) : FVec Ideal S128x1 .f32 :=
  k0_pay66 (iota .tc S1x128 32 [1] iota_S1x128_d1_w32) (k0_pay36 m)

theorem krsq_apply (m : FVec Ideal S128x512 .f32) (r : Fin 128) :
    krsq m (ix2 r 0) = ∑ k : Fin 32, m (ix2 r ⟨384 + k.val, by omega⟩) * m (ix2 r ⟨384 + k.val, by omega⟩) := by
  pointwise [krsq, k0_pay66, k0_pay36]
  refine sum_front (by omega) _ _ fun i => ?_
  rw [sel32]
  split <;> rfl

theorem kcos_apply (T : FVec Ideal S128x256 .f32) (g : Vec Ideal S1x128 .f32) (r d : Fin 128) :
    k0_pay67 (k0_pay37 T) g (ix2 r d) = g (ix2 0 d) * T (ix2 r ⟨d.val, by omega⟩) := by
  pointwise [k0_pay67, k0_pay37]

/-- The rotary lanes' term of the keys. -/
def krope (m : FVec Ideal S128x512 .f32) (T : FVec Ideal S128x256 .f32) (g gs : Vec Ideal S1x128 .f32) : FVec Ideal S128x128 .f32 :=
  k0_pay68 k0_pay4 (k0_pay36 m) (k0_pay37 T) (k0_pay38 T) g gs

theorem krope_apply (m : FVec Ideal S128x512 .f32) (T : FVec Ideal S128x256 .f32) (g gs : Vec Ideal S1x128 .f32) (r d : Fin 128) :
    krope m T g gs (ix2 r d) =
      if h : 64 ≤ d.val ∧ d.val < 96 then m (ix2 r ⟨384 + (d.val - 64), by omega⟩) * (g (ix2 0 d) * T (ix2 r ⟨d.val, by omega⟩))
        + m (ix2 r ⟨384 + (d.val - 32), by omega⟩) * (gs (ix2 0 d) * T (ix2 r ⟨128 + d.val, by omega⟩)) else 0 := by
  pointwise [krope, k0_pay68, k0_pay36, k0_pay37, k0_pay38, k0_pay67, k0_pay4]
  rw [sel64, sel64]
  split_ifs with h
  · have e1 : (d.val + 128 - 64) % 128 = d.val - 64 := by omega
    have e2 : (d.val + 128 - 32) % 128 = d.val - 32 := by omega
    simp only [e1, e2]
  · exact add_zero 0

/-- One head's keys. -/
def khead (kc rt kn : FVec Ideal S128x128 .f32) (s : FVec Ideal S128x1 .f32) : FVec Ideal S1x1x128x128 .bf16 :=
  k0_pay72 kc rt kn (addf (shapeCast S128x1 (multiReduction .add [1] S128 (mulf kn kn) 0x00000000#32 reduces_S128x128_S128_2 (.inl rfl) rfl) shapeCasts_S128_S128x1) s) k0_pay71

theorem khead_apply (kc rt kn : FVec Ideal S128x128 .f32) (s : FVec Ideal S128x1 .f32) (r d : Fin 128) :
    khead kc rt kn s (ix4 0 0 r d) = (kn (ix2 r d) * kc (ix2 r d) + rt (ix2 r d))
      * Ideal.rsqrt (((∑ k : Fin 128, kn (ix2 r k) * kn (ix2 r k)) + s (ix2 r 0)) * c96 + eps) := by
  pointwise [khead, k0_pay72, k0_pay71]

/-- The values of all heads, one lane per row. -/
def vall (m : FVec Ideal S128x512 .f32) (g : Vec Ideal S1x128 .f32) (w : Vec Ideal S512x128 .bf16) : FVec Ideal S512x128 .f32 :=
  k0_pay271 (ckv m g) w

theorem vall_apply (m : FVec Ideal S128x512 .f32) (g : Vec Ideal S1x128 .f32) (w : Vec Ideal S512x128 .bf16) (e : Fin 512) (r : Fin 128) :
    vall m g w (ix2 e r) = ∑ c : Fin 128, w (ix2 e c) * ckv m g (ix2 r c) := by
  pointwise [vall, k0_pay271]

/-- One head's values: 64 lanes from lane `o` of all heads' values. -/
def vpiece (v : FVec Ideal S64x128 .f32) : FVec Ideal S1x1x1x64x128 .bf16 :=
  shapeCast S1x1x1x64x128 (truncf .bf16 v bitsLt_bf16_f32) shapeCasts_S64x128_S1x1x1x64x128

theorem vpiece_apply (v : FVec Ideal S64x128 .f32) (i : Fin 64) (r : Fin 128) : vpiece v (ix5 0 0 0 i r) = v (ix2 i r) := by
  pointwise [vpiece]

end Cert.Kernel3Ideal.Fr

end
-- ==== Proof.FrRef.lean ====
/- The front's reference, read at an index: the normed input, its projection, the low-rank queries, keys and values, their norms,
   the rotary embedding, and the five results. -/
module

public import proofs.«01_k».proof.Proof.Gen.Reference3Ideal.Read
public import Idealize.ShloMosaic.Lib.Pointwise

@[expose] public section

set_option maxRecDepth 16384

noncomputable section

namespace Cert.Reference3Ideal.Fr

open Idealize.ShloMosaic Idealize.ShloMosaic.TcCoe Idealize.SL.Sem
open Cert.Reference3Ideal Cert.Reference3Ideal.Gen Cert.Reference3Ideal.Read

/-- The word of the norms' epsilon. -/
abbrev eps : EReal := Ideal.ofBits .f32 0x358637BD#32

/-- Entry `d` of the row `f` over its root mean square, times the gain `g`; `w` is the row's length. -/
def nrm {n : ℕ} (w : EReal) (f g : Fin n → EReal) (d : Fin n) : EReal :=
  f d * Ideal.rsqrt (Ideal.div (∑ k, f k * f k) w + eps) * g d

/-- The rotary frequency `i` of `n`. -/
def freq (n : EReal) (i : ℕ) : EReal :=
  Ideal.pow (Ideal.ofBits .f32 0x461C4000#32) (Ideal.div (-(FloatOps.sitofp .f32 (BitVec.ofNat 32 i) : Ideal .f32) : EReal) n)

variable (x0 : FVec Ideal S16x4096x1024 .f32) (x1 : IVec S16x4096 32) (x2 : FVec Ideal S1x1024 .f32) (x3 : FVec Ideal S1x1024x2464 .f32)
  (x4 : FVec Ideal S1x256 .f32) (x5 : FVec Ideal S1x256x768 .f32) (x6 : FVec Ideal S1x128 .f32) (x7 : FVec Ideal S1x128x1024 .f32)
  (x8 x9 : FVec Ideal S1x96 .f32)

theorem h_apply (b : Fin 16) (s : Fin 4096) (d : Fin 1024) :
    val_main_v13 (F := Ideal) x0 x2 (ix3 b s d) = nrm (Ideal.ofBits .f32 0x44800000#32) (fun k => x0 (ix3 b s k)) (fun k => x2 (ix2 0 k)) d := by
  pointwise [val_main_v13, val_main_v12, val_main_v11, val_main_v10, val_main_v9, val_main_v8, val_main_v7, val_main_v6, val_main_cst_1, val_main_v5,
    val_main_v4, val_main_cst_0, val_main_v3, val_main_v2, val_main_cst, val_main_v1, val_main_v0, nrm]

theorem proj_apply (b : Fin 16) (s : Fin 4096) (j : Fin 2464) :
    val_main_v15 (F := Ideal) x0 x2 x3 (ix3 b s j) = ∑ d : Fin 1024, val_main_v13 (F := Ideal) x0 x2 (ix3 b s d) * x3 (ix3 0 d j) := by
  unfold val_main_v15
  generalize val_main_v13 (F := Ideal) x0 x2 = y
  pointwise [val_main_v14]

theorem ret_apply (b : Fin 16) (s : Fin 4096) (j : Fin 2048) :
    val_main_v176 (F := Ideal) x0 x2 x3 (ix3 b s j) = val_main_v15 (F := Ideal) x0 x2 x3 (ix3 b s ⟨j.val, by omega⟩) := by
  unfold val_main_v176 val_main_v16
  generalize val_main_v15 (F := Ideal) x0 x2 x3 = y
  pointwise

theorem cq_apply (b : Fin 16) (s : Fin 4096) (d : Fin 256) :
    val_main_v33 (F := Ideal) x0 x2 x3 x4 (ix3 b s d) = nrm (Ideal.ofBits .f32 0x43800000#32)
      (fun k => val_main_v15 (F := Ideal) x0 x2 x3 (ix3 b s ⟨2048 + k.val, by omega⟩)) (fun k => x4 (ix2 0 k)) d := by
  unfold val_main_v33 val_main_v30 val_main_v29 val_main_v28 val_main_v27 val_main_v25 val_main_v23 val_main_v22 val_main_v21 val_main_v17
  generalize val_main_v15 (F := Ideal) x0 x2 x3 = y
  pointwise [val_main_v32, val_main_v31, val_main_v26, val_main_cst_4, val_main_v24, val_main_cst_3, val_main_cst_2, val_main_v20, nrm]

theorem q_apply (b : Fin 16) (s : Fin 4096) (h : Fin 8) (d : Fin 96) :
    val_main_v36 (F := Ideal) x0 x2 x3 x4 x5 (ix4 b s h d)
      = ∑ c : Fin 256, val_main_v33 (F := Ideal) x0 x2 x3 x4 (ix3 b s c) * x5 (ix3 0 c ⟨h.val * 96 + d.val, by omega⟩) := by
  unfold val_main_v36 val_main_v35
  generalize val_main_v33 (F := Ideal) x0 x2 x3 x4 = y
  pointwise [val_main_v34]

theorem ckv_apply (b : Fin 16) (s : Fin 4096) (d : Fin 128) :
    val_main_v50 (F := Ideal) x0 x2 x3 x6 (ix3 b s d) = nrm (Ideal.ofBits .f32 0x43000000#32)
      (fun k => val_main_v15 (F := Ideal) x0 x2 x3 (ix3 b s ⟨2304 + k.val, by omega⟩)) (fun k => x6 (ix2 0 k)) d := by
  unfold val_main_v50 val_main_v47 val_main_v46 val_main_v45 val_main_v44 val_main_v42 val_main_v40 val_main_v39 val_main_v38 val_main_v18
  generalize val_main_v15 (F := Ideal) x0 x2 x3 = y
  pointwise [val_main_v49, val_main_v48, val_main_v43, val_main_cst_7, val_main_v41, val_main_cst_6, val_main_cst_5, val_main_v37, nrm]

theorem kv_apply (b : Fin 16) (s : Fin 4096) (h : Fin 8) (d : Fin 128) :
    val_main_v53 (F := Ideal) x0 x2 x3 x6 x7 (ix4 b s h d)
      = ∑ c : Fin 128, val_main_v50 (F := Ideal) x0 x2 x3 x6 (ix3 b s c) * x7 (ix3 0 c ⟨h.val * 128 + d.val, by omega⟩) := by
  unfold val_main_v53 val_main_v52
  generalize val_main_v50 (F := Ideal) x0 x2 x3 x6 = y
  pointwise [val_main_v51]

theorem k_apply (b : Fin 16) (s : Fin 4096) (h : Fin 8) (d : Fin 96) :
    val_main_v58 (F := Ideal) x0 x2 x3 x6 x7 (ix4 b s h d)
      = if hd : d.val < 64 then val_main_v53 (F := Ideal) x0 x2 x3 x6 x7 (ix4 b s h ⟨d.val, by omega⟩)
        else val_main_v15 (F := Ideal) x0 x2 x3 (ix3 b s ⟨2432 + (d.val - 64), by omega⟩) := by
  unfold val_main_v58 val_main_v57 val_main_v56 val_main_v54 val_main_v19
  generalize val_main_v53 (F := Ideal) x0 x2 x3 x6 x7 = z
  generalize val_main_v15 (F := Ideal) x0 x2 x3 = y
  pointwise

theorem qn_apply (b : Fin 16) (s : Fin 4096) (h : Fin 8) (d : Fin 96) :
    val_main_v72 (F := Ideal) x0 x2 x3 x4 x5 x8 (ix4 b s h d) = nrm (Ideal.ofBits .f32 0x42C00000#32)
      (fun k => val_main_v36 (F := Ideal) x0 x2 x3 x4 x5 (ix4 b s h k)) (fun k => x8 (ix2 0 k)) d := by
  unfold val_main_v72 val_main_v69 val_main_v68 val_main_v67 val_main_v66 val_main_v64 val_main_v62 val_main_v61 val_main_v60
  generalize val_main_v36 (F := Ideal) x0 x2 x3 x4 x5 = y
  pointwise [val_main_v71, val_main_v70, val_main_v65, val_main_cst_10, val_main_v63, val_main_cst_9, val_main_cst_8, val_main_v59, nrm]

theorem kn_apply (b : Fin 16) (s : Fin 4096) (h : Fin 8) (d : Fin 96) :
    val_main_v86 (F := Ideal) x0 x2 x3 x6 x7 x9 (ix4 b s h d) = nrm (Ideal.ofBits .f32 0x42C00000#32)
      (fun k => val_main_v58 (F := Ideal) x0 x2 x3 x6 x7 (ix4 b s h k)) (fun k => x9 (ix2 0 k)) d := by
  unfold val_main_v86 val_main_v83 val_main_v82 val_main_v81 val_main_v80 val_main_v78 val_main_v76 val_main_v75 val_main_v74
  generalize val_main_v58 (F := Ideal) x0 x2 x3 x6 x7 = y
  pointwise [val_main_v85, val_main_v84, val_main_v79, val_main_cst_13, val_main_v77, val_main_cst_12, val_main_cst_11, val_main_v73, nrm]

/-- The position as an extended real. -/
def pos (b : Fin 16) (s : Fin 4096) : EReal := (FloatOps.sitofp .f32 (x1 (ix2 b s)) : Ideal .f32)

theorem ang_apply (b : Fin 16) (s : Fin 4096) (i : Fin 16) :
    val_main_v100 (F := Ideal) x1 (ix3 b s i) = pos x1 b s * freq (Ideal.ofBits .f32 0x41800000#32) i.val := by
  pointwise [val_main_v100, val_main_v99, val_main_v98, val_main_v97, val_main_v96, val_main_v95, val_main_v94, val_main_v93, val_main_v92, val_main_v91,
    val_main_v90, val_main_v89, val_main_cst_14, val_main_cst_15, pos, freq]

theorem angr_apply (b : Fin 16) (s : Fin 4096) (i : Fin 32) :
    val_main_v162 (F := Ideal) x1 (ix3 b s i) = pos x1 b s * freq (Ideal.ofBits .f32 0x42000000#32) i.val := by
  pointwise [val_main_v162, val_main_v161, val_main_v160, val_main_v159, val_main_v158, val_main_v157, val_main_v156, val_main_v155, val_main_v154, val_main_v153,
    val_main_v152, val_main_v151, val_main_cst_18, val_main_cst_19, pos, freq]

theorem angk_apply (b : Fin 16) (s : Fin 4096) (i : Fin 16) :
    val_main_v132 (F := Ideal) x1 (ix3 b s i) = pos x1 b s * freq (Ideal.ofBits .f32 0x41800000#32) i.val := by
  pointwise [val_main_v132, val_main_v131, val_main_v130, val_main_v129, val_main_v128, val_main_v127, val_main_v126, val_main_v125, val_main_v124,
    val_main_v123, val_main_v122, val_main_v121, val_main_cst_16, val_main_cst_17, pos, freq]

/-- The attention's angle of lane `i` at row `s`. -/
abbrev ang (b : Fin 16) (s : Fin 4096) (i : ℕ) : EReal := pos x1 b s * freq (Ideal.ofBits .f32 0x41800000#32) i

/-- The padding value: the integer zero as a float. -/
theorem zeroPad : (FloatOps.sitofp .f32 0#32 : Ideal .f32) = (0 : EReal) := by
  show ((((0#32 : BitVec 32).toInt : ℝ)) : EReal) = 0
  simp

/-- A head's lane after the rotary embedding, from the normed lanes `f` and the angles `a`. -/
def rot (f : Fin 96 → EReal) (a : ℕ → EReal) (d : Fin 96) : EReal :=
  if h : d.val < 64 then f d
  else if h2 : d.val < 80 then f d * Ideal.cos (a (d.val - 64)) - f ⟨d.val + 16, by omega⟩ * Ideal.sin (a (d.val - 64))
  else f d * Ideal.cos (a (d.val - 80)) + f ⟨d.val - 16, by omega⟩ * Ideal.sin (a (d.val - 80))

/-- The same, in the pieces the reference joins. -/
theorem rot_eq (f : Fin 96 → EReal) (a : ℕ → EReal) (d : Fin 96) :
    (if h : d.val < 64 then f d
     else if h2 : d.val - 64 < 16 then f ⟨64 + (d.val - 64), by omega⟩ * Ideal.cos (a (d.val - 64)) - f ⟨64 + (16 + (d.val - 64)), by omega⟩ * Ideal.sin (a (d.val - 64))
     else f ⟨64 + (16 + (d.val - 64 - 16)), by omega⟩ * Ideal.cos (a (d.val - 64 - 16)) + f ⟨64 + (d.val - 64 - 16), by omega⟩ * Ideal.sin (a (d.val - 64 - 16)))
      = rot f a d := by
  have e (i j : Fin 96) (h : i.val = j.val) : f i = f j := by rw [Fin.ext h]
  rw [rot]
  by_cases h1 : d.val < 64
  · rw [dif_pos h1, dif_pos h1]
  rw [dif_neg h1, dif_neg h1]
  by_cases h2 : d.val < 80
  · rw [dif_pos (by omega), dif_pos h2, e ⟨64 + (d.val - 64), by omega⟩ d (by dsimp only; omega),
      e ⟨64 + (16 + (d.val - 64)), by omega⟩ ⟨d.val + 16, by omega⟩ (by dsimp only; omega)]
  · rw [dif_neg (by omega), dif_neg h2, e ⟨64 + (16 + (d.val - 64 - 16)), by omega⟩ d (by dsimp only; omega),
      e ⟨64 + (d.val - 64 - 16), by omega⟩ ⟨d.val - 16, by omega⟩ (by dsimp only; omega), show d.val - 64 - 16 = d.val - 80 by omega]

/-- The queries' lanes after the rotary embedding. -/
theorem qrot_apply (b : Fin 16) (s : Fin 4096) (h : Fin 8) (d : Fin 96) :
    val_main_v118 (F := Ideal) x0 x1 x2 x3 x4 x5 x8 (ix4 b s h d)
      = rot (fun k => val_main_v72 (F := Ideal) x0 x2 x3 x4 x5 x8 (ix4 b s h k)) (ang x1 b s) d := by
  unfold val_main_v118 val_main_v117 val_main_v116 val_main_v115 val_main_v114 val_main_v113 val_main_v112 val_main_v111 val_main_v110 val_main_v109
    val_main_v108 val_main_v107 val_main_v106 val_main_v105 val_main_v104 val_main_v103 val_main_v102 val_main_v101 val_main_v88 val_main_v87
  generalize val_main_v72 (F := Ideal) x0 x2 x3 x4 x5 x8 = y
  pointwise
  simp only [ang_apply]
  exact rot_eq (fun k => y (ix4 b s h k)) (ang x1 b s) d

/-- The keys' lanes after the rotary embedding. -/
theorem krot_apply (b : Fin 16) (s : Fin 4096) (h : Fin 8) (d : Fin 96) :
    val_main_v150 (F := Ideal) x0 x1 x2 x3 x6 x7 x9 (ix4 b s h d)
      = rot (fun k => val_main_v86 (F := Ideal) x0 x2 x3 x6 x7 x9 (ix4 b s h k)) (ang x1 b s) d := by
  unfold val_main_v150 val_main_v149 val_main_v148 val_main_v147 val_main_v146 val_main_v145 val_main_v144 val_main_v143 val_main_v142 val_main_v141
    val_main_v140 val_main_v139 val_main_v138 val_main_v137 val_main_v136 val_main_v135 val_main_v134 val_main_v133 val_main_v120 val_main_v119
  generalize val_main_v86 (F := Ideal) x0 x2 x3 x6 x7 x9 = y
  pointwise
  simp only [angk_apply]
  exact rot_eq (fun k => y (ix4 b s h k)) (ang x1 b s) d

/-- The result of the queries: scaled, zero in the padded lanes, heads first, rows last. -/
theorem qt_apply (b : Fin 16) (h : Fin 8) (d : Fin 128) (s : Fin 4096) :
    val_main_v177 (F := Ideal) x0 x1 x2 x3 x4 x5 x8 (ix4 b h d s)
      = if hd : d.val < 96 then val_main_v118 (F := Ideal) x0 x1 x2 x3 x4 x5 x8 (ix4 b s h ⟨d.val, hd⟩) * Ideal.ofBits .f32 0x3E16C740#32 else 0 := by
  unfold val_main_v177 val_main_v171 val_main_v170 val_main_v169
  generalize val_main_v118 (F := Ideal) x0 x1 x2 x3 x4 x5 x8 = y
  pointwise [val_main_v168, val_main_cst_20, val_main_call0_v0, val_main_c]
  rw [zeroPad]

/-- The result of the keys: zero in the padded lanes, heads first. -/
theorem kt_apply (b : Fin 16) (h : Fin 8) (s : Fin 4096) (d : Fin 128) :
    val_main_v178 (F := Ideal) x0 x1 x2 x3 x6 x7 x9 (ix4 b h s d)
      = if hd : d.val < 96 then val_main_v150 (F := Ideal) x0 x1 x2 x3 x6 x7 x9 (ix4 b s h ⟨d.val, hd⟩) else 0 := by
  unfold val_main_v178 val_main_v173 val_main_v172
  generalize val_main_v150 (F := Ideal) x0 x1 x2 x3 x6 x7 x9 = y
  pointwise [val_main_call1_v0, val_main_c_21]
  rw [zeroPad]

/-- The result of the values: row tile `j`, lane `i`, row `r` of the tile. -/
theorem vt_apply (b : Fin 16) (h : Fin 8) (j : Fin 8) (i : Fin 64) (r : Fin 512) :
    val_main_v179 (F := Ideal) x0 x2 x3 x6 x7 (ix5 b h j i r)
      = val_main_v53 (F := Ideal) x0 x2 x3 x6 x7 (ix4 b ⟨j.val * 512 + r.val, by omega⟩ h ⟨64 + i.val, by omega⟩) := by
  unfold val_main_v179 val_main_v175 val_main_v174 val_main_v55
  generalize val_main_v53 (F := Ideal) x0 x2 x3 x6 x7 = y
  pointwise

/-- The retention's table: the cosines four times, then minus and plus the sines twice. -/
theorem tab_apply (b : Fin 16) (s : Fin 4096) (j : Fin 256) :
    val_main_v167 (F := Ideal) x1 (ix3 b s j)
      = if j.val < 128 then Ideal.cos (pos x1 b s * freq (Ideal.ofBits .f32 0x42000000#32) (j.val % 32))
        else if j.val % 64 < 32 then - Ideal.sin (pos x1 b s * freq (Ideal.ofBits .f32 0x42000000#32) (j.val % 32))
        else Ideal.sin (pos x1 b s * freq (Ideal.ofBits .f32 0x42000000#32) (j.val % 32)) := by
  unfold val_main_v167 val_main_v166 val_main_v165 val_main_v164 val_main_v163
  have hw := angr_apply x1 b s
  generalize val_main_v162 (F := Ideal) x1 = y at hw
  pointwise
  simp only [hw]
  generalize pos x1 b s = p
  have hs (i k : ℕ) (h : i = k) : Ideal.sin (p * freq (Ideal.ofBits .f32 0x42000000#32) i) = Ideal.sin (p * freq (Ideal.ofBits .f32 0x42000000#32) k) := by rw [h]
  have hc (i k : ℕ) (h : i = k) : Ideal.cos (p * freq (Ideal.ofBits .f32 0x42000000#32) i) = Ideal.cos (p * freq (Ideal.ofBits .f32 0x42000000#32) k) := by rw [h]
  split_ifs <;> first
    | (exfalso; omega)
    | (refine hc _ _ ?_; omega)
    | (refine hs _ _ ?_; omega)
    | (refine congrArg (- ·) (hs _ _ ?_); omega)

end Cert.Reference3Ideal.Fr

end
-- ==== Proof.FrMath.lean ====
/- The front's arithmetic over the extended reals, away from any array: norms by multiplication and by division, sums that skip
   padded lanes, the sine of a quarter turn more, and one head's rotary embedding both ways. -/
module

public import proofs.«01_k».proof.Proof.FrPay
public import proofs.«01_k».proof.Proof.FrRef

@[expose] public section

set_option maxRecDepth 16384

noncomputable section

namespace Cert.Kernel3Ideal.Fr

open Idealize.ShloMosaic Idealize.ShloMosaic.TcCoe Idealize.SL.Sem

/-- Dividing by 1024 is multiplying by its reciprocal. -/
theorem div1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee, -EReal.coe_mul]; norm_num
  have h2 : Ideal.ofBits .f32 0x3A800000#32 = ((1 / 1024 : ℝ) : EReal) := by
    simp [Ideal.ofBits, Ideal.ieee, -EReal.coe_mul]; norm_num
  rw [h1, h2, Ideal.div_coe (by norm_num)]

/-- Dividing by 256 is multiplying by its reciprocal. -/
theorem div256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee, -EReal.coe_mul]; norm_num
  have h2 : Ideal.ofBits .f32 0x3B800000#32 = ((1 / 256 : ℝ) : EReal) := by
    simp [Ideal.ofBits, Ideal.ieee, -EReal.coe_mul]; norm_num
  rw [h1, h2, Ideal.div_coe (by norm_num)]

/-- Dividing by 128 is multiplying by its reciprocal. -/
theorem div128 (x : EReal) : Ideal.div x (Ideal.ofBits .f32 0x43000000#32) = x * Ideal.ofBits .f32 0x3C000000#32 := by
  have h1 : Ideal.ofBits .f32 0x43000000#32 = ((128 : ℝ) : EReal) := by
    simp [Ideal.ofBits, Ideal.ieee, -EReal.coe_mul]; norm_num
  have h2 : Ideal.ofBits .f32 0x3C000000#32 = ((1 / 128 : ℝ) : EReal) := by
    simp [Ideal.ofBits, Ideal.ieee, -EReal.coe_mul]; norm_num
  rw [h1, h2, Ideal.div_coe (by norm_num)]

/-- The named constant's value. -/
theorem c96_val : c96 = ((1 / 96 : ℝ) : EReal) := IdealRules.named_const.ideal_named_scalar _ _ _ _ rfl

/-- Dividing by 96 is multiplying by the named constant. -/
theorem div96 (x : EReal) : Ideal.div x (Ideal.ofBits .f32 0x42C00000#32) = x * c96 := by
  have h1 : Ideal.ofBits .f32 0x42C00000#32 = ((96 : ℝ) : EReal) := by
    simp [Ideal.ofBits, Ideal.ieee, -EReal.coe_mul]; norm_num
  rw [h1, c96_val, Ideal.div_coe (by norm_num)]

/-- The norm by multiplication is the norm by division. -/
theorem nrm_eq {n : ℕ} (c w : EReal) (h : ∀ x, Ideal.div x w = x * c) (f g : Fin n → EReal) (d : Fin n) :
    nrm c f g d = Reference3Ideal.Fr.nrm w f g d := by
  rw [nrm, Reference3Ideal.Fr.nrm, h]

/-- A square is not negative. -/
theorem sq_nonneg' (x : EReal) : 0 ≤ x * x := by
  induction x with
  | bot => simp
  | coe x => exact_mod_cast mul_self_nonneg x
  | top => simp

/-- The reciprocal root of a scaled sum of squares plus the epsilon: not negative, not infinite, zero where the sum is infinite. -/
theorem rs_real (S : EReal) (hS : 0 ≤ S) :
    0 ≤ Ideal.rsqrt (S * c96 + eps) ∧ Ideal.rsqrt (S * c96 + eps) ≠ ⊤ ∧ (S = ⊤ → Ideal.rsqrt (S * c96 + eps) = 0) := by
  obtain ⟨e, he, hp⟩ : ∃ e : ℝ, eps = (e : EReal) ∧ 0 < e := by
    refine ⟨8796093 / 2 ^ 43, ?_, by norm_num⟩
    simp [eps, Ideal.ofBits, Ideal.ieee, -EReal.coe_mul]; norm_num
  rw [c96_val, he]
  induction S with
  | bot => simp at hS
  | top =>
    have h : (⊤ : EReal) * ((1 / 96 : ℝ) : EReal) + (e : EReal) = ⊤ := by
      rw [EReal.top_mul_coe_of_pos (by norm_num)]
      rfl
    rw [h]
    refine ⟨le_refl (0 : EReal), ?_, fun _ => rfl⟩
    show (0 : EReal) ≠ ⊤
    simp
  | coe S =>
    have hS' : 0 ≤ S := by exact_mod_cast hS
    have hx : 0 < S * (1 / 96) + e := by positivity
    have h : (S : EReal) * ((1 / 96 : ℝ) : EReal) + (e : EReal) = ((S * (1 / 96) + e : ℝ) : EReal) := by
      rw [EReal.coe_add, EReal.coe_mul]
    have h2 : Ideal.rsqrt ((S * (1 / 96) + e : ℝ) : EReal) = (((Real.sqrt (S * (1 / 96) + e))⁻¹ : ℝ) : EReal) := by
      show (if S * (1 / 96) + e < 0 then (⊥ : EReal) else if S * (1 / 96) + e = 0 then ⊤ else (((Real.sqrt (S * (1 / 96) + e))⁻¹ : ℝ) : EReal)) = _
      rw [if_neg (by linarith), if_neg hx.ne']
    rw [h, h2]
    refine ⟨by exact_mod_cast inv_nonneg.2 (Real.sqrt_nonneg _), EReal.coe_ne_top _, fun h => absurd h (EReal.coe_ne_top _)⟩

/-- A term of a finite sum of squares is finite. -/
theorem sq_term {n : ℕ} (f : Fin n → EReal) (h : ∑ k, f k * f k ≠ ⊤) (i : Fin n) : f i ≠ ⊤ ∧ f i ≠ ⊥ := by
  have h1 : f i * f i ≤ ∑ k, f k * f k :=
    Finset.single_le_sum (f := fun k => f k * f k) (fun k _ => sq_nonneg' (f k)) (Finset.mem_univ i)
  have h2 : f i * f i ≠ ⊤ := fun h3 => h (top_le_iff.1 (h3 ▸ h1))
  constructor
  · intro h3
    rw [h3] at h2
    exact h2 (by simp)
  · intro h3
    rw [h3] at h2
    exact h2 (by simp)

/-- The opposite of a finite sum is the sum of the opposites. -/
theorem sum_neg' {ι : Type} [Fintype ι] (f : ι → EReal) (h1 : ∑ k, f k ≠ ⊤) (h2 : ∑ k, f k ≠ ⊥) :
    ∑ k, - f k = - ∑ k, f k := by
  revert h1 h2
  induction (Finset.univ : Finset ι) using Finset.cons_induction with
  | empty => intro _ _; simp
  | cons a s ha ih =>
    rw [Finset.sum_cons, Finset.sum_cons]
    intro h1 h2
    have hb : f a ≠ ⊥ ∧ ∑ k ∈ s, f k ≠ ⊥ :=
      ⟨fun h => h2 (by rw [h, EReal.bot_add]), fun h => h2 (by rw [h, EReal.add_bot])⟩
    have ht : f a ≠ ⊤ ∧ ∑ k ∈ s, f k ≠ ⊤ :=
      ⟨fun h => h1 (by rw [h, EReal.top_add_of_ne_bot hb.2]), fun h => h1 (by rw [h, EReal.add_top_of_ne_bot hb.1])⟩
    rw [ih ht.2 hb.2, EReal.neg_add (Or.inl hb.1) (Or.inl ht.1), sub_eq_add_neg]

/-- The queries' head: the rotary embedding and the norm, the norm's factor taken out. -/
theorem q_math (q g : Fin 96 → EReal) (a : ℕ → EReal) (S : EReal) (qh gc gs tc ts : Fin 128 → EReal)
    (hq : ∀ d, qh d = if h : d.val < 96 then q ⟨d.val, h⟩ else 0)
    (hgc : ∀ d, gc d = if h : d.val < 96 then g ⟨d.val, h⟩ else 0)
    (hgs : ∀ d : Fin 128, gs d = if h : 64 ≤ d.val ∧ d.val < 80 then g ⟨d.val + 16, by omega⟩
      else if h2 : 80 ≤ d.val ∧ d.val < 96 then g ⟨d.val - 16, by omega⟩ else 0)
    (htc : ∀ d : Fin 128, tc d = if 64 ≤ d.val ∧ d.val < 96 then Ideal.cos (a (d.val % 16)) else 1)
    (hts : ∀ d : Fin 128, ts d = if 64 ≤ d.val ∧ d.val < 96 then Ideal.sin (a (d.val % 16)) else 0)
    (d : Fin 128) :
    (qh d * (gc d * tc d) + swp qh d * (gs d * ts d)) * (Ideal.rsqrt ((∑ k, qh k * qh k) * c96 + eps) * S)
      = if h : d.val < 96 then Reference3Ideal.Fr.rot (Reference3Ideal.Fr.nrm (Ideal.ofBits .f32 0x42C00000#32) q g) a ⟨d.val, h⟩ * S else 0 := by
  have hs : ∑ k, qh k * qh k = ∑ k, q k * q k := sum_front (by norm_num) _ _ fun i => by
    rw [hq]
    by_cases h : i.val < 96
    · rw [dif_pos h, dif_pos h]
    · rw [dif_neg h, dif_neg h, mul_zero]
  have hn (k : Fin 96) : Reference3Ideal.Fr.nrm (Ideal.ofBits .f32 0x42C00000#32) q g k
      = q k * Ideal.rsqrt ((∑ k, q k * q k) * c96 + eps) * g k := by
    rw [Reference3Ideal.Fr.nrm, div96]
  rw [hs]
  obtain ⟨r0, rt, _⟩ := rs_real (∑ k, q k * q k) (Finset.sum_nonneg fun k _ => sq_nonneg' _)
  simp only [Reference3Ideal.Fr.rot, hn]
  generalize Ideal.rsqrt ((∑ k, q k * q k) * c96 + eps) = r at r0 rt
  rw [← mul_assoc, EReal.right_distrib_of_nonneg_of_ne_top r0 rt, hgc, hgs, htc, hts]
  by_cases h1 : d.val < 64
  · have h96 : d.val < 96 := by omega
    have n1 : ¬ (64 ≤ d.val ∧ d.val < 96) := by omega
    have n2 : ¬ (64 ≤ d.val ∧ d.val < 80) := by omega
    have n3 : ¬ (80 ≤ d.val ∧ d.val < 96) := by omega
    rw [hq, dif_pos h96, dif_pos h96, dif_pos h96, if_neg n1, if_neg n1, dif_neg n2, dif_neg n3, dif_pos h1, mul_zero, mul_zero, zero_mul, add_zero,
      mul_one]
    ac_rfl
  by_cases h2 : d.val < 80
  · have h96 : d.val < 96 := by omega
    have n1 : (64 ≤ d.val ∧ d.val < 96) := by omega
    have n2 : (64 ≤ d.val ∧ d.val < 80) := by omega
    have e : d.val % 16 = d.val - 64 := by omega
    have hw : swp qh d = - q ⟨d.val + 16, by omega⟩ := by
      have h3 : (d.val + 16) < 96 := by omega
      rw [swp, if_neg h1, dif_pos h2, hq, zero_sub]
      dsimp only
      rw [dif_pos h3]
    rw [hw, hq, dif_pos h96, dif_pos h96, dif_pos h96, if_pos n1, if_pos n1, dif_pos n2, dif_neg h1, dif_pos h2, e, EReal.neg_mul, EReal.neg_mul,
      ← sub_eq_add_neg]
    refine congrArg (· * S) (congrArg₂ (· - ·) ?_ ?_) <;> ac_rfl
  by_cases h3 : d.val < 96
  · have n1 : (64 ≤ d.val ∧ d.val < 96) := by omega
    have n2 : ¬ (64 ≤ d.val ∧ d.val < 80) := by omega
    have n3 : (80 ≤ d.val ∧ d.val < 96) := by omega
    have e : d.val % 16 = d.val - 80 := by omega
    have hw : swp qh d = q ⟨d.val - 16, by omega⟩ := by
      have h4 : (d.val - 16) < 96 := by omega
      rw [swp, if_neg h1, dif_neg h2, if_pos h3, hq]
      dsimp only
      rw [dif_pos h4]
    rw [hw, hq, dif_pos h3, dif_pos h3, dif_pos h3, if_pos n1, if_pos n1, dif_neg n2, dif_pos n3, dif_neg h1, dif_neg h2, e]
    refine congrArg (· * S) (congrArg₂ (· + ·) ?_ ?_) <;> ac_rfl
  · have n2 : ¬ (64 ≤ d.val ∧ d.val < 80) := by omega
    have n3 : ¬ (80 ≤ d.val ∧ d.val < 96) := by omega
    rw [hq, dif_neg h3, dif_neg h3, dif_neg h3, dif_neg n2, dif_neg n3]
    simp only [zero_mul, mul_zero, add_zero]

/-- The keys' head: 64 lanes of their own and 32 shared rotary lanes; `u` is the rotated half of the shared lanes, whose first
    half is the opposite of a lane wherever that lane is finite. -/
theorem k_math (f g : Fin 96 → EReal) (a : ℕ → EReal) (s : EReal) (kn gc gs tc ts u rt : Fin 128 → EReal)
    (hk : ∀ d, kn d = if h : d.val < 64 then f ⟨d.val, by omega⟩ else 0)
    (hgc : ∀ d, gc d = if h : d.val < 96 then g ⟨d.val, h⟩ else 0)
    (hgs : ∀ d : Fin 128, gs d = if h : 64 ≤ d.val ∧ d.val < 80 then g ⟨d.val + 16, by omega⟩
      else if h2 : 80 ≤ d.val ∧ d.val < 96 then g ⟨d.val - 16, by omega⟩ else 0)
    (htc : ∀ d : Fin 128, tc d = if 64 ≤ d.val ∧ d.val < 96 then Ideal.cos (a (d.val % 16)) else 1)
    (hts : ∀ d : Fin 128, ts d = if 64 ≤ d.val ∧ d.val < 96 then Ideal.sin (a (d.val % 16)) else 0)
    (hrt : ∀ d : Fin 128, rt d = if h : 64 ≤ d.val ∧ d.val < 96 then f ⟨d.val, h.2⟩ * (gc d * tc d) + u d * (gs d * ts d) else 0)
    (hu1 : ∀ (d : Fin 128) (h : 64 ≤ d.val ∧ d.val < 80), f ⟨d.val + 16, by omega⟩ ≠ ⊤ → f ⟨d.val + 16, by omega⟩ ≠ ⊥ →
      u d = - f ⟨d.val + 16, by omega⟩)
    (hu2 : ∀ (d : Fin 128) (h : 80 ≤ d.val ∧ d.val < 96), u d = f ⟨d.val - 16, by omega⟩)
    (hss : s = ∑ k : Fin 32, f ⟨64 + k.val, by omega⟩ * f ⟨64 + k.val, by omega⟩)
    (d : Fin 128) :
    (kn d * (gc d * tc d) + rt d) * Ideal.rsqrt (((∑ k, kn k * kn k) + s) * c96 + eps)
      = if h : d.val < 96 then Reference3Ideal.Fr.rot (Reference3Ideal.Fr.nrm (Ideal.ofBits .f32 0x42C00000#32) f g) a ⟨d.val, h⟩ else 0 := by
  have hs : (∑ k, kn k * kn k) + s = ∑ k, f k * f k := by
    rw [hss, sum_front (n := 64) (by norm_num) _ (fun k : Fin 64 => f ⟨k.val, by omega⟩ * f ⟨k.val, by omega⟩) fun i => by
      rw [hk]
      by_cases h : i.val < 64
      · rw [dif_pos h, dif_pos h]
      · rw [dif_neg h, dif_neg h, mul_zero]]
    exact (Fin.sum_univ_add (a := 64) (b := 32) fun k : Fin 96 => f k * f k).symm
  have hn (k : Fin 96) : Reference3Ideal.Fr.nrm (Ideal.ofBits .f32 0x42C00000#32) f g k
      = f k * Ideal.rsqrt ((∑ k, f k * f k) * c96 + eps) * g k := by
    rw [Reference3Ideal.Fr.nrm, div96]
  rw [hs]
  obtain ⟨r0, rtop, rz⟩ := rs_real (∑ k, f k * f k) (Finset.sum_nonneg fun k _ => sq_nonneg' _)
  have hfin := fun (h : ∑ k, f k * f k ≠ ⊤) => sq_term f h
  simp only [Reference3Ideal.Fr.rot, hn]
  generalize Ideal.rsqrt ((∑ k, f k * f k) * c96 + eps) = r at r0 rtop rz
  have hr0 : r = 0 ∨ ∀ i, f i ≠ ⊤ ∧ f i ≠ ⊥ := by
    by_cases h : ∑ k, f k * f k = ⊤
    · exact Or.inl (rz h)
    · exact Or.inr (hfin h)
  rw [hrt, hk]
  by_cases h1 : d.val < 64
  · have h96 : d.val < 96 := by omega
    have n1 : ¬ (64 ≤ d.val ∧ d.val < 96) := by omega
    rw [dif_pos h1, dif_neg n1, hgc, htc, dif_pos h96, if_neg n1, dif_pos h96, dif_pos h1, add_zero, mul_one]
    ac_rfl
  by_cases h2 : d.val < 80
  · have h96 : d.val < 96 := by omega
    have n1 : (64 ≤ d.val ∧ d.val < 96) := by omega
    have n2 : (64 ≤ d.val ∧ d.val < 80) := by omega
    have e : d.val % 16 = d.val - 64 := by omega
    rw [dif_neg h1, dif_pos n1, hgc, htc, hgs, hts, dif_pos h96, dif_pos n2, if_pos n1, if_pos n1, dif_pos h96, dif_neg h1, dif_pos h2, zero_mul,
      zero_add, EReal.right_distrib_of_nonneg_of_ne_top r0 rtop, e]
    rcases hr0 with hr | hr
    · rw [hr]
      simp only [mul_zero, zero_mul, add_zero, sub_zero]
    · have hf := hr ⟨d.val + 16, by omega⟩
      rw [hu1 d n2 hf.1 hf.2, EReal.neg_mul, EReal.neg_mul, ← sub_eq_add_neg]
      refine congrArg₂ (· - ·) ?_ ?_ <;> ac_rfl
  by_cases h3 : d.val < 96
  · have n1 : (64 ≤ d.val ∧ d.val < 96) := by omega
    have n2 : ¬ (64 ≤ d.val ∧ d.val < 80) := by omega
    have n3 : (80 ≤ d.val ∧ d.val < 96) := by omega
    have e : d.val % 16 = d.val - 80 := by omega
    rw [dif_neg h1, dif_pos n1, hgc, htc, hgs, hts, dif_pos h3, dif_neg n2, dif_pos n3, if_pos n1, if_pos n1, dif_pos h3, dif_neg h1, dif_neg h2, zero_mul,
      zero_add, EReal.right_distrib_of_nonneg_of_ne_top r0 rtop, e, hu2 d n3]
    refine congrArg₂ (· + ·) ?_ ?_ <;> ac_rfl
  · have n1 : ¬ (64 ≤ d.val ∧ d.val < 96) := by omega
    rw [dif_neg h1, dif_neg n1, dif_neg h3, zero_mul, add_zero, zero_mul]

/-- The phase is a quarter turn. -/
theorem atan_val : Ideal.atan2 1 0 = ((Real.pi / 2 : ℝ) : EReal) := by
  show ((if (0 : ℝ) < 0 then Real.arctan (1 / 0)
      else if (0 : ℝ) < 0 then (if (0 : ℝ) ≤ 1 then Real.arctan (1 / 0) + Real.pi else Real.arctan (1 / 0) - Real.pi)
      else if (0 : ℝ) < 1 then Real.pi / 2 else if (1 : ℝ) < 0 then -(Real.pi / 2) else 0 : ℝ) : EReal) = _
  rw [if_neg (lt_irrefl 0), if_neg (lt_irrefl 0), if_pos one_pos]

/-- The sine of a quarter turn more is the cosine. -/
theorem sin_quarter (x : ℝ) : Ideal.sin ((x : EReal) + Ideal.atan2 1 0) = Ideal.cos (x : EReal) := by
  rw [atan_val, ← EReal.coe_add]
  show ((Real.sin (x + Real.pi / 2) : ℝ) : EReal) = ((Real.cos x : ℝ) : EReal)
  rw [Real.sin_add_pi_div_two]

/-- Every rotary frequency is real. -/
theorem freq_real (n : EReal) (y : ℝ) (hy : y ≠ 0) (h : n = (y : EReal)) (i : ℕ) : ∃ x : ℝ, Reference3Ideal.Fr.freq n i = (x : EReal) := by
  have h1 : Ideal.ofBits .f32 0x461C4000#32 = ((10000 : ℝ) : EReal) := by
    simp [Ideal.ofBits, Ideal.ieee, -EReal.coe_mul]; norm_num
  refine ⟨Real.rpow 10000 (-((BitVec.ofNat 32 i).toInt : ℝ) * (1 / y)), ?_⟩
  rw [Reference3Ideal.Fr.freq, h1, h, Ideal.div_coe hy]
  have h2 : (FloatOps.sitofp .f32 (BitVec.ofNat 32 i) : Ideal .f32) = ((((BitVec.ofNat 32 i).toInt : ℝ)) : EReal) := rfl
  rw [h2, ← EReal.coe_neg, ← EReal.coe_mul]
  rfl

theorem c32_val : Ideal.ofBits .f32 0x42000000#32 = ((32 : ℝ) : EReal) := by
  simp [Ideal.ofBits, Ideal.ieee, -EReal.coe_mul]; norm_num

theorem c16_val : Ideal.ofBits .f32 0x41800000#32 = ((16 : ℝ) : EReal) := by
  simp [Ideal.ofBits, Ideal.ieee, -EReal.coe_mul]; norm_num

end Cert.Kernel3Ideal.Fr

end
-- ==== Proof.FrHost.lean ====
/- The front call's prepared arguments, read at an index: positions, the rotary layout's constants, and the padded, transposed
   weights and gains. -/
module

public import proofs.«01_k».proof.Proof.Gen.Kernel3Ideal.Frame
public import Idealize.ShloMosaic.Lib.Pointwise

@[expose] public section

set_option maxRecDepth 16384

noncomputable section

namespace Cert.Kernel3Ideal.Fr

open Idealize.ShloMosaic Idealize.ShloMosaic.TcCoe Idealize.SL.Sem
open Cert.Kernel3Ideal Cert.Kernel3Ideal.Gen

variable (m : (ℓ : Loc nD τ sig) → Buf (Elt Ideal) ℓ)

/-- The arguments. -/
abbrev a0 (c : Dev nD) : FVec Ideal S16x4096x1024 .f32 := m ((c : Thread nD τ).loc main_arg0)
abbrev a1 (c : Dev nD) : IVec S16x4096 32 := m ((c : Thread nD τ).loc main_arg1)
abbrev a2 (c : Dev nD) : FVec Ideal S1x1024 .f32 := m ((c : Thread nD τ).loc main_arg2)
abbrev a3 (c : Dev nD) : FVec Ideal S1x1024x2464 .f32 := m ((c : Thread nD τ).loc main_arg3)
abbrev a4 (c : Dev nD) : FVec Ideal S1x256 .f32 := m ((c : Thread nD τ).loc main_arg4)
abbrev a5 (c : Dev nD) : FVec Ideal S1x256x768 .f32 := m ((c : Thread nD τ).loc main_arg5)
abbrev a6 (c : Dev nD) : FVec Ideal S1x128 .f32 := m ((c : Thread nD τ).loc main_arg6)
abbrev a7 (c : Dev nD) : FVec Ideal S1x128x1024 .f32 := m ((c : Thread nD τ).loc main_arg7)
abbrev a8 (c : Dev nD) : FVec Ideal S1x96 .f32 := m ((c : Thread nD τ).loc main_arg8)
abbrev a9 (c : Dev nD) : FVec Ideal S1x96 .f32 := m ((c : Thread nD τ).loc main_arg9)

/-- The padding value: the integer zero as a float. -/
theorem zeroPad : (FloatOps.sitofp .f32 0#32 : Ideal .f32) = (0 : EReal) := by
  show ((((0#32 : BitVec 32).toInt : ℝ)) : EReal) = 0
  simp

/-- The columns of the widened input projection. -/
theorem winF (w : Fin 2464 → EReal) (j : Fin 2560) :
    (if h : j.val < 2496 then
      (if h1 : j.val < 2464 then w ⟨j.val, h1⟩
       else if h2 : j.val - 2464 < 16 then - w ⟨2432 + (16 + (j.val - 2464)), by omega⟩
       else w ⟨2432 + (j.val - 2464 - 16), by omega⟩) else 0) =
    (if h : j.val < 2464 then w ⟨j.val, h⟩ else if h2 : j.val < 2480 then - w ⟨j.val - 16, by omega⟩
      else if h3 : j.val < 2496 then w ⟨j.val - 48, by omega⟩ else 0) := by
  have e (i k : Fin 2464) (h : i.val = k.val) : w i = w k := by rw [Fin.ext h]
  by_cases h1 : j.val < 2464
  · have h : j.val < 2496 := by omega
    simp only [h1, h, dif_pos]
  by_cases h2 : j.val < 2480
  · have h : j.val < 2496 := by omega
    have h' : j.val - 2464 < 16 := by omega
    simp only [h1, h, h2, h', dif_pos, dif_neg, not_false_eq_true]
    exact congrArg (- ·) (e _ _ (by dsimp only; omega))
  by_cases h3 : j.val < 2496
  · have h' : ¬ j.val - 2464 < 16 := by omega
    simp only [h1, h2, h3, h', dif_pos, dif_neg, not_false_eq_true]
    exact e _ _ (by dsimp only; omega)
  · simp only [h1, h2, h3, dif_neg, not_false_eq_true]

/-- The lanes of a gain of the rotated lanes. -/
theorem swF (w : Fin 96 → EReal) (d : Fin 128) :
    (if h : d.val < 96 then
      (if h : d.val < 64 then 0
       else if h1 : d.val - 64 < 16 then w ⟨64 + (16 + (d.val - 64)), by omega⟩
       else w ⟨64 + (d.val - 64 - 16), by omega⟩) else 0) =
    (if h : 64 ≤ d.val ∧ d.val < 80 then w ⟨d.val + 16, by omega⟩
      else if h2 : 80 ≤ d.val ∧ d.val < 96 then w ⟨d.val - 16, by omega⟩ else 0) := by
  have e (i k : Fin 96) (h : i.val = k.val) : w i = w k := by rw [Fin.ext h]
  by_cases h1 : d.val < 64
  · have h : d.val < 96 := by omega
    have h2 : ¬ (64 ≤ d.val ∧ d.val < 80) := by omega
    have h3 : ¬ (80 ≤ d.val ∧ d.val < 96) := by omega
    rw [dif_pos h, dif_pos h1, dif_neg h2, dif_neg h3]
  by_cases h2 : d.val < 80
  · have h : d.val < 96 := by omega
    have h' : d.val - 64 < 16 := by omega
    have h3 : 64 ≤ d.val ∧ d.val < 80 := by omega
    simp only [h1, h, h3, h', dif_pos, dif_neg, not_false_eq_true]
    exact e _ _ (by dsimp only; omega)
  have h4 : ¬ (64 ≤ d.val ∧ d.val < 80) := by omega
  by_cases h3 : d.val < 96
  · have h' : ¬ d.val - 64 < 16 := by omega
    have h5 : 80 ≤ d.val ∧ d.val < 96 := by omega
    simp only [h1, h4, h3, h5, h', dif_pos, dif_neg, not_false_eq_true]
    exact e _ _ (by dsimp only; omega)
  · have h5 : ¬ (80 ≤ d.val ∧ d.val < 96) := by omega
    rw [dif_neg h3, dif_neg h4, dif_neg h5]

/-- The input norm's gain. -/
theorem gV (c : Dev nD) (d : Fin 1024) :
    (V m c main_v138 : FVec Ideal S1x1024 .f32) (ix2 0 d) = (a2 m c (ix2 0 d) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  pointwise

/-- The query norm's gain. -/
theorem gqaV (c : Dev nD) (d : Fin 256) :
    (V m c main_v140 : FVec Ideal S1x256 .f32) (ix2 0 d) = (a4 m c (ix2 0 d) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  pointwise

/-- The key and value norm's gain. -/
theorem gkvaV (c : Dev nD) (d : Fin 128) :
    (V m c main_v142 : FVec Ideal S1x128 .f32) (ix2 0 d) = (a6 m c (ix2 0 d) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  pointwise

/-- The positions. -/
theorem posV (c : Dev nD) (b : Fin 16) (s : Fin 4096) :
    (V m c main_v89 : FVec Ideal S16x4096x1 .f32) (ix3 b s 0) = ((FloatOps.sitofp .f32 (a1 m c (ix2 b s)) : Ideal .f32) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  pointwise

set_option maxHeartbeats 2000000 in
/-- The input projection, with the rotary lanes' rotated columns and zeros behind it. -/
theorem winV (c : Dev nD) (d : Fin 1024) (j : Fin 2560) :
    (V m c main_v98 : FVec Ideal S1024x2560 .bf16) (ix2 d j) = (if h : j.val < 2464 then a3 m c (ix3 0 d ⟨j.val, h⟩) else if h2 : j.val < 2480 then - a3 m c (ix3 0 d ⟨j.val - 16, by omega⟩) else if h3 : j.val < 2496 then a3 m c (ix3 0 d ⟨j.val - 48, by omega⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]
  exact winF (fun k => a3 m c (ix3 0 d k)) j

/-- The query projection, transposed, a head's 96 lanes padded to 128. -/
theorem wqtV (c : Dev nD) (e : Fin 1024) (k : Fin 256) :
    (V m c main_v104 : FVec Ideal S1024x256 .bf16) (ix2 e k) = (if h : e.val % 128 < 96 then a5 m c (ix3 0 k ⟨e.val / 128 * 96 + e.val % 128, by omega⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]
  by_cases h : e.val % 128 < 96
  · rw [dif_pos ⟨by omega, h⟩, dif_pos h]
  · rw [dif_neg (fun h2 => h h2.2), dif_neg h]

/-- The key projection, a head's 64 lanes padded to 128. -/
theorem wkV (c : Dev nD) (k : Fin 128) (j : Fin 1024) :
    (V m c main_v110 : FVec Ideal S128x1024 .bf16) (ix2 k j) = (if h : j.val % 128 < 64 then a7 m c (ix3 0 k ⟨j.val / 128 * 128 + j.val % 128, by omega⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]
  have e (i k2 : Fin 1024) (h : i.val = k2.val) : a7 m c (ix3 0 k i) = a7 m c (ix3 0 k k2) := by rw [Fin.ext h]
  by_cases h : j.val % 128 < 64
  · rw [dif_pos ⟨by omega, h⟩, dif_pos h]
    exact e _ _ (by dsimp only; omega)
  · rw [dif_neg (fun h2 => h h2.2), dif_neg h]

/-- The value projection, transposed. -/
theorem wvtV (c : Dev nD) (e : Fin 512) (k : Fin 128) :
    (V m c main_v114 : FVec Ideal S512x128 .bf16) (ix2 e k) = (a7 m c (ix3 0 k ⟨e.val / 64 * 128 + (64 + e.val % 64), by omega⟩) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  pointwise

/-- The query gain. -/
theorem gqcV (c : Dev nD) (d : Fin 128) :
    (V m c main_v143 : FVec Ideal S128x1 .f32) (ix2 d 0) = (if h : d.val < 96 then a8 m c (ix2 0 ⟨d.val, h⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]

/-- The query gain of the rotated lanes. -/
theorem gqscV (c : Dev nD) (d : Fin 128) :
    (V m c main_v144 : FVec Ideal S128x1 .f32) (ix2 d 0) = (if h : 64 ≤ d.val ∧ d.val < 80 then a8 m c (ix2 0 ⟨d.val + 16, by omega⟩) else if h2 : 80 ≤ d.val ∧ d.val < 96 then a8 m c (ix2 0 ⟨d.val - 16, by omega⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]
  exact swF (fun k => a8 m c (ix2 0 k)) d

/-- The key gain. -/
theorem gkV (c : Dev nD) (d : Fin 128) :
    (V m c main_v134 : FVec Ideal S1x128 .f32) (ix2 0 d) = (if h : d.val < 96 then a9 m c (ix2 0 ⟨d.val, h⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]

/-- The key gain of the rotated lanes. -/
theorem gksV (c : Dev nD) (d : Fin 128) :
    (V m c main_v136 : FVec Ideal S1x128 .f32) (ix2 0 d) = (if h : 64 ≤ d.val ∧ d.val < 80 then a9 m c (ix2 0 ⟨d.val + 16, by omega⟩) else if h2 : 80 ≤ d.val ∧ d.val < 96 then a9 m c (ix2 0 ⟨d.val - 16, by omega⟩) else 0 : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  entry_read
  dsimp only [StableHlo.TRef.toBuf, StableHlo.TRef.ofBuf]
  simp only [cast_eq, eqRec_eq_cast]
  pointwise
  simp only [zeroPad]
  exact swF (fun k => a9 m c (ix2 0 k)) d

end Cert.Kernel3Ideal.Fr

end
-- ==== Proof.FrHost2.lean ====
/- The front call's prepared arguments, read at an index: positions, the rotary layout's constants, and the padded, transposed
   weights and gains. -/
module

public import Idealize.ShloMosaic.Lib.StableHlo.ReadAt
public import proofs.«01_k».proof.Proof.FrHost
public import Idealize.ShloMosaic.Lib.Pointwise

@[expose] public section

set_option maxRecDepth 16384

noncomputable section

namespace Cert.Kernel3Ideal.Fr

open Idealize.ShloMosaic Idealize.ShloMosaic.TcCoe Idealize.SL.Sem
open Cert.Kernel3Ideal Cert.Kernel3Ideal.Gen

variable (m : (ℓ : Loc nD τ sig) → Buf (Elt Ideal) ℓ)

/-- The rotary frequency of lane `i` of `n`: the base to the power of minus `i / n`. -/
def freq (n : EReal) (i : ℕ) : EReal :=
  Ideal.pow (Ideal.ofBits .f32 0x461C4000#32)
    (Ideal.div (-(FloatOps.sitofp .f32 (BitVec.ofNat 32 i) : Ideal .f32)) n)

/-- The frequency row: the retention's 32 twice, the mixer's 16 twice, zeros. -/
def freqL (l : ℕ) : EReal :=
  if l < 32 then freq (Ideal.ofBits .f32 0x42000000#32) l
  else if l < 64 then freq (Ideal.ofBits .f32 0x42000000#32) (l - 32)
  else if l < 80 then freq (Ideal.ofBits .f32 0x41800000#32) (l - 64)
  else if l < 96 then freq (Ideal.ofBits .f32 0x41800000#32) (l - 80)
  else 0

/-- The frequency row at a lane. -/
theorem freqV (c : Dev nD) (l : Fin 128) :
    (V m c main_v14 : FVec Ideal S1x128 .f32) (ix2 0 l) = (freqL l.val : EReal) := by
  unfold V
  after_reads_at
  after_reads_at
  unfold freqL freq
  by_cases h1 : l.val < 32
  · rw [dif_pos h1, if_pos h1]
  rw [dif_neg h1, if_neg h1]
  by_cases h2 : l.val < 64
  · have h : l.val - 32 < 32 := by omega
    rw [dif_pos h, if_pos h2]
  have h : ¬ l.val - 32 < 32 := by omega
  rw [dif_neg h, if_neg h2]
  clear h
  by_cases h3 : l.val < 80
  · have h : l.val - 32 - 32 < 16 := by omega
    have e : l.val - 32 - 32 = l.val - 64 := by omega
    rw [dif_pos h, if_pos h3, e]
  have h : ¬ l.val - 32 - 32 < 16 := by omega
  rw [dif_neg h, if_neg h3]
  clear h
  by_cases h4 : l.val < 96
  · have h : l.val - 32 - 32 - 16 < 16 := by omega
    have e : l.val - 32 - 32 - 16 = l.val - 80 := by omega
    rw [dif_pos h, if_pos h4, e]
  have h : ¬ l.val - 32 - 32 - 16 < 16 := by omega
  rw [dif_neg h, if_neg h4]

/-- The phase row at a lane: a quarter turn under the cosine lanes. -/
theorem phaseV (c : Dev nD) (l : Fin 128) :
    (V m c main_v26 : FVec Ideal S1x128 .f32) (ix2 0 l) =
      (if l.val < 32 ∨ (64 ≤ l.val ∧ l.val < 80) then Ideal.atan2 1 0 else (0 : EReal)) := by
  unfold V
  after_reads_at
  after_reads_at
  by_cases h1 : l.val < 32
  · rw [dif_pos h1, if_pos (Or.inl h1)]
  rw [dif_neg h1]
  by_cases h2 : l.val < 64
  · have h : l.val - 32 < 32 := by omega
    have h' : ¬ (l.val < 32 ∨ (64 ≤ l.val ∧ l.val < 80)) := by omega
    rw [dif_pos h, if_neg h']
  have h : ¬ l.val - 32 < 32 := by omega
  rw [dif_neg h]
  clear h
  by_cases h3 : l.val < 80
  · have h : l.val - 32 - 32 < 16 := by omega
    have h' : (l.val < 32 ∨ (64 ≤ l.val ∧ l.val < 80)) := by omega
    rw [dif_pos h, if_pos h']
  have h : ¬ l.val - 32 - 32 < 16 := by omega
  have h' : ¬ (l.val < 32 ∨ (64 ≤ l.val ∧ l.val < 80)) := by omega
  rw [dif_neg h, if_neg h', dite_eq_ite, ite_self]

/-- The mask of the rotated lanes as a bit. -/
theorem maskBit : ∀ q : Fin 128, IntOp.andi (IntOp.cmpi .sge (BitVec.ofNat 32 q.val) 64#32)
    (IntOp.cmpi .slt (BitVec.ofNat 32 q.val) 96#32) = if 64 ≤ q.val ∧ q.val < 96 then 1#1 else 0#1 := by
  decide +kernel

/-- The bias row at a lane: one under the mixer's cosine lanes that are not rotated. -/
theorem biasV (c : Dev nD) (j : Fin 512) :
    (V m c main_v87 : FVec Ideal S1x512 .f32) (ix2 0 j) =
      (if 256 ≤ j.val ∧ j.val < 384 ∧ ¬ (320 ≤ j.val ∧ j.val < 352) then (1 : EReal) else 0) := by
  unfold V
  after_reads_at
  after_reads_at
  by_cases h1 : j.val < 256
  · have h' : ¬ (256 ≤ j.val ∧ j.val < 384 ∧ ¬ (320 ≤ j.val ∧ j.val < 352)) := by omega
    rw [dif_pos h1, if_neg h']
  rw [dif_neg h1]
  by_cases h2 : j.val - 256 < 128
  · rw [dif_pos h2]
    dsimp only [id]
    pointwise
    have hb := maskBit ⟨j.val - 256, h2⟩
    dsimp only at hb
    rw [hb]
    by_cases h3 : 64 ≤ j.val - 256 ∧ j.val - 256 < 96
    · have h' : ¬ (256 ≤ j.val ∧ j.val < 384 ∧ ¬ (320 ≤ j.val ∧ j.val < 352)) := by omega
      rw [if_pos h3, if_neg h']
      rfl
    · have h' : (256 ≤ j.val ∧ j.val < 384 ∧ ¬ (320 ≤ j.val ∧ j.val < 352)) := by omega
      rw [if_neg h3, if_pos h']
      rfl
  · have h' : ¬ (256 ≤ j.val ∧ j.val < 384 ∧ ¬ (320 ≤ j.val ∧ j.val < 352)) := by omega
    rw [dif_neg h2, if_neg h']

/-- The remainder of the host program: the divisor's sign is the result's. -/
abbrev remB (x n : BitVec 32) : BitVec 32 :=
  Scalar.select
    (IntOp.andi
      (IntOp.cmpi .ne
        (IntOp.cmpi .slt (IntOp.remsi .host x (Scalar.select (IntOp.cmpi .eq n 0#32) 1#32 n)) 0#32)
        (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n))
      (Scalar.select (IntOp.cmpi .eq n 0#32) 1#32 n))
    (IntOp.remsi .host x (Scalar.select (IntOp.cmpi .eq n 0#32) 1#32 n))

theorem rem32 : ∀ q : Fin 128, remB (BitVec.ofNat 32 q.val) 32#32 = BitVec.ofNat 32 (q.val % 32) := by decide +kernel
theorem rem32' : ∀ q : Fin 128, IntOp.addi 32#32 (remB (BitVec.ofNat 32 q.val) 32#32) = BitVec.ofNat 32 (32 + q.val % 32) := by
  decide +kernel
theorem sgn32 : ∀ q : Fin 128, IntOp.cmpi .slt (remB (BitVec.ofNat 32 q.val) 64#32) 32#32 =
    if q.val % 64 < 32 then 1#1 else 0#1 := by decide +kernel
theorem rem16 : ∀ q : Fin 128, 64 ≤ q.val ∧ q.val < 96 →
    IntOp.addi 64#32 (remB (IntOp.subi (BitVec.ofNat 32 q.val) 64#32) 16#32) = BitVec.ofNat 32 (64 + q.val % 16) := by
  decide +kernel
theorem rem16' : ∀ q : Fin 128, 64 ≤ q.val ∧ q.val < 96 →
    IntOp.addi 80#32 (remB (IntOp.subi (BitVec.ofNat 32 q.val) 64#32) 16#32) = BitVec.ofNat 32 (80 + q.val % 16) := by
  decide +kernel
theorem eqBit : ∀ a b : Fin 128, IntOp.cmpi .eq (BitVec.ofNat 32 a.val) (BitVec.ofNat 32 b.val) =
    if a.val = b.val then 1#1 else 0#1 := by decide +kernel

/-- A bit as a float. -/
theorem bitF (p : Prop) [Decidable p] :
    (FloatOps.uitofp .f32 (if p then 1#1 else 0#1) : Ideal .f32) = (if p then (1 : EReal) else 0) := by
  by_cases h : p
  · rw [if_pos h, if_pos h]
    show ((((1#1 : BitVec 1).toNat : ℝ)) : EReal) = 1
    simp
  · rw [if_neg h, if_neg h]
    show ((((0#1 : BitVec 1).toNat : ℝ)) : EReal) = 0
    simp

/-- The table that copies and signs the lanes: row `l`, column `j`. -/
def expF (l j : ℕ) : EReal :=
  if j < 128 then (if l = j % 32 then 1 else 0)
  else if j < 256 then (if l = 32 + j % 32 then 1 else 0) * (if j % 64 < 32 then -1 else 1)
  else if j < 384 then (if (320 ≤ j ∧ j < 352) ∧ l = 64 + j % 16 then 1 else 0)
  else (if (448 ≤ j ∧ j < 480) ∧ l = 80 + j % 16 then 1 else 0)

theorem neg1 : Ideal.ofBits .f32 0xBF800000#32 = (-1 : EReal) := by
  simp [Ideal.ofBits, Ideal.ieee, -EReal.coe_mul]
  norm_num

/-- A masked bit: an equality under the mask of the rotated lanes. -/
theorem mBit (l : Fin 128) (q : Fin 128) (n : ℕ) (hn : n + q.val % 16 < 128) (b : BitVec 32)
    (hb : 64 ≤ q.val ∧ q.val < 96 → b = BitVec.ofNat 32 (n + q.val % 16)) :
    IntOp.andi (IntOp.cmpi .eq (BitVec.ofNat 32 l.val) b)
      (IntOp.andi (IntOp.cmpi .sge (BitVec.ofNat 32 q.val) 64#32) (IntOp.cmpi .slt (BitVec.ofNat 32 q.val) 96#32)) =
    if (64 ≤ q.val ∧ q.val < 96) ∧ l.val = n + q.val % 16 then 1#1 else 0#1 := by
  rw [maskBit]
  by_cases h : 64 ≤ q.val ∧ q.val < 96
  · rw [hb h, eqBit l ⟨_, hn⟩, if_pos h]
    dsimp only
    by_cases h2 : l.val = n + q.val % 16
    · rw [if_pos h2, if_pos ⟨h, h2⟩]; rfl
    · rw [if_neg h2, if_neg (fun h3 => h2 h3.2)]; rfl
  · rw [if_neg h, if_neg (fun h3 => h h3.1)]
    show _ &&& 0#1 = 0#1
    simp

set_option maxHeartbeats 4000000 in
/-- The expansion table at an index. -/
theorem expandV (c : Dev nD) (l : Fin 128) (j : Fin 512) :
    (V m c main_v81 : FVec Ideal S128x512 .bf16) (ix2 l j) = (expF l.val j.val : EReal) := by
  unfold V
  after_reads_at
  after_reads_at
  unfold expF
  by_cases h1 : j.val < 128
  · rw [dif_pos h1, if_pos h1]
    have hr := rem32 ⟨j.val, h1⟩
    have he := eqBit l ⟨j.val % 32, by omega⟩
    dsimp only at hr he
    refine Eq.trans ?_ (bitF (l.val = j.val % 32))
    rw [← he, ← hr]
    rfl
  rw [dif_neg h1, if_neg h1]
  by_cases h2 : j.val - 128 < 128
  · have h2' : j.val < 256 := by omega
    have em : (j.val - 128) % 32 = j.val % 32 := by omega
    have em' : (j.val - 128) % 64 = j.val % 64 := by omega
    rw [dif_pos h2, if_pos h2']
    dsimp only [id]
    pointwise
    have hr := rem32' ⟨j.val - 128, h2⟩
    have hs := sgn32 ⟨j.val - 128, h2⟩
    have he := eqBit l ⟨32 + j.val % 32, by omega⟩
    dsimp only at hr hs he
    rw [em] at hr
    rw [em'] at hs
    refine congrArg₂ (· * ·) ?_ ?_
    · refine Eq.trans ?_ (bitF (l.val = 32 + j.val % 32))
      rw [← he, ← hr]
    · refine Eq.trans (b := (Scalar.select (IntOp.cmpi .slt (remB (BitVec.ofNat 32 (j.val - 128)) 64#32) 32#32)
        (Ideal.ofBits .f32 0xBF800000#32) 1 : EReal)) rfl ?_
      rw [hs, neg1]
      by_cases h3 : j.val % 64 < 32
      · rw [if_pos h3, if_pos h3]; rfl
      · rw [if_neg h3, if_neg h3]; rfl
  have h2' : ¬ j.val < 256 := by omega
  rw [dif_neg h2, if_neg h2']
  by_cases h3 : j.val - 128 - 128 < 128
  · have h3' : j.val < 384 := by omega
    rw [dif_pos h3, if_pos h3']
    have hm := mBit l ⟨j.val - 128 - 128, h3⟩ 64 (by omega) _ (rem16 ⟨j.val - 128 - 128, h3⟩)
    dsimp only at hm
    have hp : (if (320 ≤ j.val ∧ j.val < 352) ∧ l.val = 64 + j.val % 16 then (1 : EReal) else 0) =
        if (64 ≤ j.val - 128 - 128 ∧ j.val - 128 - 128 < 96) ∧ l.val = 64 + (j.val - 128 - 128) % 16 then (1 : EReal) else 0 :=
      if_congr (by omega) rfl rfl
    rw [hp, ← bitF, ← hm]
    rfl
  · have h3' : ¬ j.val < 384 := by omega
    have h4 : j.val - 128 - 128 - 128 < 128 := by omega
    rw [dif_neg h3, if_neg h3']
    have hm := mBit l ⟨j.val - 128 - 128 - 128, h4⟩ 80 (by omega) _ (rem16' ⟨j.val - 128 - 128 - 128, h4⟩)
    dsimp only at hm
    have hp : (if (448 ≤ j.val ∧ j.val < 480) ∧ l.val = 80 + j.val % 16 then (1 : EReal) else 0) =
        if (64 ≤ j.val - 128 - 128 - 128 ∧ j.val - 128 - 128 - 128 < 96) ∧ l.val = 80 + (j.val - 128 - 128 - 128) % 16 then (1 : EReal) else 0 :=
      if_congr (by omega) rfl rfl
    rw [hp, ← bitF, ← hm]
    rfl

end Cert.Kernel3Ideal.Fr

end
-- ==== Proof.FrTab.lean ====
/- The front's rotary tables over the extended reals: one sine per lane, spread by a matrix of zeros and ones, is the reference's
   cosines and sines. -/
module

public import proofs.«01_k».proof.Proof.FrMath
public import proofs.«01_k».proof.Proof.FrHost2

@[expose] public section

set_option maxRecDepth 16384

noncomputable section

namespace Cert.Kernel3Ideal.Fr

open Idealize.ShloMosaic Idealize.ShloMosaic.TcCoe Idealize.SL.Sem

/-- A sum against a one in one lane is that lane. -/
theorem pick (s : Fin 128 → EReal) (k : ℕ) (hk : k < 128) (w : EReal) :
    ∑ l : Fin 128, s l * ((if l.val = k then 1 else 0) * w) = s ⟨k, hk⟩ * w := by
  rw [Finset.sum_eq_single (⟨k, hk⟩ : Fin 128)]
  · rw [if_pos rfl, one_mul]
  · intro l _ hl
    rw [if_neg (fun h => hl (Fin.ext h)), zero_mul, mul_zero]
  · intro h
    exact absurd (Finset.mem_univ _) h

/-- The same under a condition on the column. -/
theorem pickIf (s : Fin 128 → EReal) (C : Prop) [Decidable C] (k : ℕ) (hk : k < 128) :
    ∑ l : Fin 128, s l * (if C ∧ l.val = k then 1 else 0) = if C then s ⟨k, hk⟩ else 0 := by
  by_cases h : C
  · rw [if_pos h, ← mul_one (s ⟨k, hk⟩), ← pick s k hk 1]
    refine Finset.sum_congr rfl fun l _ => ?_
    by_cases hl : l.val = k
    · rw [if_pos ⟨h, hl⟩, if_pos hl, one_mul]
    · rw [if_neg (fun x => hl x.2), if_neg hl, zero_mul]
  · rw [if_neg h]
    exact Finset.sum_eq_zero fun l _ => by rw [if_neg (fun x => h x.1), mul_zero]

/-- The phase of a lane: a quarter turn on the lanes that give cosines. -/
def phs (l : ℕ) : EReal := if l < 32 ∨ (64 ≤ l ∧ l < 80) then Ideal.atan2 1 0 else 0

/-- What is added to a lane of the attention's cosines outside the rotated lanes. -/
def bia (j : ℕ) : EReal := if 256 ≤ j ∧ j < 384 ∧ ¬ (320 ≤ j ∧ j < 352) then 1 else 0

/-- One lane's sine. -/
def sn (p : EReal) (l : ℕ) : EReal := Ideal.sin (p * freqL l + phs l)

/-- The table at a column. -/
def full (p : EReal) (j : ℕ) : EReal :=
  (∑ l : Fin 128, sn p l.val * expF l.val j) + (∑ l : Fin 128, (sn p l.val - sn p l.val) * expF l.val j) + bia j

theorem fr32 (i : ℕ) : ∃ x : ℝ, freq (Ideal.ofBits .f32 0x42000000#32) i = (x : EReal) := freq_real _ 32 (by norm_num) c32_val i
theorem fr16 (i : ℕ) : ∃ x : ℝ, freq (Ideal.ofBits .f32 0x41800000#32) i = (x : EReal) := freq_real _ 16 (by norm_num) c16_val i

/-- Every lane's sine is real. -/
theorem sn_real (p : ℝ) (l : ℕ) : ∃ x : ℝ, sn (p : EReal) l = (x : EReal) := by
  have hf : ∃ x : ℝ, freqL l = (x : EReal) := by
    unfold freqL
    split_ifs
    · exact fr32 _
    · exact fr32 _
    · exact fr16 _
    · exact fr16 _
    · exact ⟨0, rfl⟩
  have hp : ∃ x : ℝ, phs l = (x : EReal) := by
    unfold phs
    split_ifs
    · exact ⟨_, atan_val⟩
    · exact ⟨0, rfl⟩
  obtain ⟨f, hf⟩ := hf
  obtain ⟨h, hp⟩ := hp
  refine ⟨Real.sin (p * f + h), ?_⟩
  rw [sn, hf, hp, ← EReal.coe_mul, ← EReal.coe_add]
  rfl

/-- The second sum of the table is nothing. -/
theorem full_eq (p : ℝ) (j : ℕ) : full (p : EReal) j = (∑ l : Fin 128, sn (p : EReal) l.val * expF l.val j) + bia j := by
  rw [full]
  have h : ∑ l : Fin 128, (sn (p : EReal) l.val - sn (p : EReal) l.val) * expF l.val j = 0 := by
    refine Finset.sum_eq_zero fun l _ => ?_
    obtain ⟨x, hx⟩ := sn_real p l.val
    rw [hx, ← EReal.coe_sub, sub_self, EReal.coe_zero, zero_mul]
  rw [h, add_zero]

/-- A lane with the quarter turn gives a cosine. -/
theorem sn_cos (p : ℝ) (l : ℕ) (f : EReal) (hf : ∃ x : ℝ, f = (x : EReal)) (h1 : freqL l = f) (h2 : phs l = Ideal.atan2 1 0) :
    sn (p : EReal) l = Ideal.cos ((p : EReal) * f) := by
  obtain ⟨x, hx⟩ := hf
  rw [sn, h1, h2, hx, ← EReal.coe_mul, sin_quarter]

/-- A lane without it gives a sine. -/
theorem sn_sin (p : EReal) (l : ℕ) (f : EReal) (h1 : freqL l = f) (h2 : phs l = 0) : sn p l = Ideal.sin (p * f) := by
  rw [sn, h1, h2, add_zero]

/-- The retention's table. -/
theorem full_ret (p : ℝ) (j : ℕ) (hj : j < 256) : full (p : EReal) j
    = if j < 128 then Ideal.cos ((p : EReal) * freq (Ideal.ofBits .f32 0x42000000#32) (j % 32))
      else if j % 64 < 32 then - Ideal.sin ((p : EReal) * freq (Ideal.ofBits .f32 0x42000000#32) (j % 32))
      else Ideal.sin ((p : EReal) * freq (Ideal.ofBits .f32 0x42000000#32) (j % 32)) := by
  have hb : bia j = 0 := by
    unfold bia
    exact if_neg (by omega)
  rw [full_eq, hb, add_zero]
  by_cases h1 : j < 128
  · have e (l : Fin 128) : expF l.val j = (if l.val = j % 32 then 1 else 0) * 1 := by rw [expF, if_pos h1, mul_one]
    simp only [e]
    have h32 : j % 32 < 32 := by omega
    rw [if_pos h1, pick (fun l => sn (p : EReal) l.val) (j % 32) (by omega) 1, mul_one]
    exact sn_cos p _ _ (fr32 _) (by rw [freqL, if_pos h32]) (by rw [phs, if_pos (Or.inl h32)])
  · have e (l : Fin 128) : expF l.val j = (if l.val = 32 + j % 32 then 1 else 0) * (if j % 64 < 32 then -1 else 1) := by
      rw [expF, if_neg h1, if_pos hj]
    simp only [e]
    have hs : sn (p : EReal) (32 + j % 32) = Ideal.sin ((p : EReal) * freq (Ideal.ofBits .f32 0x42000000#32) (j % 32)) := by
      have h2 : ¬ (32 + j % 32 < 32) := by omega
      have h3 : 32 + j % 32 < 64 := by omega
      have h4 : ¬ (32 + j % 32 < 32 ∨ (64 ≤ 32 + j % 32 ∧ 32 + j % 32 < 80)) := by omega
      exact sn_sin _ _ _ (by rw [freqL, if_neg h2, if_pos h3, Nat.add_sub_cancel_left]) (by rw [phs, if_neg h4])
    rw [if_neg h1, pick (fun l => sn (p : EReal) l.val) (32 + j % 32) (by omega)]
    dsimp only
    rw [hs]
    split_ifs
    · rw [mul_neg, mul_one]
    · rw [mul_one]

/-- The attention's cosines. -/
theorem full_cos (p : ℝ) (d : ℕ) (hd : d < 128) : full (p : EReal) (256 + d)
    = if 64 ≤ d ∧ d < 96 then Ideal.cos ((p : EReal) * freq (Ideal.ofBits .f32 0x41800000#32) (d % 16)) else 1 := by
  have h1 : ¬ 256 + d < 128 := by omega
  have h2 : ¬ 256 + d < 256 := by omega
  have h3 : 256 + d < 384 := by omega
  have em : (256 + d) % 16 = d % 16 := by omega
  have e (l : Fin 128) : expF l.val (256 + d) = (if (320 ≤ 256 + d ∧ 256 + d < 352) ∧ l.val = 64 + d % 16 then 1 else 0) := by
    rw [expF, if_neg h1, if_neg h2, if_pos h3, em]
  rw [full_eq]
  simp only [e]
  rw [pickIf (fun l => sn (p : EReal) l.val) _ (64 + d % 16) (by omega)]
  by_cases h : 64 ≤ d ∧ d < 96
  · have h4 : 320 ≤ 256 + d ∧ 256 + d < 352 := by omega
    have h5 : ¬ (256 ≤ 256 + d ∧ 256 + d < 384 ∧ ¬ (320 ≤ 256 + d ∧ 256 + d < 352)) := by omega
    rw [if_pos h4, if_pos h, bia, if_neg h5, add_zero]
    have h6 : ¬ 64 + d % 16 < 32 := by omega
    have h7 : ¬ 64 + d % 16 < 64 := by omega
    have h8 : 64 + d % 16 < 80 := by omega
    have h9 : 64 + d % 16 < 32 ∨ (64 ≤ 64 + d % 16 ∧ 64 + d % 16 < 80) := by omega
    exact sn_cos p _ _ (fr16 _) (by rw [freqL, if_neg h6, if_neg h7, if_pos h8, Nat.add_sub_cancel_left]) (by rw [phs, if_pos h9])
  · have h4 : ¬ (320 ≤ 256 + d ∧ 256 + d < 352) := by omega
    have h5 : (256 ≤ 256 + d ∧ 256 + d < 384 ∧ ¬ (320 ≤ 256 + d ∧ 256 + d < 352)) := by omega
    rw [if_neg h4, if_neg h, bia, if_pos h5, zero_add]

/-- The attention's sines. -/
theorem full_sin (p : ℝ) (d : ℕ) (hd : d < 128) : full (p : EReal) (384 + d)
    = if 64 ≤ d ∧ d < 96 then Ideal.sin ((p : EReal) * freq (Ideal.ofBits .f32 0x41800000#32) (d % 16)) else 0 := by
  have h1 : ¬ 384 + d < 128 := by omega
  have h2 : ¬ 384 + d < 256 := by omega
  have h3 : ¬ 384 + d < 384 := by omega
  have em : (384 + d) % 16 = d % 16 := by omega
  have e (l : Fin 128) : expF l.val (384 + d) = (if (448 ≤ 384 + d ∧ 384 + d < 480) ∧ l.val = 80 + d % 16 then 1 else 0) := by
    rw [expF, if_neg h1, if_neg h2, if_neg h3, em]
  have h5 : ¬ (256 ≤ 384 + d ∧ 384 + d < 384 ∧ ¬ (320 ≤ 384 + d ∧ 384 + d < 352)) := by omega
  rw [full_eq, bia, if_neg h5, add_zero]
  simp only [e]
  rw [pickIf (fun l => sn (p : EReal) l.val) _ (80 + d % 16) (by omega)]
  by_cases h : 64 ≤ d ∧ d < 96
  · have h4 : 448 ≤ 384 + d ∧ 384 + d < 480 := by omega
    rw [if_pos h4, if_pos h]
    have h6 : ¬ 80 + d % 16 < 32 := by omega
    have h7 : ¬ 80 + d % 16 < 64 := by omega
    have h8 : ¬ 80 + d % 16 < 80 := by omega
    have h10 : 80 + d % 16 < 96 := by omega
    have h9 : ¬ (80 + d % 16 < 32 ∨ (64 ≤ 80 + d % 16 ∧ 80 + d % 16 < 80)) := by omega
    exact sn_sin _ _ _ (by rw [freqL, if_neg h6, if_neg h7, if_neg h8, if_pos h10, Nat.add_sub_cancel_left]) (by rw [phs, if_neg h9])
  · have h4 : ¬ (448 ≤ 384 + d ∧ 384 + d < 480) := by omega
    rw [if_neg h4, if_neg h]

end Cert.Kernel3Ideal.Fr

end
-- ==== Proof.FrRow.lean ====
/- One row of the front: what a block's pieces give at a row, from the row's tokens and the prepared weights, is the reference's
   value at that token. -/
module

public import proofs.«01_k».proof.Proof.FrTab

@[expose] public section

set_option maxRecDepth 16384

noncomputable section

namespace Cert.Kernel3Ideal.Fr

open Idealize.ShloMosaic Idealize.ShloMosaic.TcCoe Idealize.SL.Sem
open Cert.Kernel3Ideal Cert.Kernel3Ideal.Gen
open Cert.Reference3Ideal.Read (val_main_v13 val_main_v15 val_main_v33 val_main_v36 val_main_v50 val_main_v53 val_main_v58 val_main_v72 val_main_v86
  val_main_v118 val_main_v150 val_main_v167 val_main_v176 val_main_v177 val_main_v178 val_main_v179)

variable (x0 : FVec Ideal S16x4096x1024 .f32) (x1 : IVec S16x4096 32) (x2 : FVec Ideal S1x1024 .f32) (x3 : FVec Ideal S1x1024x2464 .f32)
  (x4 : FVec Ideal S1x256 .f32) (x5 : FVec Ideal S1x256x768 .f32) (x6 : FVec Ideal S1x128 .f32) (x7 : FVec Ideal S1x128x1024 .f32)
  (x8 x9 : FVec Ideal S1x96 .f32)

/-- What a block's row `r` holds: token `s` of batch `b`, its position, and the prepared weights, tables and gains. -/
structure Facts (b : Fin 16) (s : Fin 4096) (r : Fin 128) (X : Vec Ideal S1x128x1024 .f32) (P : Vec Ideal S1x128x1 .f32)
    (G : Vec Ideal S1x1024 .f32) (W : Vec Ideal S1024x2560 .bf16) (F PH : Vec Ideal S1x128 .f32) (E : Vec Ideal S128x512 .bf16)
    (B : Vec Ideal S1x512 .f32) (gq : Vec Ideal S1x256 .f32) (wq : Vec Ideal S1024x256 .bf16) (gkv : Vec Ideal S1x128 .f32)
    (wk : Vec Ideal S128x1024 .bf16) (wv : Vec Ideal S512x128 .bf16) (gc gs : Vec Ideal S128x1 .f32) (kc ks : Vec Ideal S1x128 .f32) : Prop where
  hX : ∀ k : Fin 1024, X (ix3 0 r k) = x0 (ix3 b s k)
  hP : P (ix3 0 r 0) = Reference3Ideal.Fr.pos x1 b s
  hG : ∀ k : Fin 1024, G (ix2 0 k) = x2 (ix2 0 k)
  hW : ∀ (d : Fin 1024) (j : Fin 2560), W (ix2 d j) = (if h : j.val < 2464 then x3 (ix3 0 d ⟨j.val, h⟩)
    else if h2 : j.val < 2480 then - x3 (ix3 0 d ⟨j.val - 16, by omega⟩) else if h3 : j.val < 2496 then x3 (ix3 0 d ⟨j.val - 48, by omega⟩) else 0 : EReal)
  hF : ∀ l : Fin 128, F (ix2 0 l) = freqL l.val
  hPH : ∀ l : Fin 128, PH (ix2 0 l) = phs l.val
  hE : ∀ (l : Fin 128) (j : Fin 512), E (ix2 l j) = expF l.val j.val
  hB : ∀ j : Fin 512, B (ix2 0 j) = bia j.val
  hgq : ∀ k : Fin 256, gq (ix2 0 k) = x4 (ix2 0 k)
  hwq : ∀ (e : Fin 1024) (k : Fin 256), wq (ix2 e k) = (if h : e.val % 128 < 96 then x5 (ix3 0 k ⟨e.val / 128 * 96 + e.val % 128, by omega⟩) else 0 : EReal)
  hgkv : ∀ k : Fin 128, gkv (ix2 0 k) = x6 (ix2 0 k)
  hwk : ∀ (k : Fin 128) (j : Fin 1024), wk (ix2 k j) = (if h : j.val % 128 < 64 then x7 (ix3 0 k ⟨j.val / 128 * 128 + j.val % 128, by omega⟩) else 0 : EReal)
  hwv : ∀ (e : Fin 512) (k : Fin 128), wv (ix2 e k) = x7 (ix3 0 k ⟨e.val / 64 * 128 + (64 + e.val % 64), by omega⟩)
  hgc : ∀ d : Fin 128, gc (ix2 d 0) = (if h : d.val < 96 then x8 (ix2 0 ⟨d.val, h⟩) else 0 : EReal)
  hgs : ∀ d : Fin 128, gs (ix2 d 0) = (if h : 64 ≤ d.val ∧ d.val < 80 then x8 (ix2 0 ⟨d.val + 16, by omega⟩)
    else if h2 : 80 ≤ d.val ∧ d.val < 96 then x8 (ix2 0 ⟨d.val - 16, by omega⟩) else 0 : EReal)
  hkc : ∀ d : Fin 128, kc (ix2 0 d) = (if h : d.val < 96 then x9 (ix2 0 ⟨d.val, h⟩) else 0 : EReal)
  hks : ∀ d : Fin 128, ks (ix2 0 d) = (if h : 64 ≤ d.val ∧ d.val < 80 then x9 (ix2 0 ⟨d.val + 16, by omega⟩)
    else if h2 : 80 ≤ d.val ∧ d.val < 96 then x9 (ix2 0 ⟨d.val - 16, by omega⟩) else 0 : EReal)

variable {x0 x1 x2 x3 x4 x5 x6 x7 x8 x9}
variable {b : Fin 16} {s : Fin 4096} {r : Fin 128} {X : Vec Ideal S1x128x1024 .f32} {P : Vec Ideal S1x128x1 .f32}
    {G : Vec Ideal S1x1024 .f32} {W : Vec Ideal S1024x2560 .bf16} {F PH : Vec Ideal S1x128 .f32} {E : Vec Ideal S128x512 .bf16}
    {B : Vec Ideal S1x512 .f32} {gq : Vec Ideal S1x256 .f32} {wq : Vec Ideal S1024x256 .bf16} {gkv : Vec Ideal S1x128 .f32}
    {wk : Vec Ideal S128x1024 .bf16} {wv : Vec Ideal S512x128 .bf16} {gc gs : Vec Ideal S128x1 .f32} {kc ks : Vec Ideal S1x128 .f32}
  (H : Facts x0 x1 x2 x3 x4 x5 x6 x7 x8 x9 b s r X P G W F PH E B gq wq gkv wk wv gc gs kc ks)

include H

/-- The projection over the reference's normed lanes. -/
theorem cols (j : Fin 2560) : k0_pay5 X G W (ix2 r j) = ∑ d : Fin 1024, val_main_v13 (F := Ideal) x0 x2 (ix3 b s d) * W (ix2 d j) := by
  rw [proj_apply]
  refine Finset.sum_congr rfl fun d _ => ?_
  rw [Reference3Ideal.Fr.h_apply, nrm_eq _ _ div1024]
  simp only [H.hX, H.hG]

/-- The columns of the weight itself. -/
theorem col_lo (j : ℕ) (hj : j < 2464) : k0_pay5 X G W (ix2 r ⟨j, by omega⟩) = val_main_v15 (F := Ideal) x0 x2 x3 (ix3 b s ⟨j, hj⟩) := by
  rw [cols H, Reference3Ideal.Fr.proj_apply]
  refine Finset.sum_congr rfl fun d _ => ?_
  rw [H.hW]
  dsimp only
  rw [dif_pos hj]

/-- The opposite columns, where the column is finite. -/
theorem col_neg (j : ℕ) (h1 : 2464 ≤ j) (h2 : j < 2480) (ht : val_main_v15 (F := Ideal) x0 x2 x3 (ix3 b s ⟨j - 16, by omega⟩) ≠ (⊤ : EReal))
    (hb : val_main_v15 (F := Ideal) x0 x2 x3 (ix3 b s ⟨j - 16, by omega⟩) ≠ (⊥ : EReal)) :
    k0_pay5 X G W (ix2 r ⟨j, by omega⟩) = (- val_main_v15 (F := Ideal) x0 x2 x3 (ix3 b s ⟨j - 16, by omega⟩) : EReal) := by
  rw [Reference3Ideal.Fr.proj_apply] at ht hb ⊢
  rw [cols H, ← sum_neg' _ ht hb]
  refine Finset.sum_congr rfl fun d _ => ?_
  rw [H.hW]
  dsimp only
  have h3 : ¬ j < 2464 := by omega
  rw [dif_neg h3, dif_pos h2, mul_neg]

/-- The columns again. -/
theorem col_hi (j : ℕ) (h1 : 2480 ≤ j) (h2 : j < 2496) :
    k0_pay5 X G W (ix2 r ⟨j, by omega⟩) = val_main_v15 (F := Ideal) x0 x2 x3 (ix3 b s ⟨j - 48, by omega⟩) := by
  rw [cols H, Reference3Ideal.Fr.proj_apply]
  refine Finset.sum_congr rfl fun d _ => ?_
  rw [H.hW]
  dsimp only
  have h3 : ¬ j < 2464 := by omega
  have h4 : ¬ j < 2480 := by omega
  rw [dif_neg h3, dif_neg h4, dif_pos h2]

/-- The retention's columns. -/
theorem p17 (j : Fin 2048) : k0_pay6 X G W (ix3 0 r j) = val_main_v176 (F := Ideal) x0 x2 x3 (ix3 b s j) := by
  rw [ret_apply, Reference3Ideal.Fr.ret_apply, col_lo H]

/-- A table lane. -/
theorem tabF (j : Fin 512) : k0_pay21 (k0_pay20 P) F PH E B (ix2 r j) = full (Reference3Ideal.Fr.pos x1 b s) j.val := by
  rw [full_apply]
  simp only [H.hF, H.hPH, H.hE, H.hB, H.hP]
  rfl

/-- The retention's table. -/
theorem p18 (j : Fin 256) : k0_pay22 (k0_pay20 P) F PH E B (ix3 0 r j) = val_main_v167 (F := Ideal) x1 (ix3 b s j) := by
  rw [tab_apply, tabF H, Reference3Ideal.Fr.tab_apply]
  exact full_ret _ _ j.isLt

/-- The attention's cosines. -/
theorem tcos (d : Fin 128) : k0_pay23 (k0_pay20 P) F PH E B (ix2 r ⟨d.val, by omega⟩)
    = (if 64 ≤ d.val ∧ d.val < 96 then Ideal.cos (Reference3Ideal.Fr.ang x1 b s (d.val % 16)) else 1 : EReal) := by
  rw [mtab_apply, tabF H]
  exact full_cos _ _ d.isLt

/-- The attention's sines. -/
theorem tsin (d : Fin 128) : k0_pay23 (k0_pay20 P) F PH E B (ix2 r ⟨128 + d.val, by omega⟩)
    = (if 64 ≤ d.val ∧ d.val < 96 then Ideal.sin (Reference3Ideal.Fr.ang x1 b s (d.val % 16)) else 0 : EReal) := by
  rw [mtab_apply, tabF H]
  have e : 256 + (128 + d.val) = 384 + d.val := by omega
  dsimp only
  rw [e]
  exact full_sin _ _ d.isLt

/-- A head's queries before their norm. -/
theorem qrow (h : Fin 8) (d : Fin 128) (o : ℕ) (ho : o = 128 * h.val) :
    k0_pay40 (k0_pay7 X G W) gq wq (ix2 ⟨o + d.val, by omega⟩ r)
      = (if hd : d.val < 96 then val_main_v36 (F := Ideal) x0 x2 x3 x4 x5 (ix4 b s h ⟨d.val, hd⟩) else 0 : EReal) := by
  have e1 : (o + d.val) % 128 = d.val := by omega
  have e2 : (o + d.val) / 128 = h.val := by omega
  rw [q_apply]
  simp only [H.hwq, e1, e2]
  by_cases hd : d.val < 96
  · simp only [dif_pos hd]
    rw [Reference3Ideal.Fr.q_apply]
    refine Finset.sum_congr rfl fun c _ => ?_
    rw [Reference3Ideal.Fr.cq_apply, nrm_eq _ _ div256, mul_comm]
    simp only [rest_apply, H.hgq]
    refine congrArg (· * _) (congrArg (fun f => Reference3Ideal.Fr.nrm _ f _ c) ?_)
    funext k
    exact col_lo H _ (by omega)
  · simp only [dif_neg hd, zero_mul, Finset.sum_const_zero]

/-- A head's queries. -/
theorem p19 (h : Fin 8) (d : Fin 128) (o : ℕ) (ho : o = 128 * h.val) (hs : _) :
    qhead (k0_pay41 (k0_pay23 (k0_pay20 P) F PH E B) gc) (k0_pay42 (k0_pay23 (k0_pay20 P) F PH E B) gs)
      (extractStridedSlice S128x128 ![o, 0] (k0_pay40 (k0_pay7 X G W) gq wq) hs) (ix4 0 0 d r)
      = val_main_v177 (F := Ideal) x0 x1 x2 x3 x4 x5 x8 (ix4 b h d s) := by
  have hsl (k : Fin 128) : extractStridedSlice S128x128 ![o, 0] (k0_pay40 (k0_pay7 X G W) gq wq) hs (ix2 k r)
      = k0_pay40 (k0_pay7 X G W) gq wq (ix2 ⟨o + k.val, by omega⟩ r) := by
    generalize k0_pay40 (k0_pay7 X G W) gq wq = y
    pointwise
  rw [qhead_apply, Reference3Ideal.Fr.qt_apply]
  simp only [Reference3Ideal.Fr.qrot_apply, Reference3Ideal.Fr.qn_apply, qcos_apply, qsin_apply, hsl]
  exact q_math (fun k => val_main_v36 (F := Ideal) x0 x2 x3 x4 x5 (ix4 b s h k)) (fun k => x8 (ix2 0 k)) (Reference3Ideal.Fr.ang x1 b s) _
    (fun k => k0_pay40 (k0_pay7 X G W) gq wq (ix2 ⟨o + k.val, by omega⟩ r)) (fun k => gc (ix2 k 0)) (fun k => gs (ix2 k 0))
    (fun k => k0_pay23 (k0_pay20 P) F PH E B (ix2 r ⟨k.val, by omega⟩)) (fun k => k0_pay23 (k0_pay20 P) F PH E B (ix2 r ⟨128 + k.val, by omega⟩))
    (fun k => qrow H h k o ho) H.hgc H.hgs (tcos H) (tsin H) d

/-- The latent keys and values of the token. -/
theorem ckvrow (d : Fin 128) : ckv (k0_pay7 X G W) gkv (ix2 r d) = val_main_v50 (F := Ideal) x0 x2 x3 x6 (ix3 b s d) := by
  rw [ckv_apply, Reference3Ideal.Fr.ckv_apply, nrm_eq _ _ div128]
  simp only [rest_apply, H.hgkv]
  refine congrArg (fun f => Reference3Ideal.Fr.nrm _ f _ d) ?_
  funext k
  have e : 2048 + (256 + k.val) = 2304 + k.val := by omega
  simp only [e]
  exact col_lo H _ (by omega)

/-- A head's keys before their norm, without the shared lanes. -/
theorem krow (h : Fin 8) (d : Fin 128) (o : ℕ) (ho : o = 128 * h.val) :
    kall (k0_pay7 X G W) gkv wk (ix2 r ⟨o + d.val, by omega⟩)
      = (if hd : d.val < 64 then val_main_v58 (F := Ideal) x0 x2 x3 x6 x7 (ix4 b s h ⟨d.val, by omega⟩) else 0 : EReal) := by
  have e1 : (o + d.val) % 128 = d.val := by omega
  have e2 : (o + d.val) / 128 = h.val := by omega
  rw [kall_apply]
  simp only [H.hwk, e1, e2, ckvrow H]
  by_cases hd : d.val < 64
  · simp only [dif_pos hd]
    rw [Reference3Ideal.Fr.k_apply, dif_pos hd, Reference3Ideal.Fr.kv_apply]
  · simp only [dif_neg hd, mul_zero, Finset.sum_const_zero]

/-- The shared lanes. -/
theorem shrow (h : Fin 8) (k : ℕ) (hk : k < 32) :
    k0_pay7 X G W (ix2 r ⟨384 + k, by omega⟩) = val_main_v58 (F := Ideal) x0 x2 x3 x6 x7 (ix4 b s h ⟨64 + k, by omega⟩) := by
  have h1 : ¬ 64 + k < 64 := by omega
  have e : 2048 + (384 + k) = 2432 + k := by omega
  have e2 : 64 + k - 64 = k := by omega
  rw [rest_apply, Reference3Ideal.Fr.k_apply]
  dsimp only
  rw [dif_neg h1]
  simp only [e, e2]
  exact col_lo H _ (by omega)

/-- A head's keys. -/
theorem p20 (h : Fin 8) (d : Fin 128) (o : ℕ) (ho : o = 128 * h.val) (hs : _) :
    khead (k0_pay67 (k0_pay37 (k0_pay23 (k0_pay20 P) F PH E B)) kc) (krope (k0_pay7 X G W) (k0_pay23 (k0_pay20 P) F PH E B) kc ks)
      (extractStridedSlice S128x128 ![0, o] (kall (k0_pay7 X G W) gkv wk) hs) (krsq (k0_pay7 X G W)) (ix4 0 0 r d)
      = val_main_v178 (F := Ideal) x0 x1 x2 x3 x6 x7 x9 (ix4 b h s d) := by
  have hsl (k : Fin 128) : extractStridedSlice S128x128 ![0, o] (kall (k0_pay7 X G W) gkv wk) hs (ix2 r k)
      = kall (k0_pay7 X G W) gkv wk (ix2 r ⟨o + k.val, by omega⟩) := by
    generalize kall (k0_pay7 X G W) gkv wk = y
    pointwise
  rw [khead_apply, Reference3Ideal.Fr.kt_apply]
  simp only [Reference3Ideal.Fr.krot_apply, Reference3Ideal.Fr.kn_apply, kcos_apply, hsl]
  refine k_math (fun k => val_main_v58 (F := Ideal) x0 x2 x3 x6 x7 (ix4 b s h k)) (fun k => x9 (ix2 0 k)) (Reference3Ideal.Fr.ang x1 b s) _
    (fun k => kall (k0_pay7 X G W) gkv wk (ix2 r ⟨o + k.val, by omega⟩)) (fun k => kc (ix2 0 k)) (fun k => ks (ix2 0 k))
    (fun k => k0_pay23 (k0_pay20 P) F PH E B (ix2 r ⟨k.val, by omega⟩)) (fun k => k0_pay23 (k0_pay20 P) F PH E B (ix2 r ⟨128 + k.val, by omega⟩))
    (fun k => k0_pay7 X G W (ix2 r ⟨(384 + (k.val - 32)) % 512, by omega⟩))
    (fun k => krope (k0_pay7 X G W) (k0_pay23 (k0_pay20 P) F PH E B) kc ks (ix2 r k))
    (fun k => krow H h k o ho) H.hkc H.hks (tcos H) (tsin H) (fun k => ?_) (fun k hk ht hb => ?_) (fun k hk => ?_) ?_ d
  · rw [krope_apply]
    by_cases hk : 64 ≤ k.val ∧ k.val < 96
    · have e : (384 + (k.val - 32)) % 512 = 384 + (k.val - 32) := by omega
      have e2 : 64 + (k.val - 64) = k.val := by omega
      rw [dif_pos hk, dif_pos hk, shrow H h (k.val - 64) (by omega)]
      simp only [e, e2]
    · rw [dif_neg hk, dif_neg hk]
  · have h1 : ¬ k.val + 16 < 64 := by omega
    have e : (384 + (k.val - 32)) % 512 = 384 + (k.val - 32) := by omega
    have e2 : 2432 + (k.val + 16 - 64) = 2048 + (384 + (k.val - 32)) - 16 := by omega
    rw [Reference3Ideal.Fr.k_apply] at ht hb ⊢
    dsimp only at ht hb ⊢
    rw [dif_neg h1] at ht hb ⊢
    simp only [e2] at ht hb
    simp only [e, e2]
    rw [rest_apply]
    exact col_neg H (2048 + (384 + (k.val - 32))) (by omega) (by omega) ht hb
  · have h1 : ¬ k.val - 16 < 64 := by omega
    have e : (384 + (k.val - 32)) % 512 = 384 + (k.val - 32) := by omega
    have e2 : 2432 + (k.val - 16 - 64) = 2048 + (384 + (k.val - 32)) - 48 := by omega
    rw [Reference3Ideal.Fr.k_apply]
    dsimp only
    rw [dif_neg h1]
    simp only [e, e2]
    rw [rest_apply]
    exact col_hi H (2048 + (384 + (k.val - 32))) (by omega) (by omega)
  · rw [krsq_apply]
    refine Finset.sum_congr rfl fun k _ => ?_
    rw [shrow H h k.val k.isLt]

/-- A head's values. -/
theorem p21 (h j : Fin 8) (i : Fin 64) (q : Fin 512) (hq : s.val = j.val * 512 + q.val) (o : ℕ) (ho : o = 64 * h.val) (hs : _) :
    vpiece (extractStridedSlice S64x128 ![o, 0] (vall (k0_pay7 X G W) gkv wv) hs) (ix5 0 0 0 i r)
      = val_main_v179 (F := Ideal) x0 x2 x3 x6 x7 (ix5 b h j i q) := by
  have hsl (k : Fin 64) : extractStridedSlice S64x128 ![o, 0] (vall (k0_pay7 X G W) gkv wv) hs (ix2 k r)
      = vall (k0_pay7 X G W) gkv wv (ix2 ⟨o + k.val, by omega⟩ r) := by
    generalize vall (k0_pay7 X G W) gkv wv = y
    pointwise
  have es : (⟨j.val * 512 + q.val, by omega⟩ : Fin 4096) = s := Fin.ext hq.symm
  have e1 : (o + i.val) % 64 = i.val := by omega
  have e2 : (o + i.val) / 64 = h.val := by omega
  rw [vpiece_apply, hsl, vall_apply, Reference3Ideal.Fr.vt_apply, es, Reference3Ideal.Fr.kv_apply]
  simp only [H.hwv, ckvrow H, e1, e2]
  exact Finset.sum_congr rfl fun c _ => mul_comm _ _

end Cert.Kernel3Ideal.Fr

end
-- ==== Proof.FrIdx.lean ====
/- The front's windows: block indices. -/
module

public import proofs.«01_k».proof.Proof.Gen.Kernel3Ideal.Value

@[expose] public section

set_option maxRecDepth 16384

noncomputable section

namespace Cert.Kernel3Ideal.Fr

open Idealize.ShloMosaic Idealize.ShloMosaic.TcCoe Idealize.SL.Sem
open Idealize.ShloMosaic.Pipeline (Dat)
open Cert.Kernel3Ideal Cert.Kernel3Ideal.Gen

/-- The blocks of the tokens and their positions: batch, row tile. -/
theorem idxT : ∀ t : Fin cfg0.N, win0_0.index t = ![t.val / 8, t.val % 8, 0] ∧ win0_5.index t = ![t.val / 8, t.val % 8, 0] :=
  (by decide +kernel : ∀ t : Fin grid0.N, _)

/-- The weights, tables and gains are whole blocks. -/
theorem idxW : ∀ t : Fin cfg0.N, win0_1.index t = ![0, 0] ∧ win0_2.index t = ![0, 0] ∧ win0_3.index t = ![0, 0] ∧ win0_4.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

/-- The results' blocks. -/
theorem idxR : ∀ t : Fin cfg0.N, win0_17.index t = ![t.val / 8, t.val % 8, 0] ∧ win0_18.index t = ![t.val / 8, t.val % 8, 0]
    ∧ win0_19.index t = ![t.val / 8, 0, 0, t.val % 8] ∧ win0_20.index t = ![t.val / 8, 0, t.val % 8, 0]
    ∧ win0_21.index t = ![t.val / 8, 0, t.val % 8, 0, 0] :=
  (by decide +kernel : ∀ t : Fin grid0.N, _)

end Cert.Kernel3Ideal.Fr

end
-- ==== Proof.FrOut.lean ====
/- What the front call stores at a point, window by window: every stored piece as the block's or head's function of the rows it
   reads. -/
module

public import proofs.«01_k».proof.Proof.FrPay
public import proofs.«01_k».proof.Proof.Gen.Kernel3Ideal.Frame

@[expose] public section

set_option maxRecDepth 16384

noncomputable section

namespace Cert.Kernel3Ideal.Fr

open Idealize.ShloMosaic Idealize.ShloMosaic.TcCoe Idealize.SL.Sem
open Cert.Kernel3Ideal Cert.Kernel3Ideal.Gen

variable (x0 : Vec Ideal S1x512x1 .f32) (x1 : Vec Ideal S1x128 .f32) (x2 : Vec Ideal S1x128 .f32) (x3 : Vec Ideal S128x512 .bf16) (x4 : Vec Ideal S1x512 .f32) (x5 : Vec Ideal S1x512x1024 .f32) (x6 : Vec Ideal S1x1024 .f32) (x7 : Vec Ideal S1024x2560 .bf16) (x8 : Vec Ideal S1x256 .f32) (x9 : Vec Ideal S1024x256 .bf16) (x10 : Vec Ideal S1x128 .f32) (x11 : Vec Ideal S128x1024 .bf16) (x12 : Vec Ideal S512x128 .bf16) (x13 : Vec Ideal S128x1 .f32) (x14 : Vec Ideal S128x1 .f32) (x15 : Vec Ideal S1x128 .f32) (x16 : Vec Ideal S1x128 .f32)

/-- The columns after the retention's, row block 0. -/
abbrev M0 (x5 : Vec Ideal S1x512x1024 .f32) (x6 : Vec Ideal S1x1024 .f32) (x7 : Vec Ideal S1024x2560 .bf16) : FVec Ideal S128x512 .f32 :=
  k0_pay7 (View.ld x5 r0_0) (View.ld x6 r0_1) (View.ld x7 r0_2)

/-- The attention's table, row block 0. -/
abbrev T0 (x0 : Vec Ideal S1x512x1 .f32) (x1 x2 : Vec Ideal S1x128 .f32) (x3 : Vec Ideal S128x512 .bf16) (x4 : Vec Ideal S1x512 .f32) : FVec Ideal S128x256 .f32 :=
  k0_pay23 (k0_pay20 (View.ld x0 r0_10)) (View.ld x1 r0_11) (View.ld x2 r0_11) (View.ld x3 r0_12) (View.ld x4 r0_13)

/-- The columns after the retention's, row block 1. -/
abbrev M1 (x5 : Vec Ideal S1x512x1024 .f32) (x6 : Vec Ideal S1x1024 .f32) (x7 : Vec Ideal S1024x2560 .bf16) : FVec Ideal S128x512 .f32 :=
  k0_pay7 (View.ld x5 r0_4) (View.ld x6 r0_1) (View.ld x7 r0_2)

/-- The attention's table, row block 1. -/
abbrev T1 (x0 : Vec Ideal S1x512x1 .f32) (x1 x2 : Vec Ideal S1x128 .f32) (x3 : Vec Ideal S128x512 .bf16) (x4 : Vec Ideal S1x512 .f32) : FVec Ideal S128x256 .f32 :=
  k0_pay23 (k0_pay20 (View.ld x0 r0_15)) (View.ld x1 r0_11) (View.ld x2 r0_11) (View.ld x3 r0_12) (View.ld x4 r0_13)

/-- The columns after the retention's, row block 2. -/
abbrev M2 (x5 : Vec Ideal S1x512x1024 .f32) (x6 : Vec Ideal S1x1024 .f32) (x7 : Vec Ideal S1024x2560 .bf16) : FVec Ideal S128x512 .f32 :=
  k0_pay7 (View.ld x5 r0_6) (View.ld x6 r0_1) (View.ld x7 r0_2)

/-- The attention's table, row block 2. -/
abbrev T2 (x0 : Vec Ideal S1x512x1 .f32) (x1 x2 : Vec Ideal S1x128 .f32) (x3 : Vec Ideal S128x512 .bf16) (x4 : Vec Ideal S1x512 .f32) : FVec Ideal S128x256 .f32 :=
  k0_pay23 (k0_pay20 (View.ld x0 r0_17)) (View.ld x1 r0_11) (View.ld x2 r0_11) (View.ld x3 r0_12) (View.ld x4 r0_13)

/-- The columns after the retention's, row block 3. -/
abbrev M3 (x5 : Vec Ideal S1x512x1024 .f32) (x6 : Vec Ideal S1x1024 .f32) (x7 : Vec Ideal S1024x2560 .bf16) : FVec Ideal S128x512 .f32 :=
  k0_pay7 (View.ld x5 r0_8) (View.ld x6 r0_1) (View.ld x7 r0_2)

/-- The attention's table, row block 3. -/
abbrev T3 (x0 : Vec Ideal S1x512x1 .f32) (x1 x2 : Vec Ideal S1x128 .f32) (x3 : Vec Ideal S128x512 .bf16) (x4 : Vec Ideal S1x512 .f32) : FVec Ideal S128x256 .f32 :=
  k0_pay23 (k0_pay20 (View.ld x0 r0_19)) (View.ld x1 r0_11) (View.ld x2 r0_11) (View.ld x3 r0_12) (View.ld x4 r0_13)

/-- The stored pieces of the retention's columns. -/
theorem out_17 : out0_17 x0 x1 x2 x3 x4 x5 x6 x7 x8 x9 x10 x11 x12 x13 x14 x15 x16 = View.canon [
    ⟨r0_9, k0_pay6 (View.ld x5 r0_8) (View.ld x6 r0_1) (View.ld x7 r0_2)⟩,
    ⟨r0_7, k0_pay6 (View.ld x5 r0_6) (View.ld x6 r0_1) (View.ld x7 r0_2)⟩,
    ⟨r0_5, k0_pay6 (View.ld x5 r0_4) (View.ld x6 r0_1) (View.ld x7 r0_2)⟩,
    ⟨r0_3, k0_pay6 (View.ld x5 r0_0) (View.ld x6 r0_1) (View.ld x7 r0_2)⟩] := rfl

/-- The stored pieces of the retention's table. -/
theorem out_18 : out0_18 x0 x1 x2 x3 x4 x5 x6 x7 x8 x9 x10 x11 x12 x13 x14 x15 x16 = View.canon [
    ⟨r0_20, k0_pay22 (k0_pay20 (View.ld x0 r0_19)) (View.ld x1 r0_11) (View.ld x2 r0_11) (View.ld x3 r0_12) (View.ld x4 r0_13)⟩,
    ⟨r0_18, k0_pay22 (k0_pay20 (View.ld x0 r0_17)) (View.ld x1 r0_11) (View.ld x2 r0_11) (View.ld x3 r0_12) (View.ld x4 r0_13)⟩,
    ⟨r0_16, k0_pay22 (k0_pay20 (View.ld x0 r0_15)) (View.ld x1 r0_11) (View.ld x2 r0_11) (View.ld x3 r0_12) (View.ld x4 r0_13)⟩,
    ⟨r0_14, k0_pay22 (k0_pay20 (View.ld x0 r0_10)) (View.ld x1 r0_11) (View.ld x2 r0_11) (View.ld x3 r0_12) (View.ld x4 r0_13)⟩] := rfl

/-- The stored pieces of the queries. -/
theorem out_19 : out0_19 x0 x1 x2 x3 x4 x5 x6 x7 x8 x9 x10 x11 x12 x13 x14 x15 x16 = View.canon [
    ⟨r0_105, qhead (k0_pay41 (T3 x0 x1 x2 x3 x4) (View.ld x13 r0_23)) (k0_pay42 (T3 x0 x1 x2 x3 x4) (View.ld x14 r0_23)) (extractStridedSlice S128x128 ![896, 0] (k0_pay40 (M3 x5 x6 x7) (View.ld x8 r0_21) (View.ld x9 r0_22)) slices_S1024x128_o896_0_S128x128)⟩,
    ⟨r0_104, qhead (k0_pay41 (T3 x0 x1 x2 x3 x4) (View.ld x13 r0_23)) (k0_pay42 (T3 x0 x1 x2 x3 x4) (View.ld x14 r0_23)) (extractStridedSlice S128x128 ![768, 0] (k0_pay40 (M3 x5 x6 x7) (View.ld x8 r0_21) (View.ld x9 r0_22)) slices_S1024x128_o768_0_S128x128)⟩,
    ⟨r0_103, qhead (k0_pay41 (T3 x0 x1 x2 x3 x4) (View.ld x13 r0_23)) (k0_pay42 (T3 x0 x1 x2 x3 x4) (View.ld x14 r0_23)) (extractStridedSlice S128x128 ![640, 0] (k0_pay40 (M3 x5 x6 x7) (View.ld x8 r0_21) (View.ld x9 r0_22)) slices_S1024x128_o640_0_S128x128)⟩,
    ⟨r0_102, qhead (k0_pay41 (T3 x0 x1 x2 x3 x4) (View.ld x13 r0_23)) (k0_pay42 (T3 x0 x1 x2 x3 x4) (View.ld x14 r0_23)) (extractStridedSlice S128x128 ![512, 0] (k0_pay40 (M3 x5 x6 x7) (View.ld x8 r0_21) (View.ld x9 r0_22)) slices_S1024x128_o512_0_S128x128)⟩,
    ⟨r0_101, qhead (k0_pay41 (T3 x0 x1 x2 x3 x4) (View.ld x13 r0_23)) (k0_pay42 (T3 x0 x1 x2 x3 x4) (View.ld x14 r0_23)) (extractStridedSlice S128x128 ![384, 0] (k0_pay40 (M3 x5 x6 x7) (View.ld x8 r0_21) (View.ld x9 r0_22)) slices_S1024x128_o384_0_S128x128)⟩,
    ⟨r0_100, qhead (k0_pay41 (T3 x0 x1 x2 x3 x4) (View.ld x13 r0_23)) (k0_pay42 (T3 x0 x1 x2 x3 x4) (View.ld x14 r0_23)) (extractStridedSlice S128x128 ![256, 0] (k0_pay40 (M3 x5 x6 x7) (View.ld x8 r0_21) (View.ld x9 r0_22)) slices_S1024x128_o256_0_S128x128)⟩,
    ⟨r0_99, qhead (k0_pay41 (T3 x0 x1 x2 x3 x4) (View.ld x13 r0_23)) (k0_pay42 (T3 x0 x1 x2 x3 x4) (View.ld x14 r0_23)) (extractStridedSlice S128x128 ![128, 0] (k0_pay40 (M3 x5 x6 x7) (View.ld x8 r0_21) (View.ld x9 r0_22)) slices_S1024x128_o128_0_S128x128)⟩,
    ⟨r0_98, qhead (k0_pay41 (T3 x0 x1 x2 x3 x4) (View.ld x13 r0_23)) (k0_pay42 (T3 x0 x1 x2 x3 x4) (View.ld x14 r0_23)) (extractStridedSlice S128x128 ![0, 0] (k0_pay40 (M3 x5 x6 x7) (View.ld x8 r0_21) (View.ld x9 r0_22)) slices_S1024x128_o0_0_S128x128)⟩,
    ⟨r0_81, qhead (k0_pay41 (T2 x0 x1 x2 x3 x4) (View.ld x13 r0_23)) (k0_pay42 (T2 x0 x1 x2 x3 x4) (View.ld x14 r0_23)) (extractStridedSlice S128x128 ![896, 0] (k0_pay40 (M2 x5 x6 x7) (View.ld x8 r0_21) (View.ld x9 r0_22)) slices_S1024x128_o896_0_S128x128)⟩,
    ⟨r0_80, qhead (k0_pay41 (T2 x0 x1 x2 x3 x4) (View.ld x13 r0_23)) (k0_pay42 (T2 x0 x1 x2 x3 x4) (View.ld x14 r0_23)) (extractStridedSlice S128x128 ![768, 0] (k0_pay40 (M2 x5 x6 x7) (View.ld x8 r0_21) (View.ld x9 r0_22)) slices_S1024x128_o768_0_S128x128)⟩,
    ⟨r0_79, qhead (k0_pay41 (T2 x0 x1 x2 x3 x4) (View.ld x13 r0_23)) (k0_pay42 (T2 x0 x1 x2 x3 x4) (View.ld x14 r0_23)) (extractStridedSlice S128x128 ![640, 0] (k0_pay40 (M2 x5 x6 x7) (View.ld x8 r0_21) (View.ld x9 r0_22)) slices_S1024x128_o640_0_S128x128)⟩,
    ⟨r0_78, qhead (k0_pay41 (T2 x0 x1 x2 x3 x4) (View.ld x13 r0_23)) (k0_pay42 (T2 x0 x1 x2 x3 x4) (View.ld x14 r0_23)) (extractStridedSlice S128x128 ![512, 0] (k0_pay40 (M2 x5 x6 x7) (View.ld x8 r0_21) (View.ld x9 r0_22)) slices_S1024x128_o512_0_S128x128)⟩,
    ⟨r0_77, qhead (k0_pay41 (T2 x0 x1 x2 x3 x4) (View.ld x13 r0_23)) (k0_pay42 (T2 x0 x1 x2 x3 x4) (View.ld x14 r0_23)) (extractStridedSlice S128x128 ![384, 0] (k0_pay40 (M2 x5 x6 x7) (View.ld x8 r0_21) (View.ld x9 r0_22)) slices_S1024x128_o384_0_S128x128)⟩,
    ⟨r0_76, qhead (k0_pay41 (T2 x0 x1 x2 x3 x4) (View.ld x13 r0_23)) (k0_pay42 (T2 x0 x1 x2 x3 x4) (View.ld x14 r0_23)) (extractStridedSlice S128x128 ![256, 0] (k0_pay40 (M2 x5 x6 x7) (View.ld x8 r0_21) (View.ld x9 r0_22)) slices_S1024x128_o256_0_S128x128)⟩,
    ⟨r0_75, qhead (k0_pay41 (T2 x0 x1 x2 x3 x4) (View.ld x13 r0_23)) (k0_pay42 (T2 x0 x1 x2 x3 x4) (View.ld x14 r0_23)) (extractStridedSlice S128x128 ![128, 0] (k0_pay40 (M2 x5 x6 x7) (View.ld x8 r0_21) (View.ld x9 r0_22)) slices_S1024x128_o128_0_S128x128)⟩,
    ⟨r0_74, qhead (k0_pay41 (T2 x0 x1 x2 x3 x4) (View.ld x13 r0_23)) (k0_pay42 (T2 x0 x1 x2 x3 x4) (View.ld x14 r0_23)) (extractStridedSlice S128x128 ![0, 0] (k0_pay40 (M2 x5 x6 x7) (View.ld x8 r0_21) (View.ld x9 r0_22)) slices_S1024x128_o0_0_S128x128)⟩,
    ⟨r0_57, qhead (k0_pay41 (T1 x0 x1 x2 x3 x4) (View.ld x13 r0_23)) (k0_pay42 (T1 x0 x1 x2 x3 x4) (View.ld x14 r0_23)) (extractStridedSlice S128x128 ![896, 0] (k0_pay40 (M1 x5 x6 x7) (View.ld x8 r0_21) (View.ld x9 r0_22)) slices_S1024x128_o896_0_S128x128)⟩,
    ⟨r0_56, qhead (k0_pay41 (T1 x0 x1 x2 x3 x4) (View.ld x13 r0_23)) (k0_pay42 (T1 x0 x1 x2 x3 x4) (View.ld x14 r0_23)) (extractStridedSlice S128x128 ![768, 0] (k0_pay40 (M1 x5 x6 x7) (View.ld x8 r0_21) (View.ld x9 r0_22)) slices_S1024x128_o768_0_S128x128)⟩,
    ⟨r0_55, qhead (k0_pay41 (T1 x0 x1 x2 x3 x4) (View.ld x13 r0_23)) (k0_pay42 (T1 x0 x1 x2 x3 x4) (View.ld x14 r0_23)) (extractStridedSlice S128x128 ![640, 0] (k0_pay40 (M1 x5 x6 x7) (View.ld x8 r0_21) (View.ld x9 r0_22)) slices_S1024x128_o640_0_S128x128)⟩,
    ⟨r0_54, qhead (k0_pay41 (T1 x0 x1 x2 x3 x4) (View.ld x13 r0_23)) (k0_pay42 (T1 x0 x1 x2 x3 x4) (View.ld x14 r0_23)) (extractStridedSlice S128x128 ![512, 0] (k0_pay40 (M1 x5 x6 x7) (View.ld x8 r0_21) (View.ld x9 r0_22)) slices_S1024x128_o512_0_S128x128)⟩,
    ⟨r0_53, qhead (k0_pay41 (T1 x0 x1 x2 x3 x4) (View.ld x13 r0_23)) (k0_pay42 (T1 x0 x1 x2 x3 x4) (View.ld x14 r0_23)) (extractStridedSlice S128x128 ![384, 0] (k0_pay40 (M1 x5 x6 x7) (View.ld x8 r0_21) (View.ld x9 r0_22)) slices_S1024x128_o384_0_S128x128)⟩,
    ⟨r0_52, qhead (k0_pay41 (T1 x0 x1 x2 x3 x4) (View.ld x13 r0_23)) (k0_pay42 (T1 x0 x1 x2 x3 x4) (View.ld x14 r0_23)) (extractStridedSlice S128x128 ![256, 0] (k0_pay40 (M1 x5 x6 x7) (View.ld x8 r0_21) (View.ld x9 r0_22)) slices_S1024x128_o256_0_S128x128)⟩,
    ⟨r0_51, qhead (k0_pay41 (T1 x0 x1 x2 x3 x4) (View.ld x13 r0_23)) (k0_pay42 (T1 x0 x1 x2 x3 x4) (View.ld x14 r0_23)) (extractStridedSlice S128x128 ![128, 0] (k0_pay40 (M1 x5 x6 x7) (View.ld x8 r0_21) (View.ld x9 r0_22)) slices_S1024x128_o128_0_S128x128)⟩,
    ⟨r0_50, qhead (k0_pay41 (T1 x0 x1 x2 x3 x4) (View.ld x13 r0_23)) (k0_pay42 (T1 x0 x1 x2 x3 x4) (View.ld x14 r0_23)) (extractStridedSlice S128x128 ![0, 0] (k0_pay40 (M1 x5 x6 x7) (View.ld x8 r0_21) (View.ld x9 r0_22)) slices_S1024x128_o0_0_S128x128)⟩,
    ⟨r0_31, qhead (k0_pay41 (T0 x0 x1 x2 x3 x4) (View.ld x13 r0_23)) (k0_pay42 (T0 x0 x1 x2 x3 x4) (View.ld x14 r0_23)) (extractStridedSlice S128x128 ![896, 0] (k0_pay40 (M0 x5 x6 x7) (View.ld x8 r0_21) (View.ld x9 r0_22)) slices_S1024x128_o896_0_S128x128)⟩,
    ⟨r0_30, qhead (k0_pay41 (T0 x0 x1 x2 x3 x4) (View.ld x13 r0_23)) (k0_pay42 (T0 x0 x1 x2 x3 x4) (View.ld x14 r0_23)) (extractStridedSlice S128x128 ![768, 0] (k0_pay40 (M0 x5 x6 x7) (View.ld x8 r0_21) (View.ld x9 r0_22)) slices_S1024x128_o768_0_S128x128)⟩,
    ⟨r0_29, qhead (k0_pay41 (T0 x0 x1 x2 x3 x4) (View.ld x13 r0_23)) (k0_pay42 (T0 x0 x1 x2 x3 x4) (View.ld x14 r0_23)) (extractStridedSlice S128x128 ![640, 0] (k0_pay40 (M0 x5 x6 x7) (View.ld x8 r0_21) (View.ld x9 r0_22)) slices_S1024x128_o640_0_S128x128)⟩,
    ⟨r0_28, qhead (k0_pay41 (T0 x0 x1 x2 x3 x4) (View.ld x13 r0_23)) (k0_pay42 (T0 x0 x1 x2 x3 x4) (View.ld x14 r0_23)) (extractStridedSlice S128x128 ![512, 0] (k0_pay40 (M0 x5 x6 x7) (View.ld x8 r0_21) (View.ld x9 r0_22)) slices_S1024x128_o512_0_S128x128)⟩,
    ⟨r0_27, qhead (k0_pay41 (T0 x0 x1 x2 x3 x4) (View.ld x13 r0_23)) (k0_pay42 (T0 x0 x1 x2 x3 x4) (View.ld x14 r0_23)) (extractStridedSlice S128x128 ![384, 0] (k0_pay40 (M0 x5 x6 x7) (View.ld x8 r0_21) (View.ld x9 r0_22)) slices_S1024x128_o384_0_S128x128)⟩,
    ⟨r0_26, qhead (k0_pay41 (T0 x0 x1 x2 x3 x4) (View.ld x13 r0_23)) (k0_pay42 (T0 x0 x1 x2 x3 x4) (View.ld x14 r0_23)) (extractStridedSlice S128x128 ![256, 0] (k0_pay40 (M0 x5 x6 x7) (View.ld x8 r0_21) (View.ld x9 r0_22)) slices_S1024x128_o256_0_S128x128)⟩,
    ⟨r0_25, qhead (k0_pay41 (T0 x0 x1 x2 x3 x4) (View.ld x13 r0_23)) (k0_pay42 (T0 x0 x1 x2 x3 x4) (View.ld x14 r0_23)) (extractStridedSlice S128x128 ![128, 0] (k0_pay40 (M0 x5 x6 x7) (View.ld x8 r0_21) (View.ld x9 r0_22)) slices_S1024x128_o128_0_S128x128)⟩,
    ⟨r0_24, qhead (k0_pay41 (T0 x0 x1 x2 x3 x4) (View.ld x13 r0_23)) (k0_pay42 (T0 x0 x1 x2 x3 x4) (View.ld x14 r0_23)) (extractStridedSlice S128x128 ![0, 0] (k0_pay40 (M0 x5 x6 x7) (View.ld x8 r0_21) (View.ld x9 r0_22)) slices_S1024x128_o0_0_S128x128)⟩] := rfl

/-- The stored pieces of the keys. -/
theorem out_20 : out0_20 x0 x1 x2 x3 x4 x5 x6 x7 x8 x9 x10 x11 x12 x13 x14 x15 x16 = View.canon [
    ⟨r0_113, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 896] (kall (M3 x5 x6 x7) (View.ld x10 r0_11) (View.ld x11 r0_32)) slices_S128x1024_o0_896_S128x128) (krsq (M3 x5 x6 x7))⟩,
    ⟨r0_112, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 768] (kall (M3 x5 x6 x7) (View.ld x10 r0_11) (View.ld x11 r0_32)) slices_S128x1024_o0_768_S128x128) (krsq (M3 x5 x6 x7))⟩,
    ⟨r0_111, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 640] (kall (M3 x5 x6 x7) (View.ld x10 r0_11) (View.ld x11 r0_32)) slices_S128x1024_o0_640_S128x128) (krsq (M3 x5 x6 x7))⟩,
    ⟨r0_110, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 512] (kall (M3 x5 x6 x7) (View.ld x10 r0_11) (View.ld x11 r0_32)) slices_S128x1024_o0_512_S128x128) (krsq (M3 x5 x6 x7))⟩,
    ⟨r0_109, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 384] (kall (M3 x5 x6 x7) (View.ld x10 r0_11) (View.ld x11 r0_32)) slices_S128x1024_o0_384_S128x128) (krsq (M3 x5 x6 x7))⟩,
    ⟨r0_108, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 256] (kall (M3 x5 x6 x7) (View.ld x10 r0_11) (View.ld x11 r0_32)) slices_S128x1024_o0_256_S128x128) (krsq (M3 x5 x6 x7))⟩,
    ⟨r0_107, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 128] (kall (M3 x5 x6 x7) (View.ld x10 r0_11) (View.ld x11 r0_32)) slices_S128x1024_o0_128_S128x128) (krsq (M3 x5 x6 x7))⟩,
    ⟨r0_106, khead (k0_pay67 (k0_pay37 (T3 x0 x1 x2 x3 x4)) (View.ld x15 r0_11)) (krope (M3 x5 x6 x7) (T3 x0 x1 x2 x3 x4) (View.ld x15 r0_11) (View.ld x16 r0_11)) (extractStridedSlice S128x128 ![0, 0] (kall (M3 x5 x6 x7) (View.ld x10 r0_11) (View.ld x11 r0_32)) slices_S128x1024_o0_0_S128x128) (krsq (M3 x5 x6 x7))⟩,
    ⟨r0_89, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 896] (kall (M2 x5 x6 x7) (View.ld x10 r0_11) (View.ld x11 r0_32)) slices_S128x1024_o0_896_S128x128) (krsq (M2 x5 x6 x7))⟩,
    ⟨r0_88, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 768] (kall (M2 x5 x6 x7) (View.ld x10 r0_11) (View.ld x11 r0_32)) slices_S128x1024_o0_768_S128x128) (krsq (M2 x5 x6 x7))⟩,
    ⟨r0_87, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 640] (kall (M2 x5 x6 x7) (View.ld x10 r0_11) (View.ld x11 r0_32)) slices_S128x1024_o0_640_S128x128) (krsq (M2 x5 x6 x7))⟩,
    ⟨r0_86, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 512] (kall (M2 x5 x6 x7) (View.ld x10 r0_11) (View.ld x11 r0_32)) slices_S128x1024_o0_512_S128x128) (krsq (M2 x5 x6 x7))⟩,
    ⟨r0_85, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 384] (kall (M2 x5 x6 x7) (View.ld x10 r0_11) (View.ld x11 r0_32)) slices_S128x1024_o0_384_S128x128) (krsq (M2 x5 x6 x7))⟩,
    ⟨r0_84, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 256] (kall (M2 x5 x6 x7) (View.ld x10 r0_11) (View.ld x11 r0_32)) slices_S128x1024_o0_256_S128x128) (krsq (M2 x5 x6 x7))⟩,
    ⟨r0_83, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 128] (kall (M2 x5 x6 x7) (View.ld x10 r0_11) (View.ld x11 r0_32)) slices_S128x1024_o0_128_S128x128) (krsq (M2 x5 x6 x7))⟩,
    ⟨r0_82, khead (k0_pay67 (k0_pay37 (T2 x0 x1 x2 x3 x4)) (View.ld x15 r0_11)) (krope (M2 x5 x6 x7) (T2 x0 x1 x2 x3 x4) (View.ld x15 r0_11) (View.ld x16 r0_11)) (extractStridedSlice S128x128 ![0, 0] (kall (M2 x5 x6 x7) (View.ld x10 r0_11) (View.ld x11 r0_32)) slices_S128x1024_o0_0_S128x128) (krsq (M2 x5 x6 x7))⟩,
    ⟨r0_65, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 896] (kall (M1 x5 x6 x7) (View.ld x10 r0_11) (View.ld x11 r0_32)) slices_S128x1024_o0_896_S128x128) (krsq (M1 x5 x6 x7))⟩,
    ⟨r0_64, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 768] (kall (M1 x5 x6 x7) (View.ld x10 r0_11) (View.ld x11 r0_32)) slices_S128x1024_o0_768_S128x128) (krsq (M1 x5 x6 x7))⟩,
    ⟨r0_63, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 640] (kall (M1 x5 x6 x7) (View.ld x10 r0_11) (View.ld x11 r0_32)) slices_S128x1024_o0_640_S128x128) (krsq (M1 x5 x6 x7))⟩,
    ⟨r0_62, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 512] (kall (M1 x5 x6 x7) (View.ld x10 r0_11) (View.ld x11 r0_32)) slices_S128x1024_o0_512_S128x128) (krsq (M1 x5 x6 x7))⟩,
    ⟨r0_61, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 384] (kall (M1 x5 x6 x7) (View.ld x10 r0_11) (View.ld x11 r0_32)) slices_S128x1024_o0_384_S128x128) (krsq (M1 x5 x6 x7))⟩,
    ⟨r0_60, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 256] (kall (M1 x5 x6 x7) (View.ld x10 r0_11) (View.ld x11 r0_32)) slices_S128x1024_o0_256_S128x128) (krsq (M1 x5 x6 x7))⟩,
    ⟨r0_59, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 128] (kall (M1 x5 x6 x7) (View.ld x10 r0_11) (View.ld x11 r0_32)) slices_S128x1024_o0_128_S128x128) (krsq (M1 x5 x6 x7))⟩,
    ⟨r0_58, khead (k0_pay67 (k0_pay37 (T1 x0 x1 x2 x3 x4)) (View.ld x15 r0_11)) (krope (M1 x5 x6 x7) (T1 x0 x1 x2 x3 x4) (View.ld x15 r0_11) (View.ld x16 r0_11)) (extractStridedSlice S128x128 ![0, 0] (kall (M1 x5 x6 x7) (View.ld x10 r0_11) (View.ld x11 r0_32)) slices_S128x1024_o0_0_S128x128) (krsq (M1 x5 x6 x7))⟩,
    ⟨r0_40, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 896] (kall (M0 x5 x6 x7) (View.ld x10 r0_11) (View.ld x11 r0_32)) slices_S128x1024_o0_896_S128x128) (krsq (M0 x5 x6 x7))⟩,
    ⟨r0_39, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 768] (kall (M0 x5 x6 x7) (View.ld x10 r0_11) (View.ld x11 r0_32)) slices_S128x1024_o0_768_S128x128) (krsq (M0 x5 x6 x7))⟩,
    ⟨r0_38, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 640] (kall (M0 x5 x6 x7) (View.ld x10 r0_11) (View.ld x11 r0_32)) slices_S128x1024_o0_640_S128x128) (krsq (M0 x5 x6 x7))⟩,
    ⟨r0_37, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 512] (kall (M0 x5 x6 x7) (View.ld x10 r0_11) (View.ld x11 r0_32)) slices_S128x1024_o0_512_S128x128) (krsq (M0 x5 x6 x7))⟩,
    ⟨r0_36, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 384] (kall (M0 x5 x6 x7) (View.ld x10 r0_11) (View.ld x11 r0_32)) slices_S128x1024_o0_384_S128x128) (krsq (M0 x5 x6 x7))⟩,
    ⟨r0_35, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 256] (kall (M0 x5 x6 x7) (View.ld x10 r0_11) (View.ld x11 r0_32)) slices_S128x1024_o0_256_S128x128) (krsq (M0 x5 x6 x7))⟩,
    ⟨r0_34, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 128] (kall (M0 x5 x6 x7) (View.ld x10 r0_11) (View.ld x11 r0_32)) slices_S128x1024_o0_128_S128x128) (krsq (M0 x5 x6 x7))⟩,
    ⟨r0_33, khead (k0_pay67 (k0_pay37 (T0 x0 x1 x2 x3 x4)) (View.ld x15 r0_11)) (krope (M0 x5 x6 x7) (T0 x0 x1 x2 x3 x4) (View.ld x15 r0_11) (View.ld x16 r0_11)) (extractStridedSlice S128x128 ![0, 0] (kall (M0 x5 x6 x7) (View.ld x10 r0_11) (View.ld x11 r0_32)) slices_S128x1024_o0_0_S128x128) (krsq (M0 x5 x6 x7))⟩] := rfl

/-- The stored pieces of the values. -/
theorem out_21 : out0_21 x0 x1 x2 x3 x4 x5 x6 x7 x8 x9 x10 x11 x12 x13 x14 x15 x16 = View.canon [
    ⟨r0_121, vpiece (extractStridedSlice S64x128 ![448, 0] (vall (M3 x5 x6 x7) (View.ld x10 r0_11) (View.ld x12 r0_41)) slices_S512x128_o448_0_S64x128)⟩,
    ⟨r0_120, vpiece (extractStridedSlice S64x128 ![384, 0] (vall (M3 x5 x6 x7) (View.ld x10 r0_11) (View.ld x12 r0_41)) slices_S512x128_o384_0_S64x128)⟩,
    ⟨r0_119, vpiece (extractStridedSlice S64x128 ![320, 0] (vall (M3 x5 x6 x7) (View.ld x10 r0_11) (View.ld x12 r0_41)) slices_S512x128_o320_0_S64x128)⟩,
    ⟨r0_118, vpiece (extractStridedSlice S64x128 ![256, 0] (vall (M3 x5 x6 x7) (View.ld x10 r0_11) (View.ld x12 r0_41)) slices_S512x128_o256_0_S64x128)⟩,
    ⟨r0_117, vpiece (extractStridedSlice S64x128 ![192, 0] (vall (M3 x5 x6 x7) (View.ld x10 r0_11) (View.ld x12 r0_41)) slices_S512x128_o192_0_S64x128)⟩,
    ⟨r0_116, vpiece (extractStridedSlice S64x128 ![128, 0] (vall (M3 x5 x6 x7) (View.ld x10 r0_11) (View.ld x12 r0_41)) slices_S512x128_o128_0_S64x128)⟩,
    ⟨r0_115, vpiece (extractStridedSlice S64x128 ![64, 0] (vall (M3 x5 x6 x7) (View.ld x10 r0_11) (View.ld x12 r0_41)) slices_S512x128_o64_0_S64x128)⟩,
    ⟨r0_114, vpiece (extractStridedSlice S64x128 ![0, 0] (vall (M3 x5 x6 x7) (View.ld x10 r0_11) (View.ld x12 r0_41)) slices_S512x128_o0_0_S64x128)⟩,
    ⟨r0_97, vpiece (extractStridedSlice S64x128 ![448, 0] (vall (M2 x5 x6 x7) (View.ld x10 r0_11) (View.ld x12 r0_41)) slices_S512x128_o448_0_S64x128)⟩,
    ⟨r0_96, vpiece (extractStridedSlice S64x128 ![384, 0] (vall (M2 x5 x6 x7) (View.ld x10 r0_11) (View.ld x12 r0_41)) slices_S512x128_o384_0_S64x128)⟩,
    ⟨r0_95, vpiece (extractStridedSlice S64x128 ![320, 0] (vall (M2 x5 x6 x7) (View.ld x10 r0_11) (View.ld x12 r0_41)) slices_S512x128_o320_0_S64x128)⟩,
    ⟨r0_94, vpiece (extractStridedSlice S64x128 ![256, 0] (vall (M2 x5 x6 x7) (View.ld x10 r0_11) (View.ld x12 r0_41)) slices_S512x128_o256_0_S64x128)⟩,
    ⟨r0_93, vpiece (extractStridedSlice S64x128 ![192, 0] (vall (M2 x5 x6 x7) (View.ld x10 r0_11) (View.ld x12 r0_41)) slices_S512x128_o192_0_S64x128)⟩,
    ⟨r0_92, vpiece (extractStridedSlice S64x128 ![128, 0] (vall (M2 x5 x6 x7) (View.ld x10 r0_11) (View.ld x12 r0_41)) slices_S512x128_o128_0_S64x128)⟩,
    ⟨r0_91, vpiece (extractStridedSlice S64x128 ![64, 0] (vall (M2 x5 x6 x7) (View.ld x10 r0_11) (View.ld x12 r0_41)) slices_S512x128_o64_0_S64x128)⟩,
    ⟨r0_90, vpiece (extractStridedSlice S64x128 ![0, 0] (vall (M2 x5 x6 x7) (View.ld x10 r0_11) (View.ld x12 r0_41)) slices_S512x128_o0_0_S64x128)⟩,
    ⟨r0_73, vpiece (extractStridedSlice S64x128 ![448, 0] (vall (M1 x5 x6 x7) (View.ld x10 r0_11) (View.ld x12 r0_41)) slices_S512x128_o448_0_S64x128)⟩,
    ⟨r0_72, vpiece (extractStridedSlice S64x128 ![384, 0] (vall (M1 x5 x6 x7) (View.ld x10 r0_11) (View.ld x12 r0_41)) slices_S512x128_o384_0_S64x128)⟩,
    ⟨r0_71, vpiece (extractStridedSlice S64x128 ![320, 0] (vall (M1 x5 x6 x7) (View.ld x10 r0_11) (View.ld x12 r0_41)) slices_S512x128_o320_0_S64x128)⟩,
    ⟨r0_70, vpiece (extractStridedSlice S64x128 ![256, 0] (vall (M1 x5 x6 x7) (View.ld x10 r0_11) (View.ld x12 r0_41)) slices_S512x128_o256_0_S64x128)⟩,
    ⟨r0_69, vpiece (extractStridedSlice S64x128 ![192, 0] (vall (M1 x5 x6 x7) (View.ld x10 r0_11) (View.ld x12 r0_41)) slices_S512x128_o192_0_S64x128)⟩,
    ⟨r0_68, vpiece (extractStridedSlice S64x128 ![128, 0] (vall (M1 x5 x6 x7) (View.ld x10 r0_11) (View.ld x12 r0_41)) slices_S512x128_o128_0_S64x128)⟩,
    ⟨r0_67, vpiece (extractStridedSlice S64x128 ![64, 0] (vall (M1 x5 x6 x7) (View.ld x10 r0_11) (View.ld x12 r0_41)) slices_S512x128_o64_0_S64x128)⟩,
    ⟨r0_66, vpiece (extractStridedSlice S64x128 ![0, 0] (vall (M1 x5 x6 x7) (View.ld x10 r0_11) (View.ld x12 r0_41)) slices_S512x128_o0_0_S64x128)⟩,
    ⟨r0_49, vpiece (extractStridedSlice S64x128 ![448, 0] (vall (M0 x5 x6 x7) (View.ld x10 r0_11) (View.ld x12 r0_41)) slices_S512x128_o448_0_S64x128)⟩,
    ⟨r0_48, vpiece (extractStridedSlice S64x128 ![384, 0] (vall (M0 x5 x6 x7) (View.ld x10 r0_11) (View.ld x12 r0_41)) slices_S512x128_o384_0_S64x128)⟩,
    ⟨r0_47, vpiece (extractStridedSlice S64x128 ![320, 0] (vall (M0 x5 x6 x7) (View.ld x10 r0_11) (View.ld x12 r0_41)) slices_S512x128_o320_0_S64x128)⟩,
    ⟨r0_46, vpiece (extractStridedSlice S64x128 ![256, 0] (vall (M0 x5 x6 x7) (View.ld x10 r0_11) (View.ld x12 r0_41)) slices_S512x128_o256_0_S64x128)⟩,
    ⟨r0_45, vpiece (extractStridedSlice S64x128 ![192, 0] (vall (M0 x5 x6 x7) (View.ld x10 r0_11) (View.ld x12 r0_41)) slices_S512x128_o192_0_S64x128)⟩,
    ⟨r0_44, vpiece (extractStridedSlice S64x128 ![128, 0] (vall (M0 x5 x6 x7) (View.ld x10 r0_11) (View.ld x12 r0_41)) slices_S512x128_o128_0_S64x128)⟩,
    ⟨r0_43, vpiece (extractStridedSlice S64x128 ![64, 0] (vall (M0 x5 x6 x7) (View.ld x10 r0_11) (View.ld x12 r0_41)) slices_S512x128_o64_0_S64x128)⟩,
    ⟨r0_42, vpiece (extractStridedSlice S64x128 ![0, 0] (vall (M0 x5 x6 x7) (View.ld x10 r0_11) (View.ld x12 r0_41)) slices_S512x128_o0_0_S64x128)⟩] := rfl

end Cert.Kernel3Ideal.Fr

end
-- ==== Proof.FrBlk.lean ====
/- The front's windows: what a point's blocks hold at a row. -/
module

public import proofs.«01_k».proof.Proof.FrRow
public import proofs.«01_k».proof.Proof.FrIdx
public import proofs.«01_k».proof.Proof.FrOut
public import Idealize.ShloMosaic.Lib.Pipeline.ValueKit

@[expose] public section

set_option maxRecDepth 16384

noncomputable section

namespace Cert.Kernel3Ideal.Fr

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-! The weights, tables and gains read whole. -/

theorem ld1 (c : Dev nD) (t : Fin cfg0.N) (i : Fin 1) (j : Fin 128) :
    View.ld (iblk m c 1 t : Vec Ideal S1x128 _) r0_11 (ix2 i j) = V m c main_v14 (ix2 i j) := by
  unfold iblk
  generalize V m c (Pipeline.arrRef spec0 1) = A
  refine congrArg A ?_
  blk_ext [idxW t, r0_11, Rect.idx_unit_val]

theorem ld2 (c : Dev nD) (t : Fin cfg0.N) (i : Fin 1) (j : Fin 128) :
    View.ld (iblk m c 2 t : Vec Ideal S1x128 _) r0_11 (ix2 i j) = V m c main_v26 (ix2 i j) := by
  unfold iblk
  generalize V m c (Pipeline.arrRef spec0 2) = A
  refine congrArg A ?_
  blk_ext [idxW t, r0_11, Rect.idx_unit_val]

theorem ld3 (c : Dev nD) (t : Fin cfg0.N) (i : Fin 128) (j : Fin 512) :
    View.ld (iblk m c 3 t : Vec Ideal S128x512 _) r0_12 (ix2 i j) = V m c main_v81 (ix2 i j) := by
  unfold iblk
  generalize V m c (Pipeline.arrRef spec0 3) = A
  refine congrArg A ?_
  blk_ext [idxW t, r0_12, Rect.idx_unit_val]

theorem ld4 (c : Dev nD) (t : Fin cfg0.N) (i : Fin 1) (j : Fin 512) :
    View.ld (iblk m c 4 t : Vec Ideal S1x512 _) r0_13 (ix2 i j) = V m c main_v87 (ix2 i j) := by
  unfold iblk
  generalize V m c (Pipeline.arrRef spec0 4) = A
  refine congrArg A ?_
  blk_ext [idxW t, r0_13, Rect.idx_unit_val]

theorem ld6 (c : Dev nD) (t : Fin cfg0.N) (i : Fin 1) (j : Fin 1024) :
    View.ld (iblk m c 6 t : Vec Ideal S1x1024 _) r0_1 (ix2 i j) = V m c main_v138 (ix2 i j) := by
  unfold iblk
  generalize V m c (Pipeline.arrRef spec0 6) = A
  refine congrArg A ?_
  blk_ext [idxW t, r0_1, Rect.idx_unit_val]

theorem ld7 (c : Dev nD) (t : Fin cfg0.N) (i : Fin 1024) (j : Fin 2560) :
    View.ld (iblk m c 7 t : Vec Ideal S1024x2560 _) r0_2 (ix2 i j) = V m c main_v98 (ix2 i j) := by
  unfold iblk
  generalize V m c (Pipeline.arrRef spec0 7) = A
  refine congrArg A ?_
  blk_ext [idxW t, r0_2, Rect.idx_unit_val]

theorem ld8 (c : Dev nD) (t : Fin cfg0.N) (i : Fin 1) (j : Fin 256) :
    View.ld (iblk m c 8 t : Vec Ideal S1x256 _) r0_21 (ix2 i j) = V m c main_v140 (ix2 i j) := by
  unfold iblk
  generalize V m c (Pipeline.arrRef spec0 8) = A
  refine congrArg A ?_
  blk_ext [idxW t, r0_21, Rect.idx_unit_val]

theorem ld9 (c : Dev nD) (t : Fin cfg0.N) (i : Fin 1024) (j : Fin 256) :
    View.ld (iblk m c 9 t : Vec Ideal S1024x256 _) r0_22 (ix2 i j) = V m c main_v104 (ix2 i j) := by
  unfold iblk
  generalize V m c (Pipeline.arrRef spec0 9) = A
  refine congrArg A ?_
  blk_ext [idxW t, r0_22, Rect.idx_unit_val]

theorem ld10 (c : Dev nD) (t : Fin cfg0.N) (i : Fin 1) (j : Fin 128) :
    View.ld (iblk m c 10 t : Vec Ideal S1x128 _) r0_11 (ix2 i j) = V m c main_v142 (ix2 i j) := by
  unfold iblk
  generalize V m c (Pipeline.arrRef spec0 10) = A
  refine congrArg A ?_
  blk_ext [idxW t, r0_11, Rect.idx_unit_val]

theorem ld11 (c : Dev nD) (t : Fin cfg0.N) (i : Fin 128) (j : Fin 1024) :
    View.ld (iblk m c 11 t : Vec Ideal S128x1024 _) r0_32 (ix2 i j) = V m c main_v110 (ix2 i j) := by
  unfold iblk
  generalize V m c (Pipeline.arrRef spec0 11) = A
  refine congrArg A ?_
  blk_ext [idxW t, r0_32, Rect.idx_unit_val]

theorem ld12 (c : Dev nD) (t : Fin cfg0.N) (i : Fin 512) (j : Fin 128) :
    View.ld (iblk m c 12 t : Vec Ideal S512x128 _) r0_41 (ix2 i j) = V m c main_v114 (ix2 i j) := by
  unfold iblk
  generalize V m c (Pipeline.arrRef spec0 12) = A
  refine congrArg A ?_
  blk_ext [idxW t, r0_41, Rect.idx_unit_val]

theorem ld13 (c : Dev nD) (t : Fin cfg0.N) (i : Fin 128) (j : Fin 1) :
    View.ld (iblk m c 13 t : Vec Ideal S128x1 _) r0_23 (ix2 i j) = V m c main_v143 (ix2 i j) := by
  unfold iblk
  generalize V m c (Pipeline.arrRef spec0 13) = A
  refine congrArg A ?_
  blk_ext [idxW t, r0_23, Rect.idx_unit_val]

theorem ld14 (c : Dev nD) (t : Fin cfg0.N) (i : Fin 128) (j : Fin 1) :
    View.ld (iblk m c 14 t : Vec Ideal S128x1 _) r0_23 (ix2 i j) = V m c main_v144 (ix2 i j) := by
  unfold iblk
  generalize V m c (Pipeline.arrRef spec0 14) = A
  refine congrArg A ?_
  blk_ext [idxW t, r0_23, Rect.idx_unit_val]

theorem ld15 (c : Dev nD) (t : Fin cfg0.N) (i : Fin 1) (j : Fin 128) :
    View.ld (iblk m c 15 t : Vec Ideal S1x128 _) r0_11 (ix2 i j) = V m c main_v134 (ix2 i j) := by
  unfold iblk
  generalize V m c (Pipeline.arrRef spec0 15) = A
  refine congrArg A ?_
  blk_ext [idxW t, r0_11, Rect.idx_unit_val]

theorem ld16 (c : Dev nD) (t : Fin cfg0.N) (i : Fin 1) (j : Fin 128) :
    View.ld (iblk m c 16 t : Vec Ideal S1x128 _) r0_11 (ix2 i j) = V m c main_v136 (ix2 i j) := by
  unfold iblk
  generalize V m c (Pipeline.arrRef spec0 16) = A
  refine congrArg A ?_
  blk_ext [idxW t, r0_11, Rect.idx_unit_val]

/-! The tokens and positions of a row block. -/

theorem ldX0 (c : Dev nD) (t : Fin cfg0.N) (b : Fin 16) (s : Fin 4096) (r : Fin 128) (k : Fin 1024) (hb : b.val = t.val / 8)
    (hs : s.val = t.val % 8 * 512 + (0 + r.val)) :
    View.ld (iblk m c 5 t : Vec Ideal S1x512x1024 _) r0_0 (ix3 0 r k) = V m c main_arg0 (ix3 b s k) := by
  unfold iblk
  generalize V m c (Pipeline.arrRef spec0 5) = A
  refine congrArg A ?_
  blk_ext [idxT t, r0_0, Rect.idx_unit_val]

theorem ldP0 (c : Dev nD) (t : Fin cfg0.N) (b : Fin 16) (s : Fin 4096) (r : Fin 128) (hb : b.val = t.val / 8)
    (hs : s.val = t.val % 8 * 512 + (0 + r.val)) :
    View.ld (iblk m c 0 t : Vec Ideal S1x512x1 _) r0_10 (ix3 0 r 0) = V m c main_v89 (ix3 b s 0) := by
  unfold iblk
  generalize V m c (Pipeline.arrRef spec0 0) = A
  refine congrArg A ?_
  blk_ext [idxT t, r0_10, Rect.idx_unit_val]

theorem ldX1 (c : Dev nD) (t : Fin cfg0.N) (b : Fin 16) (s : Fin 4096) (r : Fin 128) (k : Fin 1024) (hb : b.val = t.val / 8)
    (hs : s.val = t.val % 8 * 512 + (128 + r.val)) :
    View.ld (iblk m c 5 t : Vec Ideal S1x512x1024 _) r0_4 (ix3 0 r k) = V m c main_arg0 (ix3 b s k) := by
  unfold iblk
  generalize V m c (Pipeline.arrRef spec0 5) = A
  refine congrArg A ?_
  blk_ext [idxT t, r0_4, Rect.idx_unit_val]

theorem ldP1 (c : Dev nD) (t : Fin cfg0.N) (b : Fin 16) (s : Fin 4096) (r : Fin 128) (hb : b.val = t.val / 8)
    (hs : s.val = t.val % 8 * 512 + (128 + r.val)) :
    View.ld (iblk m c 0 t : Vec Ideal S1x512x1 _) r0_15 (ix3 0 r 0) = V m c main_v89 (ix3 b s 0) := by
  unfold iblk
  generalize V m c (Pipeline.arrRef spec0 0) = A
  refine congrArg A ?_
  blk_ext [idxT t, r0_15, Rect.idx_unit_val]

theorem ldX2 (c : Dev nD) (t : Fin cfg0.N) (b : Fin 16) (s : Fin 4096) (r : Fin 128) (k : Fin 1024) (hb : b.val = t.val / 8)
    (hs : s.val = t.val % 8 * 512 + (256 + r.val)) :
    View.ld (iblk m c 5 t : Vec Ideal S1x512x1024 _) r0_6 (ix3 0 r k) = V m c main_arg0 (ix3 b s k) := by
  unfold iblk
  generalize V m c (Pipeline.arrRef spec0 5) = A
  refine congrArg A ?_
  blk_ext [idxT t, r0_6, Rect.idx_unit_val]

theorem ldP2 (c : Dev nD) (t : Fin cfg0.N) (b : Fin 16) (s : Fin 4096) (r : Fin 128) (hb : b.val = t.val / 8)
    (hs : s.val = t.val % 8 * 512 + (256 + r.val)) :
    View.ld (iblk m c 0 t : Vec Ideal S1x512x1 _) r0_17 (ix3 0 r 0) = V m c main_v89 (ix3 b s 0) := by
  unfold iblk
  generalize V m c (Pipeline.arrRef spec0 0) = A
  refine congrArg A ?_
  blk_ext [idxT t, r0_17, Rect.idx_unit_val]

theorem ldX3 (c : Dev nD) (t : Fin cfg0.N) (b : Fin 16) (s : Fin 4096) (r : Fin 128) (k : Fin 1024) (hb : b.val = t.val / 8)
    (hs : s.val = t.val % 8 * 512 + (384 + r.val)) :
    View.ld (iblk m c 5 t : Vec Ideal S1x512x1024 _) r0_8 (ix3 0 r k) = V m c main_arg0 (ix3 b s k) := by
  unfold iblk
  generalize V m c (Pipeline.arrRef spec0 5) = A
  refine congrArg A ?_
  blk_ext [idxT t, r0_8, Rect.idx_unit_val]

theorem ldP3 (c : Dev nD) (t : Fin cfg0.N) (b : Fin 16) (s : Fin 4096) (r : Fin 128) (hb : b.val = t.val / 8)
    (hs : s.val = t.val % 8 * 512 + (384 + r.val)) :
    View.ld (iblk m c 0 t : Vec Ideal S1x512x1 _) r0_19 (ix3 0 r 0) = V m c main_v89 (ix3 b s 0) := by
  unfold iblk
  generalize V m c (Pipeline.arrRef spec0 0) = A
  refine congrArg A ?_
  blk_ext [idxT t, r0_19, Rect.idx_unit_val]

/-- Row block 0 of a point holds its tokens and the prepared weights. -/
theorem facts0 (c : Dev nD) (t : Fin cfg0.N) (b : Fin 16) (s : Fin 4096) (r : Fin 128) (hb : b.val = t.val / 8)
    (hs : s.val = t.val % 8 * 512 + (0 + r.val)) :
    Facts (a0 m c) (a1 m c) (a2 m c) (a3 m c) (a4 m c) (a5 m c) (a6 m c) (a7 m c) (a8 m c) (a9 m c) b s r
      (View.ld (iblk m c 5 t) r0_0) (View.ld (iblk m c 0 t) r0_10) (View.ld (iblk m c 6 t) r0_1) (View.ld (iblk m c 7 t) r0_2)
      (View.ld (iblk m c 1 t) r0_11) (View.ld (iblk m c 2 t) r0_11) (View.ld (iblk m c 3 t) r0_12) (View.ld (iblk m c 4 t) r0_13)
      (View.ld (iblk m c 8 t) r0_21) (View.ld (iblk m c 9 t) r0_22) (View.ld (iblk m c 10 t) r0_11) (View.ld (iblk m c 11 t) r0_32)
      (View.ld (iblk m c 12 t) r0_41) (View.ld (iblk m c 13 t) r0_23) (View.ld (iblk m c 14 t) r0_23) (View.ld (iblk m c 15 t) r0_11)
      (View.ld (iblk m c 16 t) r0_11) where
  hX k := (ldX0 m c t b s r k hb hs).trans (congrFun (V_main_arg0 m c) _)
  hP := (ldP0 m c t b s r hb hs).trans (posV m c b s)
  hG k := (ld6 m c t 0 k).trans (gV m c k)
  hW d j := (ld7 m c t d j).trans (winV m c d j)
  hF l := (ld1 m c t 0 l).trans (freqV m c l)
  hPH l := (ld2 m c t 0 l).trans (phaseV m c l)
  hE l j := (ld3 m c t l j).trans (expandV m c l j)
  hB j := (ld4 m c t 0 j).trans (biasV m c j)
  hgq k := (ld8 m c t 0 k).trans (gqaV m c k)
  hwq e k := (ld9 m c t e k).trans (wqtV m c e k)
  hgkv k := (ld10 m c t 0 k).trans (gkvaV m c k)
  hwk k j := (ld11 m c t k j).trans (wkV m c k j)
  hwv e k := (ld12 m c t e k).trans (wvtV m c e k)
  hgc d := (ld13 m c t d 0).trans (gqcV m c d)
  hgs d := (ld14 m c t d 0).trans (gqscV m c d)
  hkc d := (ld15 m c t 0 d).trans (gkV m c d)
  hks d := (ld16 m c t 0 d).trans (gksV m c d)

/-- Row block 1 of a point holds its tokens and the prepared weights. -/
theorem facts1 (c : Dev nD) (t : Fin cfg0.N) (b : Fin 16) (s : Fin 4096) (r : Fin 128) (hb : b.val = t.val / 8)
    (hs : s.val = t.val % 8 * 512 + (128 + r.val)) :
    Facts (a0 m c) (a1 m c) (a2 m c) (a3 m c) (a4 m c) (a5 m c) (a6 m c) (a7 m c) (a8 m c) (a9 m c) b s r
      (View.ld (iblk m c 5 t) r0_4) (View.ld (iblk m c 0 t) r0_15) (View.ld (iblk m c 6 t) r0_1) (View.ld (iblk m c 7 t) r0_2)
      (View.ld (iblk m c 1 t) r0_11) (View.ld (iblk m c 2 t) r0_11) (View.ld (iblk m c 3 t) r0_12) (View.ld (iblk m c 4 t) r0_13)
      (View.ld (iblk m c 8 t) r0_21) (View.ld (iblk m c 9 t) r0_22) (View.ld (iblk m c 10 t) r0_11) (View.ld (iblk m c 11 t) r0_32)
      (View.ld (iblk m c 12 t) r0_41) (View.ld (iblk m c 13 t) r0_23) (View.ld (iblk m c 14 t) r0_23) (View.ld (iblk m c 15 t) r0_11)
      (View.ld (iblk m c 16 t) r0_11) where
  hX k := (ldX1 m c t b s r k hb hs).trans (congrFun (V_main_arg0 m c) _)
  hP := (ldP1 m c t b s r hb hs).trans (posV m c b s)
  hG k := (ld6 m c t 0 k).trans (gV m c k)
  hW d j := (ld7 m c t d j).trans (winV m c d j)
  hF l := (ld1 m c t 0 l).trans (freqV m c l)
  hPH l := (ld2 m c t 0 l).trans (phaseV m c l)
  hE l j := (ld3 m c t l j).trans (expandV m c l j)
  hB j := (ld4 m c t 0 j).trans (biasV m c j)
  hgq k := (ld8 m c t 0 k).trans (gqaV m c k)
  hwq e k := (ld9 m c t e k).trans (wqtV m c e k)
  hgkv k := (ld10 m c t 0 k).trans (gkvaV m c k)
  hwk k j := (ld11 m c t k j).trans (wkV m c k j)
  hwv e k := (ld12 m c t e k).trans (wvtV m c e k)
  hgc d := (ld13 m c t d 0).trans (gqcV m c d)
  hgs d := (ld14 m c t d 0).trans (gqscV m c d)
  hkc d := (ld15 m c t 0 d).trans (gkV m c d)
  hks d := (ld16 m c t 0 d).trans (gksV m c d)

/-- Row block 2 of a point holds its tokens and the prepared weights. -/
theorem facts2 (c : Dev nD) (t : Fin cfg0.N) (b : Fin 16) (s : Fin 4096) (r : Fin 128) (hb : b.val = t.val / 8)
    (hs : s.val = t.val % 8 * 512 + (256 + r.val)) :
    Facts (a0 m c) (a1 m c) (a2 m c) (a3 m c) (a4 m c) (a5 m c) (a6 m c) (a7 m c) (a8 m c) (a9 m c) b s r
      (View.ld (iblk m c 5 t) r0_6) (View.ld (iblk m c 0 t) r0_17) (View.ld (iblk m c 6 t) r0_1) (View.ld (iblk m c 7 t) r0_2)
      (View.ld (iblk m c 1 t) r0_11) (View.ld (iblk m c 2 t) r0_11) (View.ld (iblk m c 3 t) r0_12) (View.ld (iblk m c 4 t) r0_13)
      (View.ld (iblk m c 8 t) r0_21) (View.ld (iblk m c 9 t) r0_22) (View.ld (iblk m c 10 t) r0_11) (View.ld (iblk m c 11 t) r0_32)
      (View.ld (iblk m c 12 t) r0_41) (View.ld (iblk m c 13 t) r0_23) (View.ld (iblk m c 14 t) r0_23) (View.ld (iblk m c 15 t) r0_11)
      (View.ld (iblk m c 16 t) r0_11) where
  hX k := (ldX2 m c t b s r k hb hs).trans (congrFun (V_main_arg0 m c) _)
  hP := (ldP2 m c t b s r hb hs).trans (posV m c b s)
  hG k := (ld6 m c t 0 k).trans (gV m c k)
  hW d j := (ld7 m c t d j).trans (winV m c d j)
  hF l := (ld1 m c t 0 l).trans (freqV m c l)
  hPH l := (ld2 m c t 0 l).trans (phaseV m c l)
  hE l j := (ld3 m c t l j).trans (expandV m c l j)
  hB j := (ld4 m c t 0 j).trans (biasV m c j)
  hgq k := (ld8 m c t 0 k).trans (gqaV m c k)
  hwq e k := (ld9 m c t e k).trans (wqtV m c e k)
  hgkv k := (ld10 m c t 0 k).trans (gkvaV m c k)
  hwk k j := (ld11 m c t k j).trans (wkV m c k j)
  hwv e k := (ld12 m c t e k).trans (wvtV m c e k)
  hgc d := (ld13 m c t d 0).trans (gqcV m c d)
  hgs d := (ld14 m c t d 0).trans (gqscV m c d)
  hkc d := (ld15 m c t 0 d).trans (gkV m c d)
  hks d := (ld16 m c t 0 d).trans (gksV m c d)

/-- Row block 3 of a point holds its tokens and the prepared weights. -/
theorem facts3 (c : Dev nD) (t : Fin cfg0.N) (b : Fin 16) (s : Fin 4096) (r : Fin 128) (hb : b.val = t.val / 8)
    (hs : s.val = t.val % 8 * 512 + (384 + r.val)) :
    Facts (a0 m c) (a1 m c) (a2 m c) (a3 m c) (a4 m c) (a5 m c) (a6 m c) (a7 m c) (a8 m c) (a9 m c) b s r
      (View.ld (iblk m c 5 t) r0_8) (View.ld (iblk m c 0 t) r0_19) (View.ld (iblk m c 6 t) r0_1) (View.ld (iblk m c 7 t) r0_2)
      (View.ld (iblk m c 1 t) r0_11) (View.ld (iblk m c 2 t) r0_11) (View.ld (iblk m c 3 t) r0_12) (View.ld (iblk m c 4 t) r0_13)
      (View.ld (iblk m c 8 t) r0_21) (View.ld (iblk m c 9 t) r0_22) (View.ld (iblk m c 10 t) r0_11) (View.ld (iblk m c 11 t) r0_32)
      (View.ld (iblk m c 12 t) r0_41) (View.ld (iblk m c 13 t) r0_23) (View.ld (iblk m c 14 t) r0_23) (View.ld (iblk m c 15 t) r0_11)
      (View.ld (iblk m c 16 t) r0_11) where
  hX k := (ldX3 m c t b s r k hb hs).trans (congrFun (V_main_arg0 m c) _)
  hP := (ldP3 m c t b s r hb hs).trans (posV m c b s)
  hG k := (ld6 m c t 0 k).trans (gV m c k)
  hW d j := (ld7 m c t d j).trans (winV m c d j)
  hF l := (ld1 m c t 0 l).trans (freqV m c l)
  hPH l := (ld2 m c t 0 l).trans (phaseV m c l)
  hE l j := (ld3 m c t l j).trans (expandV m c l j)
  hB j := (ld4 m c t 0 j).trans (biasV m c j)
  hgq k := (ld8 m c t 0 k).trans (gqaV m c k)
  hwq e k := (ld9 m c t e k).trans (wqtV m c e k)
  hgkv k := (ld10 m c t 0 k).trans (gkvaV m c k)
  hwk k j := (ld11 m c t k j).trans (wkV m c k j)
  hwv e k := (ld12 m c t e k).trans (wvtV m c e k)
  hgc d := (ld13 m c t d 0).trans (gqcV m c d)
  hgs d := (ld14 m c t d 0).trans (gqscV m c d)
  hkc d := (ld15 m c t 0 d).trans (gkV m c d)
  hks d := (ld16 m c t 0 d).trans (gksV m c d)

end Cert.Kernel3Ideal.Fr

end
-- ==== Proof.Front.lean ====
/- The front's results: what every point stores, and the five result arrays as the reference's values. -/
module

public import proofs.«01_k».proof.Proof.FrBlk
public import Idealize.ShloMosaic.Lib.Pipeline.ValueKit

@[expose] public section

set_option maxRecDepth 16384

noncomputable section

namespace Cert.Kernel3Ideal.Fr

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

set_option maxHeartbeats 16000000 in
/-- A point's columns of the retention. -/
theorem at17 (c : Dev nD) (t : Fin cfg0.N) (b : Fin 16) (s : Fin 4096) (z : Fin 1) (y : Fin 512) (j : Fin 2048) (hb : b.val = t.val / 8)
    (hs : s.val = t.val % 8 * 512 + y.val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 z y j)
      = Cert.Reference3Ideal.Read.val_main_v176 (F := Ideal) (a0 m c) (a2 m c) (a3 m c) (ix3 b s j) := by
  obtain rfl : z = 0 := Subsingleton.elim _ _
  rw [out_17]
  canon_tiles x e
  all_goals
    idx_vars x
    obtain rfl : x0 = 0 := Subsingleton.elim _ _
    obtain rfl : x2 = j := Fin.ext (Eq.symm e2)
  · exact p17 (facts3 m c t b s x1 hb (by omega)) x2
  · exact p17 (facts2 m c t b s x1 hb (by omega)) x2
  · exact p17 (facts1 m c t b s x1 hb (by omega)) x2
  · exact p17 (facts0 m c t b s x1 hb (by omega)) x2

/-- The columns of the retention the call leaves. -/
theorem final17 (c : Dev nD) : (dats m 0 c).arrAt 17 (cfgs 0).N = Cert.Reference3Ideal.Read.val_main_v176 (F := Ideal) (a0 m c) (a2 m c) (a3 m c) := by
  refine (dats m 0 c).arrAt_eq_of_covers 17 _ (by decide +kernel) fun t _ y => ?_
  blk_simp
  rw [after0_17]
  have ht : t.val < 128 := lt_of_lt_of_eq t.isLt N_0
  obtain_idx j : S16x4096x2048 := [t.val / 8, t.val % 8 * 512 + (y 1 : ℕ), (y 2 : ℕ)] with hj
  have hj' : ((cfg0.win 17).blk t).view.emb y = ix3 (j 0) (j 1) (y 2) := by blk_ext [idxR t]
  rw [hj', eq_ix3 y]
  exact at17 m c t _ _ _ _ _ hj0 hj1

set_option maxHeartbeats 16000000 in
/-- A point's table of the retention. -/
theorem at18 (c : Dev nD) (t : Fin cfg0.N) (b : Fin 16) (s : Fin 4096) (z : Fin 1) (y : Fin 512) (j : Fin 256) (hb : b.val = t.val / 8)
    (hs : s.val = t.val % 8 * 512 + y.val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 z y j)
      = Cert.Reference3Ideal.Read.val_main_v167 (F := Ideal) (a1 m c) (ix3 b s j) := by
  obtain rfl : z = 0 := Subsingleton.elim _ _
  rw [out_18]
  canon_tiles x e
  all_goals
    idx_vars x
    obtain rfl : x0 = 0 := Subsingleton.elim _ _
    obtain rfl : x2 = j := Fin.ext (Eq.symm e2)
  · exact p18 (facts3 m c t b s x1 hb (by omega)) x2
  · exact p18 (facts2 m c t b s x1 hb (by omega)) x2
  · exact p18 (facts1 m c t b s x1 hb (by omega)) x2
  · exact p18 (facts0 m c t b s x1 hb (by omega)) x2

/-- The table of the retention the call leaves. -/
theorem final18 (c : Dev nD) : (dats m 0 c).arrAt 18 (cfgs 0).N = Cert.Reference3Ideal.Read.val_main_v167 (F := Ideal) (a1 m c) := by
  refine (dats m 0 c).arrAt_eq_of_covers 18 _ (by decide +kernel) fun t _ y => ?_
  blk_simp
  rw [after0_18]
  have ht : t.val < 128 := lt_of_lt_of_eq t.isLt N_0
  obtain_idx j : S16x4096x256 := [t.val / 8, t.val % 8 * 512 + (y 1 : ℕ), (y 2 : ℕ)] with hj
  have hj' : ((cfg0.win 18).blk t).view.emb y = ix3 (j 0) (j 1) (y 2) := by blk_ext [idxR t]
  rw [hj', eq_ix3 y]
  exact at18 m c t _ _ _ _ _ hj0 hj1

set_option maxHeartbeats 16000000 in
/-- A point's queries. -/
theorem at19 (c : Dev nD) (t : Fin cfg0.N) (b : Fin 16) (s : Fin 4096) (z : Fin 1) (h : Fin 8) (d : Fin 128) (y : Fin 512) (hb : b.val = t.val / 8)
    (hs : s.val = t.val % 8 * 512 + y.val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix4 z h d y)
      = Cert.Reference3Ideal.Read.val_main_v177 (F := Ideal) (a0 m c) (a1 m c) (a2 m c) (a3 m c) (a4 m c) (a5 m c) (a8 m c) (ix4 b h d s) := by
  obtain rfl : z = 0 := Subsingleton.elim _ _
  rw [out_19]
  canon_tiles x e
  all_goals
    idx_vars x
    obtain rfl : x0 = 0 := Subsingleton.elim _ _
    obtain rfl : x2 = d := Fin.ext (Eq.symm e2)
    obtain rfl : x1 = 0 := Subsingleton.elim _ _
  · exact p19 (facts3 m c t b s x3 hb (by omega)) h x2 896 (by omega) _
  · exact p19 (facts3 m c t b s x3 hb (by omega)) h x2 768 (by omega) _
  · exact p19 (facts3 m c t b s x3 hb (by omega)) h x2 640 (by omega) _
  · exact p19 (facts3 m c t b s x3 hb (by omega)) h x2 512 (by omega) _
  · exact p19 (facts3 m c t b s x3 hb (by omega)) h x2 384 (by omega) _
  · exact p19 (facts3 m c t b s x3 hb (by omega)) h x2 256 (by omega) _
  · exact p19 (facts3 m c t b s x3 hb (by omega)) h x2 128 (by omega) _
  · exact p19 (facts3 m c t b s x3 hb (by omega)) h x2 0 (by omega) _
  · exact p19 (facts2 m c t b s x3 hb (by omega)) h x2 896 (by omega) _
  · exact p19 (facts2 m c t b s x3 hb (by omega)) h x2 768 (by omega) _
  · exact p19 (facts2 m c t b s x3 hb (by omega)) h x2 640 (by omega) _
  · exact p19 (facts2 m c t b s x3 hb (by omega)) h x2 512 (by omega) _
  · exact p19 (facts2 m c t b s x3 hb (by omega)) h x2 384 (by omega) _
  · exact p19 (facts2 m c t b s x3 hb (by omega)) h x2 256 (by omega) _
  · exact p19 (facts2 m c t b s x3 hb (by omega)) h x2 128 (by omega) _
  · exact p19 (facts2 m c t b s x3 hb (by omega)) h x2 0 (by omega) _
  · exact p19 (facts1 m c t b s x3 hb (by omega)) h x2 896 (by omega) _
  · exact p19 (facts1 m c t b s x3 hb (by omega)) h x2 768 (by omega) _
  · exact p19 (facts1 m c t b s x3 hb (by omega)) h x2 640 (by omega) _
  · exact p19 (facts1 m c t b s x3 hb (by omega)) h x2 512 (by omega) _
  · exact p19 (facts1 m c t b s x3 hb (by omega)) h x2 384 (by omega) _
  · exact p19 (facts1 m c t b s x3 hb (by omega)) h x2 256 (by omega) _
  · exact p19 (facts1 m c t b s x3 hb (by omega)) h x2 128 (by omega) _
  · exact p19 (facts1 m c t b s x3 hb (by omega)) h x2 0 (by omega) _
  · exact p19 (facts0 m c t b s x3 hb (by omega)) h x2 896 (by omega) _
  · exact p19 (facts0 m c t b s x3 hb (by omega)) h x2 768 (by omega) _
  · exact p19 (facts0 m c t b s x3 hb (by omega)) h x2 640 (by omega) _
  · exact p19 (facts0 m c t b s x3 hb (by omega)) h x2 512 (by omega) _
  · exact p19 (facts0 m c t b s x3 hb (by omega)) h x2 384 (by omega) _
  · exact p19 (facts0 m c t b s x3 hb (by omega)) h x2 256 (by omega) _
  · exact p19 (facts0 m c t b s x3 hb (by omega)) h x2 128 (by omega) _
  · exact p19 (facts0 m c t b s x3 hb (by omega)) h x2 0 (by omega) _

/-- The queries the call leaves. -/
theorem final19 (c : Dev nD) : (dats m 0 c).arrAt 19 (cfgs 0).N = Cert.Reference3Ideal.Read.val_main_v177 (F := Ideal) (a0 m c) (a1 m c) (a2 m c) (a3 m c) (a4 m c) (a5 m c) (a8 m c) := by
  refine (dats m 0 c).arrAt_eq_of_covers 19 _ (by decide +kernel) fun t _ y => ?_
  blk_simp
  rw [after0_19]
  have ht : t.val < 128 := lt_of_lt_of_eq t.isLt N_0
  obtain_idx j : S16x8x128x4096 := [t.val / 8, (y 1 : ℕ), (y 2 : ℕ), t.val % 8 * 512 + (y 3 : ℕ)] with hj
  have hj' : ((cfg0.win 19).blk t).view.emb y = ix4 (j 0) (y 1) (y 2) (j 3) := by blk_ext [idxR t]
  rw [hj', eq_ix4 y]
  exact at19 m c t _ _ _ _ _ _ hj0 hj3

set_option maxHeartbeats 16000000 in
/-- A point's keys. -/
theorem at20 (c : Dev nD) (t : Fin cfg0.N) (b : Fin 16) (s : Fin 4096) (z : Fin 1) (h : Fin 8) (y : Fin 512) (d : Fin 128) (hb : b.val = t.val / 8)
    (hs : s.val = t.val % 8 * 512 + y.val) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix4 z h y d)
      = Cert.Reference3Ideal.Read.val_main_v178 (F := Ideal) (a0 m c) (a1 m c) (a2 m c) (a3 m c) (a6 m c) (a7 m c) (a9 m c) (ix4 b h s d) := by
  obtain rfl : z = 0 := Subsingleton.elim _ _
  rw [out_20]
  canon_tiles x e
  all_goals
    idx_vars x
    obtain rfl : x0 = 0 := Subsingleton.elim _ _
    obtain rfl : x3 = d := Fin.ext (Eq.symm e3)
    obtain rfl : x1 = 0 := Subsingleton.elim _ _
  · exact p20 (facts3 m c t b s x2 hb (by omega)) h x3 896 (by omega) _
  · exact p20 (facts3 m c t b s x2 hb (by omega)) h x3 768 (by omega) _
  · exact p20 (facts3 m c t b s x2 hb (by omega)) h x3 640 (by omega) _
  · exact p20 (facts3 m c t b s x2 hb (by omega)) h x3 512 (by omega) _
  · exact p20 (facts3 m c t b s x2 hb (by omega)) h x3 384 (by omega) _
  · exact p20 (facts3 m c t b s x2 hb (by omega)) h x3 256 (by omega) _
  · exact p20 (facts3 m c t b s x2 hb (by omega)) h x3 128 (by omega) _
  · exact p20 (facts3 m c t b s x2 hb (by omega)) h x3 0 (by omega) _
  · exact p20 (facts2 m c t b s x2 hb (by omega)) h x3 896 (by omega) _
  · exact p20 (facts2 m c t b s x2 hb (by omega)) h x3 768 (by omega) _
  · exact p20 (facts2 m c t b s x2 hb (by omega)) h x3 640 (by omega) _
  · exact p20 (facts2 m c t b s x2 hb (by omega)) h x3 512 (by omega) _
  · exact p20 (facts2 m c t b s x2 hb (by omega)) h x3 384 (by omega) _
  · exact p20 (facts2 m c t b s x2 hb (by omega)) h x3 256 (by omega) _
  · exact p20 (facts2 m c t b s x2 hb (by omega)) h x3 128 (by omega) _
  · exact p20 (facts2 m c t b s x2 hb (by omega)) h x3 0 (by omega) _
  · exact p20 (facts1 m c t b s x2 hb (by omega)) h x3 896 (by omega) _
  · exact p20 (facts1 m c t b s x2 hb (by omega)) h x3 768 (by omega) _
  · exact p20 (facts1 m c t b s x2 hb (by omega)) h x3 640 (by omega) _
  · exact p20 (facts1 m c t b s x2 hb (by omega)) h x3 512 (by omega) _
  · exact p20 (facts1 m c t b s x2 hb (by omega)) h x3 384 (by omega) _
  · exact p20 (facts1 m c t b s x2 hb (by omega)) h x3 256 (by omega) _
  · exact p20 (facts1 m c t b s x2 hb (by omega)) h x3 128 (by omega) _
  · exact p20 (facts1 m c t b s x2 hb (by omega)) h x3 0 (by omega) _
  · exact p20 (facts0 m c t b s x2 hb (by omega)) h x3 896 (by omega) _
  · exact p20 (facts0 m c t b s x2 hb (by omega)) h x3 768 (by omega) _
  · exact p20 (facts0 m c t b s x2 hb (by omega)) h x3 640 (by omega) _
  · exact p20 (facts0 m c t b s x2 hb (by omega)) h x3 512 (by omega) _
  · exact p20 (facts0 m c t b s x2 hb (by omega)) h x3 384 (by omega) _
  · exact p20 (facts0 m c t b s x2 hb (by omega)) h x3 256 (by omega) _
  · exact p20 (facts0 m c t b s x2 hb (by omega)) h x3 128 (by omega) _
  · exact p20 (facts0 m c t b s x2 hb (by omega)) h x3 0 (by omega) _

/-- The keys the call leaves. -/
theorem final20 (c : Dev nD) : (dats m 0 c).arrAt 20 (cfgs 0).N = Cert.Reference3Ideal.Read.val_main_v178 (F := Ideal) (a0 m c) (a1 m c) (a2 m c) (a3 m c) (a6 m c) (a7 m c) (a9 m c) := by
  refine (dats m 0 c).arrAt_eq_of_covers 20 _ (by decide +kernel) fun t _ y => ?_
  blk_simp
  rw [after0_20]
  have ht : t.val < 128 := lt_of_lt_of_eq t.isLt N_0
  obtain_idx j : S16x8x4096x128 := [t.val / 8, (y 1 : ℕ), t.val % 8 * 512 + (y 2 : ℕ), (y 3 : ℕ)] with hj
  have hj' : ((cfg0.win 20).blk t).view.emb y = ix4 (j 0) (y 1) (j 2) (y 3) := by blk_ext [idxR t]
  rw [hj', eq_ix4 y]
  exact at20 m c t _ _ _ _ _ _ hj0 hj2

set_option maxHeartbeats 16000000 in
/-- A point's values. -/
theorem at21 (c : Dev nD) (t : Fin cfg0.N) (b : Fin 16) (s : Fin 8) (z : Fin 1) (h : Fin 8) (w : Fin 1) (i : Fin 64) (y : Fin 512) (hb : b.val = t.val / 8)
    (hs : s.val = t.val % 8) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix5 z h w i y)
      = Cert.Reference3Ideal.Read.val_main_v179 (F := Ideal) (a0 m c) (a2 m c) (a3 m c) (a6 m c) (a7 m c) (ix5 b h s i y) := by
  obtain rfl : z = 0 := Subsingleton.elim _ _
  obtain rfl : w = 0 := Subsingleton.elim _ _
  rw [out_21]
  canon_tiles x e
  all_goals
    idx_vars x
    obtain rfl : x0 = 0 := Subsingleton.elim _ _
    obtain rfl : x3 = i := Fin.ext (Eq.symm e3)
    obtain rfl : x1 = 0 := Subsingleton.elim _ _
    obtain rfl : x2 = 0 := Subsingleton.elim _ _
  · exact p21 (facts3 m c t b ⟨s.val * 512 + y.val, by omega⟩ x4 hb (by show s.val * 512 + y.val = _; omega)) h s x3 y rfl 448 (by omega) _
  · exact p21 (facts3 m c t b ⟨s.val * 512 + y.val, by omega⟩ x4 hb (by show s.val * 512 + y.val = _; omega)) h s x3 y rfl 384 (by omega) _
  · exact p21 (facts3 m c t b ⟨s.val * 512 + y.val, by omega⟩ x4 hb (by show s.val * 512 + y.val = _; omega)) h s x3 y rfl 320 (by omega) _
  · exact p21 (facts3 m c t b ⟨s.val * 512 + y.val, by omega⟩ x4 hb (by show s.val * 512 + y.val = _; omega)) h s x3 y rfl 256 (by omega) _
  · exact p21 (facts3 m c t b ⟨s.val * 512 + y.val, by omega⟩ x4 hb (by show s.val * 512 + y.val = _; omega)) h s x3 y rfl 192 (by omega) _
  · exact p21 (facts3 m c t b ⟨s.val * 512 + y.val, by omega⟩ x4 hb (by show s.val * 512 + y.val = _; omega)) h s x3 y rfl 128 (by omega) _
  · exact p21 (facts3 m c t b ⟨s.val * 512 + y.val, by omega⟩ x4 hb (by show s.val * 512 + y.val = _; omega)) h s x3 y rfl 64 (by omega) _
  · exact p21 (facts3 m c t b ⟨s.val * 512 + y.val, by omega⟩ x4 hb (by show s.val * 512 + y.val = _; omega)) h s x3 y rfl 0 (by omega) _
  · exact p21 (facts2 m c t b ⟨s.val * 512 + y.val, by omega⟩ x4 hb (by show s.val * 512 + y.val = _; omega)) h s x3 y rfl 448 (by omega) _
  · exact p21 (facts2 m c t b ⟨s.val * 512 + y.val, by omega⟩ x4 hb (by show s.val * 512 + y.val = _; omega)) h s x3 y rfl 384 (by omega) _
  · exact p21 (facts2 m c t b ⟨s.val * 512 + y.val, by omega⟩ x4 hb (by show s.val * 512 + y.val = _; omega)) h s x3 y rfl 320 (by omega) _
  · exact p21 (facts2 m c t b ⟨s.val * 512 + y.val, by omega⟩ x4 hb (by show s.val * 512 + y.val = _; omega)) h s x3 y rfl 256 (by omega) _
  · exact p21 (facts2 m c t b ⟨s.val * 512 + y.val, by omega⟩ x4 hb (by show s.val * 512 + y.val = _; omega)) h s x3 y rfl 192 (by omega) _
  · exact p21 (facts2 m c t b ⟨s.val * 512 + y.val, by omega⟩ x4 hb (by show s.val * 512 + y.val = _; omega)) h s x3 y rfl 128 (by omega) _
  · exact p21 (facts2 m c t b ⟨s.val * 512 + y.val, by omega⟩ x4 hb (by show s.val * 512 + y.val = _; omega)) h s x3 y rfl 64 (by omega) _
  · exact p21 (facts2 m c t b ⟨s.val * 512 + y.val, by omega⟩ x4 hb (by show s.val * 512 + y.val = _; omega)) h s x3 y rfl 0 (by omega) _
  · exact p21 (facts1 m c t b ⟨s.val * 512 + y.val, by omega⟩ x4 hb (by show s.val * 512 + y.val = _; omega)) h s x3 y rfl 448 (by omega) _
  · exact p21 (facts1 m c t b ⟨s.val * 512 + y.val, by omega⟩ x4 hb (by show s.val * 512 + y.val = _; omega)) h s x3 y rfl 384 (by omega) _
  · exact p21 (facts1 m c t b ⟨s.val * 512 + y.val, by omega⟩ x4 hb (by show s.val * 512 + y.val = _; omega)) h s x3 y rfl 320 (by omega) _
  · exact p21 (facts1 m c t b ⟨s.val * 512 + y.val, by omega⟩ x4 hb (by show s.val * 512 + y.val = _; omega)) h s x3 y rfl 256 (by omega) _
  · exact p21 (facts1 m c t b ⟨s.val * 512 + y.val, by omega⟩ x4 hb (by show s.val * 512 + y.val = _; omega)) h s x3 y rfl 192 (by omega) _
  · exact p21 (facts1 m c t b ⟨s.val * 512 + y.val, by omega⟩ x4 hb (by show s.val * 512 + y.val = _; omega)) h s x3 y rfl 128 (by omega) _
  · exact p21 (facts1 m c t b ⟨s.val * 512 + y.val, by omega⟩ x4 hb (by show s.val * 512 + y.val = _; omega)) h s x3 y rfl 64 (by omega) _
  · exact p21 (facts1 m c t b ⟨s.val * 512 + y.val, by omega⟩ x4 hb (by show s.val * 512 + y.val = _; omega)) h s x3 y rfl 0 (by omega) _
  · exact p21 (facts0 m c t b ⟨s.val * 512 + y.val, by omega⟩ x4 hb (by show s.val * 512 + y.val = _; omega)) h s x3 y rfl 448 (by omega) _
  · exact p21 (facts0 m c t b ⟨s.val * 512 + y.val, by omega⟩ x4 hb (by show s.val * 512 + y.val = _; omega)) h s x3 y rfl 384 (by omega) _
  · exact p21 (facts0 m c t b ⟨s.val * 512 + y.val, by omega⟩ x4 hb (by show s.val * 512 + y.val = _; omega)) h s x3 y rfl 320 (by omega) _
  · exact p21 (facts0 m c t b ⟨s.val * 512 + y.val, by omega⟩ x4 hb (by show s.val * 512 + y.val = _; omega)) h s x3 y rfl 256 (by omega) _
  · exact p21 (facts0 m c t b ⟨s.val * 512 + y.val, by omega⟩ x4 hb (by show s.val * 512 + y.val = _; omega)) h s x3 y rfl 192 (by omega) _
  · exact p21 (facts0 m c t b ⟨s.val * 512 + y.val, by omega⟩ x4 hb (by show s.val * 512 + y.val = _; omega)) h s x3 y rfl 128 (by omega) _
  · exact p21 (facts0 m c t b ⟨s.val * 512 + y.val, by omega⟩ x4 hb (by show s.val * 512 + y.val = _; omega)) h s x3 y rfl 64 (by omega) _
  · exact p21 (facts0 m c t b ⟨s.val * 512 + y.val, by omega⟩ x4 hb (by show s.val * 512 + y.val = _; omega)) h s x3 y rfl 0 (by omega) _

/-- The values the call leaves. -/
theorem final21 (c : Dev nD) : (dats m 0 c).arrAt 21 (cfgs 0).N = Cert.Reference3Ideal.Read.val_main_v179 (F := Ideal) (a0 m c) (a2 m c) (a3 m c) (a6 m c) (a7 m c) := by
  refine (dats m 0 c).arrAt_eq_of_covers 21 _ (by decide +kernel) fun t _ y => ?_
  blk_simp
  rw [after0_21]
  have ht : t.val < 128 := lt_of_lt_of_eq t.isLt N_0
  obtain_idx j : S16x8x8x64x512 := [t.val / 8, (y 1 : ℕ), t.val % 8, (y 3 : ℕ), (y 4 : ℕ)] with hj
  have hj' : ((cfg0.win 21).blk t).view.emb y = ix5 (j 0) (y 1) (j 2) (y 3) (y 4) := by blk_ext [idxR t]
  rw [hj', eq_ix5 y]
  exact at21 m c t _ _ _ _ _ _ _ hj0 hj2

end Cert.Kernel3Ideal.Fr

end
-- ==== Proof.FrEnd.lean ====
/- The front call's claims: its five results are the reference's, and the reference's frame. -/
module

public import proofs.«01_k».proof.Defs
public import proofs.«01_k».proof.Proof.Front
public import proofs.«01_k».proof.Proof.Gen.Reference3Ideal.Run
public import proofs.«01_k».proof.Proof.Gen.Reference3Ideal.Read
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The front call computes the reference's five results. -/
theorem algebraic3 : Cert.algebraic_Kernel3Ideal_Reference3Ideal := by
  intro m g m' g' hpre hagree
  refine ⟨fun c => (Cert.Kernel3Ideal.Gen.dats m 0 c).arrAt 17 Cert.Kernel3Ideal.cfg0.N, fun c => (Cert.Kernel3Ideal.Gen.dats m 0 c).arrAt 18 Cert.Kernel3Ideal.cfg0.N,
    fun c => (Cert.Kernel3Ideal.Gen.dats m 0 c).arrAt 19 Cert.Kernel3Ideal.cfg0.N, fun c => (Cert.Kernel3Ideal.Gen.dats m 0 c).arrAt 20 Cert.Kernel3Ideal.cfg0.N,
    fun c => (Cert.Kernel3Ideal.Gen.dats m 0 c).arrAt 21 Cert.Kernel3Ideal.cfg0.N, ?_, ?_⟩
  · exact (θ_run Cert.Kernel3Ideal.defs _ _).mono (fun r h c => ⟨Cert.Kernel3Ideal.Value.post17 m r h c, Cert.Kernel3Ideal.Value.post18 m r h c,
      Cert.Kernel3Ideal.Value.post19 m r h c, Cert.Kernel3Ideal.Value.post20 m r h c, Cert.Kernel3Ideal.Value.post21 m r h c,
      Cert.Kernel3Ideal.Value.kept_main_arg0 m r h c, Cert.Kernel3Ideal.Value.kept_main_arg1 m r h c, Cert.Kernel3Ideal.Value.kept_main_arg2 m r h c,
      Cert.Kernel3Ideal.Value.kept_main_arg3 m r h c, Cert.Kernel3Ideal.Value.kept_main_arg4 m r h c, Cert.Kernel3Ideal.Value.kept_main_arg5 m r h c,
      Cert.Kernel3Ideal.Value.kept_main_arg6 m r h c, Cert.Kernel3Ideal.Value.kept_main_arg7 m r h c, Cert.Kernel3Ideal.Value.kept_main_arg8 m r h c,
      Cert.Kernel3Ideal.Value.kept_main_arg9 m r h c⟩) (Cert.Kernel3Ideal.Gen.run_main m g)
  · run_from Cert.Reference3Ideal.Value.run m' g'
    all_goals
      obtain ⟨h0, h1, h2, h3, h4, h5, h6, h7, h8, h9⟩ := hagree c
      replace h0 : StableHlo.launchContents m' c (Proc.tc.devRef Cert.Reference3Ideal.main_arg0) = _ := h0
      replace h1 : StableHlo.launchContents m' c (Proc.tc.devRef Cert.Reference3Ideal.main_arg1) = _ := h1
      replace h2 : StableHlo.launchContents m' c (Proc.tc.devRef Cert.Reference3Ideal.main_arg2) = _ := h2
      replace h3 : StableHlo.launchContents m' c (Proc.tc.devRef Cert.Reference3Ideal.main_arg3) = _ := h3
      replace h4 : StableHlo.launchContents m' c (Proc.tc.devRef Cert.Reference3Ideal.main_arg4) = _ := h4
      replace h5 : StableHlo.launchContents m' c (Proc.tc.devRef Cert.Reference3Ideal.main_arg5) = _ := h5
      replace h6 : StableHlo.launchContents m' c (Proc.tc.devRef Cert.Reference3Ideal.main_arg6) = _ := h6
      replace h7 : StableHlo.launchContents m' c (Proc.tc.devRef Cert.Reference3Ideal.main_arg7) = _ := h7
      replace h8 : StableHlo.launchContents m' c (Proc.tc.devRef Cert.Reference3Ideal.main_arg8) = _ := h8
      replace h9 : StableHlo.launchContents m' c (Proc.tc.devRef Cert.Reference3Ideal.main_arg9) = _ := h9
    · rw [Cert.Reference3Ideal.Read.val_main_v176_eq, h0, h2, h3]
      exact (Cert.Kernel3Ideal.Fr.final17 m c).symm
    · rw [Cert.Reference3Ideal.Read.val_main_v167_eq, h1]
      exact (Cert.Kernel3Ideal.Fr.final18 m c).symm
    · rw [Cert.Reference3Ideal.Read.val_main_v177_eq, h0, h1, h2, h3, h4, h5, h8]
      exact (Cert.Kernel3Ideal.Fr.final19 m c).symm
    · rw [Cert.Reference3Ideal.Read.val_main_v178_eq, h0, h1, h2, h3, h6, h7, h9]
      exact (Cert.Kernel3Ideal.Fr.final20 m c).symm
    · rw [Cert.Reference3Ideal.Read.val_main_v179_eq, h0, h2, h3, h6, h7]
      exact (Cert.Kernel3Ideal.Fr.final21 m c).symm

/-- The named constant of the front call is 1/96. -/
theorem preserves3 : Cert.preserves_Kernel3_Kernel3Ideal :=
  IdealRules.named_const.statement Cert.Kernel3Ideal.κ "inv_96" .f32 0x3C2AAAAB#32 ((1 / 96 : ℝ) : EReal) rfl

/-- The front's reference runs, leaves its arguments, and declares no semaphore. -/
theorem frame_front_ref : Cert.quiescent_Reference3Ideal := fun m g _ =>
  (θ_run Cert.Reference3Ideal.defs _ _).mono
    (fun r h => ⟨fun c => (h c).2.2.2.2.2, Idealize.ShloMosaic.sem_eq_zero_of_no_sems (by decide) r.2⟩)
    (Cert.Reference3Ideal.Value.run m g)

end Cert.Proof

end
-- ==== Proof.lean ====
/- The certificate of the attention call, of the output call and of the front call: every claim of `Cert.Claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn
public import proofs.«01_k».proof.Proof.AttFinal
public import proofs.«01_k».proof.Proof.AttPre
public import proofs.«01_k».proof.Proof.FrEnd
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention call computes the reference's result where the queries and keys are finite. -/
theorem algebraic1 : Cert.algebraic_KernelIdeal_ReferenceIdeal_pre_finite_qk (hPre_finite_qk := Cert.Pre_finite_qk.Att.facts) := by
  haveI := Cert.Pre_finite_qk.Att.facts
  pair_intro
  · run_from Cert.KernelIdeal.Gen.run_main m g
    all_goals first
      | exact Cert.KernelIdeal.Gen.V_main_arg0 m c
      | exact Cert.KernelIdeal.Gen.V_main_arg1 m c
      | exact Cert.KernelIdeal.Gen.V_main_arg2 m c
  · run_from Cert.ReferenceIdeal.Value.run m' g'
    rw [Cert.ReferenceIdeal.Read.val_main_v18_eq]
    obtain ⟨hq, hk⟩ := Cert.Pre_finite_qk.Att.reals _ _ _ (hpre c)
    exact (Cert.KernelIdeal.Att.final m c hq hk).symm

/-- The output call computes the reference's result. -/
theorem algebraic2 : Cert.algebraic_Kernel2Ideal_Reference2Ideal := by
  pair_intro
  · run_from Cert.Kernel2Ideal.Gen.run_main m g
  · run_from Cert.Reference2Ideal.Value.run m' g'
    rw [Cert.Reference2Ideal.Read.val_main_v26_eq]
    obtain ⟨h0, h1, h2, h3, h4, h5, h6, h7⟩ := hagree c
    rw [h0, h1, h2, h3, h4, h5, h6, h7]
    exact (Cert.Kernel2Ideal.Ffn.final m c).symm

/-- The attention's reference runs, leaves its arguments, and declares no semaphore. -/
theorem frame_attention_ref : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-- The same where the queries and keys are finite. -/
theorem frame_attention_ref_pre : Cert.quiescent_ReferenceIdeal_pre_finite_qk (hPre_finite_qk := Cert.Pre_finite_qk.Att.facts) := fun m g _ =>
  frame_attention_ref m g trivial

/-- The output call's reference runs, leaves its arguments, and declares no semaphore. -/
theorem frame_ffn_ref : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Pre_finite_qk.Att.facts,
    fun m ρ _ => Cert.Kernel.Gen.frame m ρ, fun m ρ _ => Cert.KernelIdeal.Gen.frame m ρ, fun m ρ _ => Cert.KernelIdeal.Gen.frame m ρ,
    frame_attention_ref, frame_attention_ref_pre,
    fun m ρ _ => Cert.Kernel2.Gen.frame m ρ, fun m ρ _ => Cert.Kernel2Ideal.Gen.frame m ρ,
    frame_ffn_ref,
    fun m ρ _ => Cert.Kernel3.Gen.frame m ρ, fun m ρ _ => Cert.Kernel3Ideal.Gen.frame m ρ,
    frame_front_ref,
    trivial, algebraic1, trivial, algebraic2, preserves3, algebraic3⟩

end Cert.Proof

end
